-- ==== Defs.lean ====
def Pre_Swa0 (m : (ℓ : Loc Cert.Swa0.nD Cert.Swa0.τ Cert.Swa0.sig) → Buf (Elt Bits) ℓ) : Prop :=
  True

def Pre_Swa0Ideal (m : (ℓ : Loc Cert.Swa0Ideal.nD Cert.Swa0Ideal.τ Cert.Swa0Ideal.sig) → Buf (Elt Ideal) ℓ) : Prop :=
  True

def Pre_Attend0Ideal (m : (ℓ : Loc Cert.Attend0Ideal.nD Cert.Attend0Ideal.τ Cert.Attend0Ideal.sig) → Buf (Elt Ideal) ℓ) : Prop :=
  True

def Pre_Swa1 (m : (ℓ : Loc Cert.Swa1.nD Cert.Swa1.τ Cert.Swa1.sig) → Buf (Elt Bits) ℓ) : Prop :=
  True

def Pre_Swa1Ideal (m : (ℓ : Loc Cert.Swa1Ideal.nD Cert.Swa1Ideal.τ Cert.Swa1Ideal.sig) → Buf (Elt Ideal) ℓ) : Prop :=
  True

def Pre_Attend1Ideal (m : (ℓ : Loc Cert.Attend1Ideal.nD Cert.Attend1Ideal.τ Cert.Attend1Ideal.sig) → Buf (Elt Ideal) ℓ) : Prop :=
  True

def Pre_Swa2 (m : (ℓ : Loc Cert.Swa2.nD Cert.Swa2.τ Cert.Swa2.sig) → Buf (Elt Bits) ℓ) : Prop :=
  True

def Pre_Swa2Ideal (m : (ℓ : Loc Cert.Swa2Ideal.nD Cert.Swa2Ideal.τ Cert.Swa2Ideal.sig) → Buf (Elt Ideal) ℓ) : Prop :=
  True

def Pre_Attend2Ideal (m : (ℓ : Loc Cert.Attend2Ideal.nD Cert.Attend2Ideal.τ Cert.Attend2Ideal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_lse [hPre_finite_lse : Cert.Pre_finite_lse.Facts] (m : (ℓ : Loc Cert.MixIdeal.nD Cert.MixIdeal.τ Cert.MixIdeal.sig) → Buf (Elt Ideal) ℓ) : Prop :=
  ∀ c : Dev Cert.MixIdeal.nD,
    (Cert.Pre_finite_lse.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_lse [hPre_finite_lse : Cert.Pre_finite_lse.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_lse.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12))) = (fun _ => 1#1)

def Pre_Peer (m : (ℓ : Loc Cert.Peer.nD Cert.Peer.τ Cert.Peer.sig) → Buf (Elt Bits) ℓ) : Prop :=
  True

def Pre_PeerIdeal (m : (ℓ : Loc Cert.PeerIdeal.nD Cert.PeerIdeal.τ Cert.PeerIdeal.sig) → Buf (Elt Ideal) ℓ) : Prop :=
  True

def Pre_PeerRefIdeal (m : (ℓ : Loc Cert.PeerRefIdeal.nD Cert.PeerRefIdeal.τ Cert.PeerRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def quiescent_Swa0 [hSwa0 : Cert.Swa0.Facts] : Prop :=
  ∀ (m : (ℓ : Loc Cert.Swa0.nD Cert.Swa0.τ Cert.Swa0.sig) → Buf (Elt Bits) ℓ) (g : Dev Cert.Swa0.nD → PrngReg), Pre_Swa0 m →
    θ_run (Cert.Swa0.defs (F := Bits)) (onTc (τ := Cert.Swa0.τ) (Cert.Swa0.main (F := Bits))) ⟨m, fun _ => 0, g⟩ (fun r => (∀ c : Dev Cert.Swa0.nD,
      r.2.mem ((c.tc : Thread Cert.Swa0.nD Cert.Swa0.τ).loc Cert.Swa0.main_arg0) = m ((c.tc : Thread Cert.Swa0.nD Cert.Swa0.τ).loc Cert.Swa0.main_arg0)
      ∧ r.2.mem ((c.tc : Thread Cert.Swa0.nD Cert.Swa0.τ).loc Cert.Swa0.main_arg1) = m ((c.tc : Thread Cert.Swa0.nD Cert.Swa0.τ).loc Cert.Swa0.main_arg1)
      ∧ r.2.mem ((c.tc : Thread Cert.Swa0.nD Cert.Swa0.τ).loc Cert.Swa0.main_arg2) = m ((c.tc : Thread Cert.Swa0.nD Cert.Swa0.τ).loc Cert.Swa0.main_arg2))
      ∧ r.2.sem = fun _ => 0)

def quiescent_Swa0Ideal [hSwa0Ideal : Cert.Swa0Ideal.Facts] : Prop :=
  ∀ (m : (ℓ : Loc Cert.Swa0Ideal.nD Cert.Swa0Ideal.τ Cert.Swa0Ideal.sig) → Buf (Elt Ideal) ℓ) (g : Dev Cert.Swa0Ideal.nD → PrngReg), Pre_Swa0Ideal m →
    θ_run (Cert.Swa0Ideal.defs (F := Ideal)) (onTc (τ := Cert.Swa0Ideal.τ) (Cert.Swa0Ideal.main (F := Ideal))) ⟨m, fun _ => 0, g⟩ (fun r => (∀ c : Dev Cert.Swa0Ideal.nD,
      r.2.mem ((c.tc : Thread Cert.Swa0Ideal.nD Cert.Swa0Ideal.τ).loc Cert.Swa0Ideal.main_arg0) = m ((c.tc : Thread Cert.Swa0Ideal.nD Cert.Swa0Ideal.τ).loc Cert.Swa0Ideal.main_arg0)
      ∧ r.2.mem ((c.tc : Thread Cert.Swa0Ideal.nD Cert.Swa0Ideal.τ).loc Cert.Swa0Ideal.main_arg1) = m ((c.tc : Thread Cert.Swa0Ideal.nD Cert.Swa0Ideal.τ).loc Cert.Swa0Ideal.main_arg1)
      ∧ r.2.mem ((c.tc : Thread Cert.Swa0Ideal.nD Cert.Swa0Ideal.τ).loc Cert.Swa0Ideal.main_arg2) = m ((c.tc : Thread Cert.Swa0Ideal.nD Cert.Swa0Ideal.τ).loc Cert.Swa0Ideal.main_arg2))
      ∧ r.2.sem = fun _ => 0)

def quiescent_Attend0Ideal [hAttend0Ideal : Cert.Attend0Ideal.Facts] : Prop :=
  ∀ (m : (ℓ : Loc Cert.Attend0Ideal.nD Cert.Attend0Ideal.τ Cert.Attend0Ideal.sig) → Buf (Elt Ideal) ℓ) (g : Dev Cert.Attend0Ideal.nD → PrngReg), Pre_Attend0Ideal m →
    θ_run (Cert.Attend0Ideal.defs (F := Ideal)) (onTc (τ := Cert.Attend0Ideal.τ) (Cert.Attend0Ideal.main (F := Ideal))) ⟨m, fun _ => 0, g⟩ (fun r => (∀ c : Dev Cert.Attend0Ideal.nD,
      r.2.mem ((c.tc : Thread Cert.Attend0Ideal.nD Cert.Attend0Ideal.τ).loc Cert.Attend0Ideal.main_arg0) = m ((c.tc : Thread Cert.Attend0Ideal.nD Cert.Attend0Ideal.τ).loc Cert.Attend0Ideal.main_arg0)
      ∧ r.2.mem ((c.tc : Thread Cert.Attend0Ideal.nD Cert.Attend0Ideal.τ).loc Cert.Attend0Ideal.main_arg1) = m ((c.tc : Thread Cert.Attend0Ideal.nD Cert.Attend0Ideal.τ).loc Cert.Attend0Ideal.main_arg1)
      ∧ r.2.mem ((c.tc : Thread Cert.Attend0Ideal.nD Cert.Attend0Ideal.τ).loc Cert.Attend0Ideal.main_arg2) = m ((c.tc : Thread Cert.Attend0Ideal.nD Cert.Attend0Ideal.τ).loc Cert.Attend0Ideal.main_arg2))
      ∧ r.2.sem = fun _ => 0)

def quiescent_Swa1 [hSwa1 : Cert.Swa1.Facts] : Prop :=
  ∀ (m : (ℓ : Loc Cert.Swa1.nD Cert.Swa1.τ Cert.Swa1.sig) → Buf (Elt Bits) ℓ) (g : Dev Cert.Swa1.nD → PrngReg), Pre_Swa1 m →
    θ_run (Cert.Swa1.defs (F := Bits)) (onTc (τ := Cert.Swa1.τ) (Cert.Swa1.main (F := Bits))) ⟨m, fun _ => 0, g⟩ (fun r => (∀ c : Dev Cert.Swa1.nD,
      r.2.mem ((c.tc : Thread Cert.Swa1.nD Cert.Swa1.τ).loc Cert.Swa1.main_arg0) = m ((c.tc : Thread Cert.Swa1.nD Cert.Swa1.τ).loc Cert.Swa1.main_arg0)
      ∧ r.2.mem ((c.tc : Thread Cert.Swa1.nD Cert.Swa1.τ).loc Cert.Swa1.main_arg1) = m ((c.tc : Thread Cert.Swa1.nD Cert.Swa1.τ).loc Cert.Swa1.main_arg1)
      ∧ r.2.mem ((c.tc : Thread Cert.Swa1.nD Cert.Swa1.τ).loc Cert.Swa1.main_arg2) = m ((c.tc : Thread Cert.Swa1.nD Cert.Swa1.τ).loc Cert.Swa1.main_arg2))
      ∧ r.2.sem = fun _ => 0)

def quiescent_Swa1Ideal [hSwa1Ideal : Cert.Swa1Ideal.Facts] : Prop :=
  ∀ (m : (ℓ : Loc Cert.Swa1Ideal.nD Cert.Swa1Ideal.τ Cert.Swa1Ideal.sig) → Buf (Elt Ideal) ℓ) (g : Dev Cert.Swa1Ideal.nD → PrngReg), Pre_Swa1Ideal m →
    θ_run (Cert.Swa1Ideal.defs (F := Ideal)) (onTc (τ := Cert.Swa1Ideal.τ) (Cert.Swa1Ideal.main (F := Ideal))) ⟨m, fun _ => 0, g⟩ (fun r => (∀ c : Dev Cert.Swa1Ideal.nD,
      r.2.mem ((c.tc : Thread Cert.Swa1Ideal.nD Cert.Swa1Ideal.τ).loc Cert.Swa1Ideal.main_arg0) = m ((c.tc : Thread Cert.Swa1Ideal.nD Cert.Swa1Ideal.τ).loc Cert.Swa1Ideal.main_arg0)
      ∧ r.2.mem ((c.tc : Thread Cert.Swa1Ideal.nD Cert.Swa1Ideal.τ).loc Cert.Swa1Ideal.main_arg1) = m ((c.tc : Thread Cert.Swa1Ideal.nD Cert.Swa1Ideal.τ).loc Cert.Swa1Ideal.main_arg1)
      ∧ r.2.mem ((c.tc : Thread Cert.Swa1Ideal.nD Cert.Swa1Ideal.τ).loc Cert.Swa1Ideal.main_arg2) = m ((c.tc : Thread Cert.Swa1Ideal.nD Cert.Swa1Ideal.τ).loc Cert.Swa1Ideal.main_arg2))
      ∧ r.2.sem = fun _ => 0)

def quiescent_Attend1Ideal [hAttend1Ideal : Cert.Attend1Ideal.Facts] : Prop :=
  ∀ (m : (ℓ : Loc Cert.Attend1Ideal.nD Cert.Attend1Ideal.τ Cert.Attend1Ideal.sig) → Buf (Elt Ideal) ℓ) (g : Dev Cert.Attend1Ideal.nD → PrngReg), Pre_Attend1Ideal m →
    θ_run (Cert.Attend1Ideal.defs (F := Ideal)) (onTc (τ := Cert.Attend1Ideal.τ) (Cert.Attend1Ideal.main (F := Ideal))) ⟨m, fun _ => 0, g⟩ (fun r => (∀ c : Dev Cert.Attend1Ideal.nD,
      r.2.mem ((c.tc : Thread Cert.Attend1Ideal.nD Cert.Attend1Ideal.τ).loc Cert.Attend1Ideal.main_arg0) = m ((c.tc : Thread Cert.Attend1Ideal.nD Cert.Attend1Ideal.τ).loc Cert.Attend1Ideal.main_arg0)
      ∧ r.2.mem ((c.tc : Thread Cert.Attend1Ideal.nD Cert.Attend1Ideal.τ).loc Cert.Attend1Ideal.main_arg1) = m ((c.tc : Thread Cert.Attend1Ideal.nD Cert.Attend1Ideal.τ).loc Cert.Attend1Ideal.main_arg1)
      ∧ r.2.mem ((c.tc : Thread Cert.Attend1Ideal.nD Cert.Attend1Ideal.τ).loc Cert.Attend1Ideal.main_arg2) = m ((c.tc : Thread Cert.Attend1Ideal.nD Cert.Attend1Ideal.τ).loc Cert.Attend1Ideal.main_arg2))
      ∧ r.2.sem = fun _ => 0)

def quiescent_Swa2 [hSwa2 : Cert.Swa2.Facts] : Prop :=
  ∀ (m : (ℓ : Loc Cert.Swa2.nD Cert.Swa2.τ Cert.Swa2.sig) → Buf (Elt Bits) ℓ) (g : Dev Cert.Swa2.nD → PrngReg), Pre_Swa2 m →
    θ_run (Cert.Swa2.defs (F := Bits)) (onTc (τ := Cert.Swa2.τ) (Cert.Swa2.main (F := Bits))) ⟨m, fun _ => 0, g⟩ (fun r => (∀ c : Dev Cert.Swa2.nD,
      r.2.mem ((c.tc : Thread Cert.Swa2.nD Cert.Swa2.τ).loc Cert.Swa2.main_arg0) = m ((c.tc : Thread Cert.Swa2.nD Cert.Swa2.τ).loc Cert.Swa2.main_arg0)
      ∧ r.2.mem ((c.tc : Thread Cert.Swa2.nD Cert.Swa2.τ).loc Cert.Swa2.main_arg1) = m ((c.tc : Thread Cert.Swa2.nD Cert.Swa2.τ).loc Cert.Swa2.main_arg1)
      ∧ r.2.mem ((c.tc : Thread Cert.Swa2.nD Cert.Swa2.τ).loc Cert.Swa2.main_arg2) = m ((c.tc : Thread Cert.Swa2.nD Cert.Swa2.τ).loc Cert.Swa2.main_arg2))
      ∧ r.2.sem = fun _ => 0)

def quiescent_Swa2Ideal [hSwa2Ideal : Cert.Swa2Ideal.Facts] : Prop :=
  ∀ (m : (ℓ : Loc Cert.Swa2Ideal.nD Cert.Swa2Ideal.τ Cert.Swa2Ideal.sig) → Buf (Elt Ideal) ℓ) (g : Dev Cert.Swa2Ideal.nD → PrngReg), Pre_Swa2Ideal m →
    θ_run (Cert.Swa2Ideal.defs (F := Ideal)) (onTc (τ := Cert.Swa2Ideal.τ) (Cert.Swa2Ideal.main (F := Ideal))) ⟨m, fun _ => 0, g⟩ (fun r => (∀ c : Dev Cert.Swa2Ideal.nD,
      r.2.mem ((c.tc : Thread Cert.Swa2Ideal.nD Cert.Swa2Ideal.τ).loc Cert.Swa2Ideal.main_arg0) = m ((c.tc : Thread Cert.Swa2Ideal.nD Cert.Swa2Ideal.τ).loc Cert.Swa2Ideal.main_arg0)
      ∧ r.2.mem ((c.tc : Thread Cert.Swa2Ideal.nD Cert.Swa2Ideal.τ).loc Cert.Swa2Ideal.main_arg1) = m ((c.tc : Thread Cert.Swa2Ideal.nD Cert.Swa2Ideal.τ).loc Cert.Swa2Ideal.main_arg1)
      ∧ r.2.mem ((c.tc : Thread Cert.Swa2Ideal.nD Cert.Swa2Ideal.τ).loc Cert.Swa2Ideal.main_arg2) = m ((c.tc : Thread Cert.Swa2Ideal.nD Cert.Swa2Ideal.τ).loc Cert.Swa2Ideal.main_arg2))
      ∧ r.2.sem = fun _ => 0)

def quiescent_Attend2Ideal [hAttend2Ideal : Cert.Attend2Ideal.Facts] : Prop :=
  ∀ (m : (ℓ : Loc Cert.Attend2Ideal.nD Cert.Attend2Ideal.τ Cert.Attend2Ideal.sig) → Buf (Elt Ideal) ℓ) (g : Dev Cert.Attend2Ideal.nD → PrngReg), Pre_Attend2Ideal m →
    θ_run (Cert.Attend2Ideal.defs (F := Ideal)) (onTc (τ := Cert.Attend2Ideal.τ) (Cert.Attend2Ideal.main (F := Ideal))) ⟨m, fun _ => 0, g⟩ (fun r => (∀ c : Dev Cert.Attend2Ideal.nD,
      r.2.mem ((c.tc : Thread Cert.Attend2Ideal.nD Cert.Attend2Ideal.τ).loc Cert.Attend2Ideal.main_arg0) = m ((c.tc : Thread Cert.Attend2Ideal.nD Cert.Attend2Ideal.τ).loc Cert.Attend2Ideal.main_arg0)
      ∧ r.2.mem ((c.tc : Thread Cert.Attend2Ideal.nD Cert.Attend2Ideal.τ).loc Cert.Attend2Ideal.main_arg1) = m ((c.tc : Thread Cert.Attend2Ideal.nD Cert.Attend2Ideal.τ).loc Cert.Attend2Ideal.main_arg1)
      ∧ r.2.mem ((c.tc : Thread Cert.Attend2Ideal.nD Cert.Attend2Ideal.τ).loc Cert.Attend2Ideal.main_arg2) = m ((c.tc : Thread Cert.Attend2Ideal.nD Cert.Attend2Ideal.τ).loc Cert.Attend2Ideal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixIdeal_pre_finite_lse [hMixIdeal : Cert.MixIdeal.Facts] [hPre_finite_lse : Cert.Pre_finite_lse.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_lse m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_MixRefIdeal_pre_finite_lse [hMixRefIdeal : Cert.MixRefIdeal.Facts] [hPre_finite_lse : Cert.Pre_finite_lse.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_lse m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_Peer [hPeer : Cert.Peer.Facts] : Prop :=
  ∀ (m : (ℓ : Loc Cert.Peer.nD Cert.Peer.τ Cert.Peer.sig) → Buf (Elt Bits) ℓ) (g : Dev Cert.Peer.nD → PrngReg), Pre_Peer m →
    θ_run (Cert.Peer.defs (F := Bits)) (onTc (τ := Cert.Peer.τ) (Cert.Peer.main (F := Bits))) ⟨m, fun _ => 0, g⟩ (fun r => (∀ c : Dev Cert.Peer.nD,
      r.2.mem ((c.tc : Thread Cert.Peer.nD Cert.Peer.τ).loc Cert.Peer.main_arg0) = m ((c.tc : Thread Cert.Peer.nD Cert.Peer.τ).loc Cert.Peer.main_arg0)
      ∧ r.2.mem ((c.tc : Thread Cert.Peer.nD Cert.Peer.τ).loc Cert.Peer.main_arg1) = m ((c.tc : Thread Cert.Peer.nD Cert.Peer.τ).loc Cert.Peer.main_arg1))
      ∧ r.2.sem = fun _ => 0)

def quiescent_PeerIdeal [hPeerIdeal : Cert.PeerIdeal.Facts] : Prop :=
  ∀ (m : (ℓ : Loc Cert.PeerIdeal.nD Cert.PeerIdeal.τ Cert.PeerIdeal.sig) → Buf (Elt Ideal) ℓ) (g : Dev Cert.PeerIdeal.nD → PrngReg), Pre_PeerIdeal m →
    θ_run (Cert.PeerIdeal.defs (F := Ideal)) (onTc (τ := Cert.PeerIdeal.τ) (Cert.PeerIdeal.main (F := Ideal))) ⟨m, fun _ => 0, g⟩ (fun r => (∀ c : Dev Cert.PeerIdeal.nD,
      r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
      ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1))
      ∧ r.2.sem = fun _ => 0)

def quiescent_PeerRefIdeal [hPeerRefIdeal : Cert.PeerRefIdeal.Facts] : Prop :=
  ∀ (m : (ℓ : Loc Cert.PeerRefIdeal.nD Cert.PeerRefIdeal.τ Cert.PeerRefIdeal.sig) → Buf (Elt Ideal) ℓ) (g : Dev Cert.PeerRefIdeal.nD → PrngReg), Pre_PeerRefIdeal m →
    θ_run (Cert.PeerRefIdeal.defs (F := Ideal)) (onTc (τ := Cert.PeerRefIdeal.τ) (Cert.PeerRefIdeal.main (F := Ideal))) ⟨m, fun _ => 0, g⟩ (fun r => (∀ c : Dev Cert.PeerRefIdeal.nD,
      r.2.mem ((c.tc : Thread Cert.PeerRefIdeal.nD Cert.PeerRefIdeal.τ).loc Cert.PeerRefIdeal.main_arg0) = m ((c.tc : Thread Cert.PeerRefIdeal.nD Cert.PeerRefIdeal.τ).loc Cert.PeerRefIdeal.main_arg0)
      ∧ r.2.mem ((c.tc : Thread Cert.PeerRefIdeal.nD Cert.PeerRefIdeal.τ).loc Cert.PeerRefIdeal.main_arg1) = m ((c.tc : Thread Cert.PeerRefIdeal.nD Cert.PeerRefIdeal.τ).loc Cert.PeerRefIdeal.main_arg1))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6))
      ∧ r.2.sem = fun _ => 0)

def preserves_Swa0_Swa0Ideal : Prop :=
  IdealRules.named_const.Statement Cert.Swa0Ideal.κ "mask" .f32 0xF149F2CA#32 ⊥

def algebraic_Swa0Ideal_Attend0Ideal [hSwa0Ideal : Cert.Swa0Ideal.Facts] [hAttend0Ideal : Cert.Attend0Ideal.Facts] : Prop :=
  ∀ (m : (ℓ : Loc Cert.Swa0Ideal.nD Cert.Swa0Ideal.τ Cert.Swa0Ideal.sig) → Buf (Elt Ideal) ℓ) (g : Dev Cert.Swa0Ideal.nD → PrngReg)
    (m' : (ℓ : Loc Cert.Attend0Ideal.nD Cert.Attend0Ideal.τ Cert.Attend0Ideal.sig) → Buf (Elt Ideal) ℓ) (g' : Dev Cert.Attend0Ideal.nD → PrngReg), Pre_Swa0Ideal m →
    (∀ c : Dev Cert.Swa0Ideal.nD,
      m' ((c.tc : Thread Cert.Attend0Ideal.nD Cert.Attend0Ideal.τ).loc Cert.Attend0Ideal.main_arg0) = m ((c.tc : Thread Cert.Swa0Ideal.nD Cert.Swa0Ideal.τ).loc Cert.Swa0Ideal.main_arg0)
      ∧ m' ((c.tc : Thread Cert.Attend0Ideal.nD Cert.Attend0Ideal.τ).loc Cert.Attend0Ideal.main_arg1) = m ((c.tc : Thread Cert.Swa0Ideal.nD Cert.Swa0Ideal.τ).loc Cert.Swa0Ideal.main_arg1)
      ∧ m' ((c.tc : Thread Cert.Attend0Ideal.nD Cert.Attend0Ideal.τ).loc Cert.Attend0Ideal.main_arg2) = m ((c.tc : Thread Cert.Swa0Ideal.nD Cert.Swa0Ideal.τ).loc Cert.Swa0Ideal.main_arg2)) →
    ∃ (v0 : (c : Dev Cert.Swa0Ideal.nD) → Buf (Elt Ideal) ((c.tc : Thread Cert.Swa0Ideal.nD Cert.Swa0Ideal.τ).loc Cert.Swa0Ideal.main_v0_0)) (v1 : (c : Dev Cert.Swa0Ideal.nD) → Buf (Elt Ideal) ((c.tc : Thread Cert.Swa0Ideal.nD Cert.Swa0Ideal.τ).loc Cert.Swa0Ideal.main_v0_1)),
      θ_run (Cert.Swa0Ideal.defs (F := Ideal)) (onTc (τ := Cert.Swa0Ideal.τ) (Cert.Swa0Ideal.main (F := Ideal))) ⟨m, fun _ => 0, g⟩ (fun r => ∀ c : Dev Cert.Swa0Ideal.nD,
          r.2.mem ((c.tc : Thread Cert.Swa0Ideal.nD Cert.Swa0Ideal.τ).loc Cert.Swa0Ideal.main_v0_0) = v0 c
          ∧ r.2.mem ((c.tc : Thread Cert.Swa0Ideal.nD Cert.Swa0Ideal.τ).loc Cert.Swa0Ideal.main_v0_1) = v1 c
          ∧ r.2.mem ((c.tc : Thread Cert.Swa0Ideal.nD Cert.Swa0Ideal.τ).loc Cert.Swa0Ideal.main_arg0) = m ((c.tc : Thread Cert.Swa0Ideal.nD Cert.Swa0Ideal.τ).loc Cert.Swa0Ideal.main_arg0)
          ∧ r.2.mem ((c.tc : Thread Cert.Swa0Ideal.nD Cert.Swa0Ideal.τ).loc Cert.Swa0Ideal.main_arg1) = m ((c.tc : Thread Cert.Swa0Ideal.nD Cert.Swa0Ideal.τ).loc Cert.Swa0Ideal.main_arg1)
          ∧ r.2.mem ((c.tc : Thread Cert.Swa0Ideal.nD Cert.Swa0Ideal.τ).loc Cert.Swa0Ideal.main_arg2) = m ((c.tc : Thread Cert.Swa0Ideal.nD Cert.Swa0Ideal.τ).loc Cert.Swa0Ideal.main_arg2))
      ∧ θ_run (Cert.Attend0Ideal.defs (F := Ideal)) (onTc (τ := Cert.Attend0Ideal.τ) (Cert.Attend0Ideal.main (F := Ideal))) ⟨m', fun _ => 0, g'⟩ (fun r => ∀ c : Dev Cert.Attend0Ideal.nD,
          r.2.mem ((c.tc : Thread Cert.Attend0Ideal.nD Cert.Attend0Ideal.τ).loc Cert.Attend0Ideal.main_v45) = v0 c
          ∧ r.2.mem ((c.tc : Thread Cert.Attend0Ideal.nD Cert.Attend0Ideal.τ).loc Cert.Attend0Ideal.main_v46) = v1 c
          ∧ r.2.mem ((c.tc : Thread Cert.Attend0Ideal.nD Cert.Attend0Ideal.τ).loc Cert.Attend0Ideal.main_arg0) = m' ((c.tc : Thread Cert.Attend0Ideal.nD Cert.Attend0Ideal.τ).loc Cert.Attend0Ideal.main_arg0)
          ∧ r.2.mem ((c.tc : Thread Cert.Attend0Ideal.nD Cert.Attend0Ideal.τ).loc Cert.Attend0Ideal.main_arg1) = m' ((c.tc : Thread Cert.Attend0Ideal.nD Cert.Attend0Ideal.τ).loc Cert.Attend0Ideal.main_arg1)
          ∧ r.2.mem ((c.tc : Thread Cert.Attend0Ideal.nD Cert.Attend0Ideal.τ).loc Cert.Attend0Ideal.main_arg2) = m' ((c.tc : Thread Cert.Attend0Ideal.nD Cert.Attend0Ideal.τ).loc Cert.Attend0Ideal.main_arg2))

def preserves_Swa1_Swa1Ideal : Prop :=
  IdealRules.named_const.Statement Cert.Swa1Ideal.κ "mask" .f32 0xF149F2CA#32 ⊥

def algebraic_Swa1Ideal_Attend1Ideal [hSwa1Ideal : Cert.Swa1Ideal.Facts] [hAttend1Ideal : Cert.Attend1Ideal.Facts] : Prop :=
  ∀ (m : (ℓ : Loc Cert.Swa1Ideal.nD Cert.Swa1Ideal.τ Cert.Swa1Ideal.sig) → Buf (Elt Ideal) ℓ) (g : Dev Cert.Swa1Ideal.nD → PrngReg)
    (m' : (ℓ : Loc Cert.Attend1Ideal.nD Cert.Attend1Ideal.τ Cert.Attend1Ideal.sig) → Buf (Elt Ideal) ℓ) (g' : Dev Cert.Attend1Ideal.nD → PrngReg), Pre_Swa1Ideal m →
    (∀ c : Dev Cert.Swa1Ideal.nD,
      m' ((c.tc : Thread Cert.Attend1Ideal.nD Cert.Attend1Ideal.τ).loc Cert.Attend1Ideal.main_arg0) = m ((c.tc : Thread Cert.Swa1Ideal.nD Cert.Swa1Ideal.τ).loc Cert.Swa1Ideal.main_arg0)
      ∧ m' ((c.tc : Thread Cert.Attend1Ideal.nD Cert.Attend1Ideal.τ).loc Cert.Attend1Ideal.main_arg1) = m ((c.tc : Thread Cert.Swa1Ideal.nD Cert.Swa1Ideal.τ).loc Cert.Swa1Ideal.main_arg1)
      ∧ m' ((c.tc : Thread Cert.Attend1Ideal.nD Cert.Attend1Ideal.τ).loc Cert.Attend1Ideal.main_arg2) = m ((c.tc : Thread Cert.Swa1Ideal.nD Cert.Swa1Ideal.τ).loc Cert.Swa1Ideal.main_arg2)) →
    ∃ (v0 : (c : Dev Cert.Swa1Ideal.nD) → Buf (Elt Ideal) ((c.tc : Thread Cert.Swa1Ideal.nD Cert.Swa1Ideal.τ).loc Cert.Swa1Ideal.main_v3_0)) (v1 : (c : Dev Cert.Swa1Ideal.nD) → Buf (Elt Ideal) ((c.tc : Thread Cert.Swa1Ideal.nD Cert.Swa1Ideal.τ).loc Cert.Swa1Ideal.main_v3_1)),
      θ_run (Cert.Swa1Ideal.defs (F := Ideal)) (onTc (τ := Cert.Swa1Ideal.τ) (Cert.Swa1Ideal.main (F := Ideal))) ⟨m, fun _ => 0, g⟩ (fun r => ∀ c : Dev Cert.Swa1Ideal.nD,
          r.2.mem ((c.tc : Thread Cert.Swa1Ideal.nD Cert.Swa1Ideal.τ).loc Cert.Swa1Ideal.main_v3_0) = v0 c
          ∧ r.2.mem ((c.tc : Thread Cert.Swa1Ideal.nD Cert.Swa1Ideal.τ).loc Cert.Swa1Ideal.main_v3_1) = v1 c
          ∧ r.2.mem ((c.tc : Thread Cert.Swa1Ideal.nD Cert.Swa1Ideal.τ).loc Cert.Swa1Ideal.main_arg0) = m ((c.tc : Thread Cert.Swa1Ideal.nD Cert.Swa1Ideal.τ).loc Cert.Swa1Ideal.main_arg0)
          ∧ r.2.mem ((c.tc : Thread Cert.Swa1Ideal.nD Cert.Swa1Ideal.τ).loc Cert.Swa1Ideal.main_arg1) = m ((c.tc : Thread Cert.Swa1Ideal.nD Cert.Swa1Ideal.τ).loc Cert.Swa1Ideal.main_arg1)
          ∧ r.2.mem ((c.tc : Thread Cert.Swa1Ideal.nD Cert.Swa1Ideal.τ).loc Cert.Swa1Ideal.main_arg2) = m ((c.tc : Thread Cert.Swa1Ideal.nD Cert.Swa1Ideal.τ).loc Cert.Swa1Ideal.main_arg2))
      ∧ θ_run (Cert.Attend1Ideal.defs (F := Ideal)) (onTc (τ := Cert.Attend1Ideal.τ) (Cert.Attend1Ideal.main (F := Ideal))) ⟨m', fun _ => 0, g'⟩ (fun r => ∀ c : Dev Cert.Attend1Ideal.nD,
          r.2.mem ((c.tc : Thread Cert.Attend1Ideal.nD Cert.Attend1Ideal.τ).loc Cert.Attend1Ideal.main_v45) = v0 c
          ∧ r.2.mem ((c.tc : Thread Cert.Attend1Ideal.nD Cert.Attend1Ideal.τ).loc Cert.Attend1Ideal.main_v46) = v1 c
          ∧ r.2.mem ((c.tc : Thread Cert.Attend1Ideal.nD Cert.Attend1Ideal.τ).loc Cert.Attend1Ideal.main_arg0) = m' ((c.tc : Thread Cert.Attend1Ideal.nD Cert.Attend1Ideal.τ).loc Cert.Attend1Ideal.main_arg0)
          ∧ r.2.mem ((c.tc : Thread Cert.Attend1Ideal.nD Cert.Attend1Ideal.τ).loc Cert.Attend1Ideal.main_arg1) = m' ((c.tc : Thread Cert.Attend1Ideal.nD Cert.Attend1Ideal.τ).loc Cert.Attend1Ideal.main_arg1)
          ∧ r.2.mem ((c.tc : Thread Cert.Attend1Ideal.nD Cert.Attend1Ideal.τ).loc Cert.Attend1Ideal.main_arg2) = m' ((c.tc : Thread Cert.Attend1Ideal.nD Cert.Attend1Ideal.τ).loc Cert.Attend1Ideal.main_arg2))

def preserves_Swa2_Swa2Ideal : Prop :=
  IdealRules.named_const.Statement Cert.Swa2Ideal.κ "mask" .f32 0xF149F2CA#32 ⊥

def algebraic_Swa2Ideal_Attend2Ideal [hSwa2Ideal : Cert.Swa2Ideal.Facts] [hAttend2Ideal : Cert.Attend2Ideal.Facts] : Prop :=
  ∀ (m : (ℓ : Loc Cert.Swa2Ideal.nD Cert.Swa2Ideal.τ Cert.Swa2Ideal.sig) → Buf (Elt Ideal) ℓ) (g : Dev Cert.Swa2Ideal.nD → PrngReg)
    (m' : (ℓ : Loc Cert.Attend2Ideal.nD Cert.Attend2Ideal.τ Cert.Attend2Ideal.sig) → Buf (Elt Ideal) ℓ) (g' : Dev Cert.Attend2Ideal.nD → PrngReg), Pre_Swa2Ideal m →
    (∀ c : Dev Cert.Swa2Ideal.nD,
      m' ((c.tc : Thread Cert.Attend2Ideal.nD Cert.Attend2Ideal.τ).loc Cert.Attend2Ideal.main_arg0) = m ((c.tc : Thread Cert.Swa2Ideal.nD Cert.Swa2Ideal.τ).loc Cert.Swa2Ideal.main_arg0)
      ∧ m' ((c.tc : Thread Cert.Attend2Ideal.nD Cert.Attend2Ideal.τ).loc Cert.Attend2Ideal.main_arg1) = m ((c.tc : Thread Cert.Swa2Ideal.nD Cert.Swa2Ideal.τ).loc Cert.Swa2Ideal.main_arg1)
      ∧ m' ((c.tc : Thread Cert.Attend2Ideal.nD Cert.Attend2Ideal.τ).loc Cert.Attend2Ideal.main_arg2) = m ((c.tc : Thread Cert.Swa2Ideal.nD Cert.Swa2Ideal.τ).loc Cert.Swa2Ideal.main_arg2)) →
    ∃ (v0 : (c : Dev Cert.Swa2Ideal.nD) → Buf (Elt Ideal) ((c.tc : Thread Cert.Swa2Ideal.nD Cert.Swa2Ideal.τ).loc Cert.Swa2Ideal.main_v3_0)) (v1 : (c : Dev Cert.Swa2Ideal.nD) → Buf (Elt Ideal) ((c.tc : Thread Cert.Swa2Ideal.nD Cert.Swa2Ideal.τ).loc Cert.Swa2Ideal.main_v3_1)),
      θ_run (Cert.Swa2Ideal.defs (F := Ideal)) (onTc (τ := Cert.Swa2Ideal.τ) (Cert.Swa2Ideal.main (F := Ideal))) ⟨m, fun _ => 0, g⟩ (fun r => ∀ c : Dev Cert.Swa2Ideal.nD,
          r.2.mem ((c.tc : Thread Cert.Swa2Ideal.nD Cert.Swa2Ideal.τ).loc Cert.Swa2Ideal.main_v3_0) = v0 c
          ∧ r.2.mem ((c.tc : Thread Cert.Swa2Ideal.nD Cert.Swa2Ideal.τ).loc Cert.Swa2Ideal.main_v3_1) = v1 c
          ∧ r.2.mem ((c.tc : Thread Cert.Swa2Ideal.nD Cert.Swa2Ideal.τ).loc Cert.Swa2Ideal.main_arg0) = m ((c.tc : Thread Cert.Swa2Ideal.nD Cert.Swa2Ideal.τ).loc Cert.Swa2Ideal.main_arg0)
          ∧ r.2.mem ((c.tc : Thread Cert.Swa2Ideal.nD Cert.Swa2Ideal.τ).loc Cert.Swa2Ideal.main_arg1) = m ((c.tc : Thread Cert.Swa2Ideal.nD Cert.Swa2Ideal.τ).loc Cert.Swa2Ideal.main_arg1)
          ∧ r.2.mem ((c.tc : Thread Cert.Swa2Ideal.nD Cert.Swa2Ideal.τ).loc Cert.Swa2Ideal.main_arg2) = m ((c.tc : Thread Cert.Swa2Ideal.nD Cert.Swa2Ideal.τ).loc Cert.Swa2Ideal.main_arg2))
      ∧ θ_run (Cert.Attend2Ideal.defs (F := Ideal)) (onTc (τ := Cert.Attend2Ideal.τ) (Cert.Attend2Ideal.main (F := Ideal))) ⟨m', fun _ => 0, g'⟩ (fun r => ∀ c : Dev Cert.Attend2Ideal.nD,
          r.2.mem ((c.tc : Thread Cert.Attend2Ideal.nD Cert.Attend2Ideal.τ).loc Cert.Attend2Ideal.main_v45) = v0 c
          ∧ r.2.mem ((c.tc : Thread Cert.Attend2Ideal.nD Cert.Attend2Ideal.τ).loc Cert.Attend2Ideal.main_v46) = v1 c
          ∧ r.2.mem ((c.tc : Thread Cert.Attend2Ideal.nD Cert.Attend2Ideal.τ).loc Cert.Attend2Ideal.main_arg0) = m' ((c.tc : Thread Cert.Attend2Ideal.nD Cert.Attend2Ideal.τ).loc Cert.Attend2Ideal.main_arg0)
          ∧ r.2.mem ((c.tc : Thread Cert.Attend2Ideal.nD Cert.Attend2Ideal.τ).loc Cert.Attend2Ideal.main_arg1) = m' ((c.tc : Thread Cert.Attend2Ideal.nD Cert.Attend2Ideal.τ).loc Cert.Attend2Ideal.main_arg1)
          ∧ r.2.mem ((c.tc : Thread Cert.Attend2Ideal.nD Cert.Attend2Ideal.τ).loc Cert.Attend2Ideal.main_arg2) = m' ((c.tc : Thread Cert.Attend2Ideal.nD Cert.Attend2Ideal.τ).loc Cert.Attend2Ideal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v8)) (v1 : (c : Dev Cert.ProjIdeal.nD) → Buf (Elt Ideal) ((c.tc : Thread Cert.ProjIdeal.nD Cert.ProjIdeal.τ).loc Cert.ProjIdeal.main_v31_0)) (v2 : (c : Dev Cert.ProjIdeal.nD) → Buf (Elt Ideal) ((c.tc : Thread Cert.ProjIdeal.nD Cert.ProjIdeal.τ).loc Cert.ProjIdeal.main_v31_1)) (v3 : (c : Dev Cert.ProjIdeal.nD) → Buf (Elt Ideal) ((c.tc : Thread Cert.ProjIdeal.nD Cert.ProjIdeal.τ).loc Cert.ProjIdeal.main_v34)) (v4 : (c : Dev Cert.ProjIdeal.nD) → Buf (Elt Ideal) ((c.tc : Thread Cert.ProjIdeal.nD Cert.ProjIdeal.τ).loc Cert.ProjIdeal.main_v41)) (v5 : (c : Dev Cert.ProjIdeal.nD) → Buf (Elt Ideal) ((c.tc : Thread Cert.ProjIdeal.nD Cert.ProjIdeal.τ).loc Cert.ProjIdeal.main_v48)) (v6 : (c : Dev Cert.ProjIdeal.nD) → Buf (Elt Ideal) ((c.tc : Thread Cert.ProjIdeal.nD Cert.ProjIdeal.τ).loc Cert.ProjIdeal.main_v55)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8) = v0 c
          ∧ r.2.mem ((c.tc : Thread Cert.ProjIdeal.nD Cert.ProjIdeal.τ).loc Cert.ProjIdeal.main_v31_0) = v1 c
          ∧ r.2.mem ((c.tc : Thread Cert.ProjIdeal.nD Cert.ProjIdeal.τ).loc Cert.ProjIdeal.main_v31_1) = v2 c
          ∧ r.2.mem ((c.tc : Thread Cert.ProjIdeal.nD Cert.ProjIdeal.τ).loc Cert.ProjIdeal.main_v34) = v3 c
          ∧ r.2.mem ((c.tc : Thread Cert.ProjIdeal.nD Cert.ProjIdeal.τ).loc Cert.ProjIdeal.main_v41) = v4 c
          ∧ r.2.mem ((c.tc : Thread Cert.ProjIdeal.nD Cert.ProjIdeal.τ).loc Cert.ProjIdeal.main_v48) = v5 c
          ∧ r.2.mem ((c.tc : Thread Cert.ProjIdeal.nD Cert.ProjIdeal.τ).loc Cert.ProjIdeal.main_v55) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v122) = v0 c
          ∧ r.2.mem ((c.tc : Thread Cert.ProjRefIdeal.nD Cert.ProjRefIdeal.τ).loc Cert.ProjRefIdeal.main_v123) = v1 c
          ∧ r.2.mem ((c.tc : Thread Cert.ProjRefIdeal.nD Cert.ProjRefIdeal.τ).loc Cert.ProjRefIdeal.main_v124) = v2 c
          ∧ r.2.mem ((c.tc : Thread Cert.ProjRefIdeal.nD Cert.ProjRefIdeal.τ).loc Cert.ProjRefIdeal.main_v96) = v3 c
          ∧ r.2.mem ((c.tc : Thread Cert.ProjRefIdeal.nD Cert.ProjRefIdeal.τ).loc Cert.ProjRefIdeal.main_v104) = v4 c
          ∧ r.2.mem ((c.tc : Thread Cert.ProjRefIdeal.nD Cert.ProjRefIdeal.τ).loc Cert.ProjRefIdeal.main_v112) = v5 c
          ∧ r.2.mem ((c.tc : Thread Cert.ProjRefIdeal.nD Cert.ProjRefIdeal.τ).loc Cert.ProjRefIdeal.main_v120) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mix_MixIdeal : Prop :=
  True

def algebraic_MixIdeal_MixRefIdeal_pre_finite_lse [hMixIdeal : Cert.MixIdeal.Facts] [hMixRefIdeal : Cert.MixRefIdeal.Facts] [hPre_finite_lse : Cert.Pre_finite_lse.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_lse m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v4_0)) (v1 : (c : Dev Cert.MixIdeal.nD) → Buf (Elt Ideal) ((c.tc : Thread Cert.MixIdeal.nD Cert.MixIdeal.τ).loc Cert.MixIdeal.main_v4_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4_0) = v0 c
          ∧ r.2.mem ((c.tc : Thread Cert.MixIdeal.nD Cert.MixIdeal.τ).loc Cert.MixIdeal.main_v4_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v41) = v0 c
          ∧ r.2.mem ((c.tc : Thread Cert.MixRefIdeal.nD Cert.MixRefIdeal.τ).loc Cert.MixRefIdeal.main_v54) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def preserves_Peer_PeerIdeal : Prop :=
  True

def algebraic_PeerIdeal_PeerRefIdeal [hPeerIdeal : Cert.PeerIdeal.Facts] [hPeerRefIdeal : Cert.PeerRefIdeal.Facts] : Prop :=
  ∀ (m : (ℓ : Loc Cert.PeerIdeal.nD Cert.PeerIdeal.τ Cert.PeerIdeal.sig) → Buf (Elt Ideal) ℓ) (g : Dev Cert.PeerIdeal.nD → PrngReg)
    (m' : (ℓ : Loc Cert.PeerRefIdeal.nD Cert.PeerRefIdeal.τ Cert.PeerRefIdeal.sig) → Buf (Elt Ideal) ℓ) (g' : Dev Cert.PeerRefIdeal.nD → PrngReg), Pre_PeerIdeal m →
    (∀ c : Dev Cert.PeerIdeal.nD,
      m' ((c.tc : Thread Cert.PeerRefIdeal.nD Cert.PeerRefIdeal.τ).loc Cert.PeerRefIdeal.main_arg0) = m ((c.tc : Thread Cert.PeerIdeal.nD Cert.PeerIdeal.τ).loc Cert.PeerIdeal.main_arg0)
      ∧ m' ((c.tc : Thread Cert.PeerRefIdeal.nD Cert.PeerRefIdeal.τ).loc Cert.PeerRefIdeal.main_arg1) = m ((c.tc : Thread Cert.PeerIdeal.nD Cert.PeerIdeal.τ).loc Cert.PeerIdeal.main_arg1)) →
    ∃ (v0 : (c : Dev Cert.PeerIdeal.nD) → Buf (Elt Ideal) ((c.tc : Thread Cert.PeerIdeal.nD Cert.PeerIdeal.τ).loc Cert.PeerIdeal.main_v1)),
      θ_run (Cert.PeerIdeal.defs (F := Ideal)) (onTc (τ := Cert.PeerIdeal.τ) (Cert.PeerIdeal.main (F := Ideal))) ⟨m, fun _ => 0, g⟩ (fun r => ∀ c : Dev Cert.PeerIdeal.nD,
          r.2.mem ((c.tc : Thread Cert.PeerIdeal.nD Cert.PeerIdeal.τ).loc Cert.PeerIdeal.main_v1) = v0 c
          ∧ r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
          ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1))
      ∧ θ_run (Cert.PeerRefIdeal.defs (F := Ideal)) (onTc (τ := Cert.PeerRefIdeal.τ) (Cert.PeerRefIdeal.main (F := Ideal))) ⟨m', fun _ => 0, g'⟩ (fun r => ∀ c : Dev Cert.PeerRefIdeal.nD,
          r.2.mem ((c.tc : Thread Cert.PeerRefIdeal.nD Cert.PeerRefIdeal.τ).loc Cert.PeerRefIdeal.main_v0) = v0 c
          ∧ r.2.mem ((c.tc : Thread Cert.PeerRefIdeal.nD Cert.PeerRefIdeal.τ).loc Cert.PeerRefIdeal.main_arg0) = m' ((c.tc : Thread Cert.PeerRefIdeal.nD Cert.PeerRefIdeal.τ).loc Cert.PeerRefIdeal.main_arg0)
          ∧ r.2.mem ((c.tc : Thread Cert.PeerRefIdeal.nD Cert.PeerRefIdeal.τ).loc Cert.PeerRefIdeal.main_arg1) = m' ((c.tc : Thread Cert.PeerRefIdeal.nD Cert.PeerRefIdeal.τ).loc Cert.PeerRefIdeal.main_arg1))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)) →
    ∃ (v0 : (c : Dev Cert.StepIdeal.nD) → Buf (Elt Ideal) ((c.tc : Thread Cert.StepIdeal.nD Cert.StepIdeal.τ).loc Cert.StepIdeal.main_v43)) (v1 : (c : Dev Cert.StepIdeal.nD) → Buf (Elt Ideal) ((c.tc : Thread Cert.StepIdeal.nD Cert.StepIdeal.τ).loc Cert.StepIdeal.main_v52)) (v2 : (c : Dev Cert.StepIdeal.nD) → Buf (Elt Ideal) ((c.tc : Thread Cert.StepIdeal.nD Cert.StepIdeal.τ).loc Cert.StepIdeal.main_v61)) (v3 : (c : Dev Cert.StepIdeal.nD) → Buf (Elt Ideal) ((c.tc : Thread Cert.StepIdeal.nD Cert.StepIdeal.τ).loc Cert.StepIdeal.main_v70)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v43) = v0 c
          ∧ r.2.mem ((c.tc : Thread Cert.StepIdeal.nD Cert.StepIdeal.τ).loc Cert.StepIdeal.main_v52) = v1 c
          ∧ r.2.mem ((c.tc : Thread Cert.StepIdeal.nD Cert.StepIdeal.τ).loc Cert.StepIdeal.main_v61) = v2 c
          ∧ r.2.mem ((c.tc : Thread Cert.StepIdeal.nD Cert.StepIdeal.τ).loc Cert.StepIdeal.main_v70) = v3 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v64) = v0 c
          ∧ r.2.mem ((c.tc : Thread Cert.StepRefIdeal.nD Cert.StepRefIdeal.τ).loc Cert.StepRefIdeal.main_v78) = v1 c
          ∧ r.2.mem ((c.tc : Thread Cert.StepRefIdeal.nD Cert.StepRefIdeal.τ).loc Cert.StepRefIdeal.main_v92) = v2 c
          ∧ r.2.mem ((c.tc : Thread Cert.StepRefIdeal.nD Cert.StepRefIdeal.τ).loc Cert.StepRefIdeal.main_v106) = v3 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6))

def Claim : Prop :=
  ∃ (hSwa0 : Cert.Swa0.Facts) (hSwa0Ideal : Cert.Swa0Ideal.Facts) (hAttend0Ideal : Cert.Attend0Ideal.Facts) (hSwa1 : Cert.Swa1.Facts) (hSwa1Ideal : Cert.Swa1Ideal.Facts) (hAttend1Ideal : Cert.Attend1Ideal.Facts) (hSwa2 : Cert.Swa2.Facts) (hSwa2Ideal : Cert.Swa2Ideal.Facts) (hAttend2Ideal : Cert.Attend2Ideal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hPeer : Cert.Peer.Facts) (hPeerIdeal : Cert.PeerIdeal.Facts) (hPeerRefIdeal : Cert.PeerRefIdeal.Facts) (hStep : Cert.Step.Facts) (hStepIdeal : Cert.StepIdeal.Facts) (hStepRefIdeal : Cert.StepRefIdeal.Facts) (hPre_finite_lse : Cert.Pre_finite_lse.Facts),
    quiescent_Swa0 (hSwa0 := hSwa0)
    ∧ quiescent_Swa0Ideal (hSwa0Ideal := hSwa0Ideal)
    ∧ quiescent_Attend0Ideal (hAttend0Ideal := hAttend0Ideal)
    ∧ quiescent_Swa1 (hSwa1 := hSwa1)
    ∧ quiescent_Swa1Ideal (hSwa1Ideal := hSwa1Ideal)
    ∧ quiescent_Attend1Ideal (hAttend1Ideal := hAttend1Ideal)
    ∧ quiescent_Swa2 (hSwa2 := hSwa2)
    ∧ quiescent_Swa2Ideal (hSwa2Ideal := hSwa2Ideal)
    ∧ quiescent_Attend2Ideal (hAttend2Ideal := hAttend2Ideal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixIdeal_pre_finite_lse (hMixIdeal := hMixIdeal) (hPre_finite_lse := hPre_finite_lse)
    ∧ quiescent_MixRefIdeal (hMixRefIdeal := hMixRefIdeal)
    ∧ quiescent_MixRefIdeal_pre_finite_lse (hMixRefIdeal := hMixRefIdeal) (hPre_finite_lse := hPre_finite_lse)
    ∧ quiescent_Peer (hPeer := hPeer)
    ∧ quiescent_PeerIdeal (hPeerIdeal := hPeerIdeal)
    ∧ quiescent_PeerRefIdeal (hPeerRefIdeal := hPeerRefIdeal)
    ∧ quiescent_Step (hStep := hStep)
    ∧ quiescent_StepIdeal (hStepIdeal := hStepIdeal)
    ∧ quiescent_StepRefIdeal (hStepRefIdeal := hStepRefIdeal)
    ∧ preserves_Swa0_Swa0Ideal
    ∧ algebraic_Swa0Ideal_Attend0Ideal (hSwa0Ideal := hSwa0Ideal) (hAttend0Ideal := hAttend0Ideal)
    ∧ preserves_Swa1_Swa1Ideal
    ∧ algebraic_Swa1Ideal_Attend1Ideal (hSwa1Ideal := hSwa1Ideal) (hAttend1Ideal := hAttend1Ideal)
    ∧ preserves_Swa2_Swa2Ideal
    ∧ algebraic_Swa2Ideal_Attend2Ideal (hSwa2Ideal := hSwa2Ideal) (hAttend2Ideal := hAttend2Ideal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal_pre_finite_lse (hMixIdeal := hMixIdeal) (hMixRefIdeal := hMixRefIdeal) (hPre_finite_lse := hPre_finite_lse)
    ∧ preserves_Peer_PeerIdeal
    ∧ algebraic_PeerIdeal_PeerRefIdeal (hPeerIdeal := hPeerIdeal) (hPeerRefIdeal := hPeerRefIdeal)
    ∧ preserves_Step_StepIdeal
    ∧ algebraic_StepIdeal_StepRefIdeal (hStepIdeal := hStepIdeal) (hStepRefIdeal := hStepRefIdeal)
-- ==== Pre_finite_lse.lean ====
abbrev S16384x1024 : Shape := ⟨2, ![16384, 1024]⟩
abbrev S16384x512 : Shape := ⟨2, ![16384, 512]⟩
abbrev S16384x12800 : Shape := ⟨2, ![16384, 12800]⟩
abbrev S16384x2048 : Shape := ⟨2, ![16384, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x1024 .f32) (main_arg1 : FVec F S16384x512 .f32) (main_arg2 : FVec F S16384x512 .f32) (main_arg3 : FVec F S16384x512 .f32) (main_arg4 : FVec F S16384x512 .f32) (main_arg5 : FVec F S16384x512 .f32) (main_arg6 : FVec F S16384x512 .f32) (main_arg7 : FVec F S16384x12800 .f32) (main_arg8 : FVec F S16384x2048 .f32) (main_arg9 : FVec F S1024x2048 .f32) (main_arg10 : FVec F S512x2048 .f32) (main_arg11 : FVec F S2048x2048 .f32) (main_arg12 : FVec F S2048 .f32) : IVec S16384x512 1 :=
  let main_cst : FVec F S_ .f32 := constant S_ .f32 0x7F800000#32
  let main_v0 : FVec F S16384x512 .f32 := broadcastInDim S16384x512 ![] bcast_S_S16384x512 main_cst
  let main_v1 : IVec S16384x512 1 := cmpf .olt main_arg2 main_v0
  let main_cst_0 : FVec F S_ .f32 := constant S_ .f32 0xFF800000#32
  let main_v2 : FVec F S16384x512 .f32 := broadcastInDim S16384x512 ![] bcast_S_S16384x512 main_cst_0
  let main_v3 : IVec S16384x512 1 := cmpf .ogt main_arg2 main_v2
  let main_v4 : IVec S16384x512 1 := andi main_v1 main_v3
  let main_cst_1 : FVec F S_ .f32 := constant S_ .f32 0x7F800000#32
  let main_v5 : FVec F S16384x512 .f32 := broadcastInDim S16384x512 ![] bcast_S_S16384x512 main_cst_1
  let main_v6 : IVec S16384x512 1 := cmpf .olt main_arg4 main_v5
  let main_cst_2 : FVec F S_ .f32 := constant S_ .f32 0xFF800000#32
  let main_v7 : FVec F S16384x512 .f32 := broadcastInDim S16384x512 ![] bcast_S_S16384x512 main_cst_2
  let main_v8 : IVec S16384x512 1 := cmpf .ogt main_arg4 main_v7
  let main_v9 : IVec S16384x512 1 := andi main_v6 main_v8
  let main_cst_3 : FVec F S_ .f32 := constant S_ .f32 0x7F800000#32
  let main_v10 : FVec F S16384x512 .f32 := broadcastInDim S16384x512 ![] bcast_S_S16384x512 main_cst_3
  let main_v11 : IVec S16384x512 1 := cmpf .olt main_arg6 main_v10
  let main_cst_4 : FVec F S_ .f32 := constant S_ .f32 0xFF800000#32
  let main_v12 : FVec F S16384x512 .f32 := broadcastInDim S16384x512 ![] bcast_S_S16384x512 main_cst_4
  let main_v13 : IVec S16384x512 1 := cmpf .ogt main_arg6 main_v12
  let main_v14 : IVec S16384x512 1 := andi main_v11 main_v13
  let main_v15 : IVec S16384x512 1 := andi main_v4 main_v9
  let main_v16 : IVec S16384x512 1 := andi main_v15 main_v14
  main_v16
-- ==== Swa0.lean ====
abbrev S4x4096x1536 : Shape := ⟨3, ![4, 4096, 1536]⟩
abbrev S4x4096x12800 : Shape := ⟨3, ![4, 4096, 12800]⟩
abbrev S4x4096x512 : Shape := ⟨3, ![4, 4096, 512]⟩
abbrev S1x128x512 : Shape := ⟨3, ![1, 128, 512]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 5
  | .vmem => 14
  | .smem => 0
  | _ => 0

abbrev bufTy : (tb : Table) → Fin (tcTables nBuf tb) → BufTy
  | .hbm, ⟨0, _⟩ => ⟨S4x4096x1536, .f32⟩
  | .hbm, ⟨1, _⟩ => ⟨S4x4096x1536, .f32⟩
  | .hbm, ⟨2, _⟩ => ⟨S4x4096x12800, .f32⟩
  | .hbm, ⟨3, _⟩ => ⟨S4x4096x512, .f32⟩
  | .hbm, ⟨4, _⟩ => ⟨S4x4096x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 1, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.muli arg1 c3_i32
  let c0_i32_0 : BitVec 32 := 0#32
  let v3 : BitVec 32 := Scalar.addi v2 c0_i32_0
  let c0_i32_1 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c25_i32 : BitVec 32 := 25#32
  let v2 : BitVec 32 := Scalar.muli arg1 c25_i32
  let c22_i32 : BitVec 32 := 22#32
  let v3 : BitVec 32 := Scalar.addi v2 c22_i32
  let c0_i32_0 : BitVec 32 := 0#32
  let v4 : BitVec 32 := Scalar.addi v3 c0_i32_0
  let c0_i32_1 : BitVec 32 := 0#32
  ![arg0.toNat, v1.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c25_i32 : BitVec 32 := 25#32
  let v0 : BitVec 32 := Scalar.muli arg1 c25_i32
  let c22_i32 : BitVec 32 := 22#32
  let v1 : BitVec 32 := Scalar.addi v0 c22_i32
  let c0_i32 : BitVec 32 := 0#32
  let v2 : BitVec 32 := Scalar.addi v1 c0_i32
  let c0_i32_0 : BitVec 32 := 0#32
  ![arg0.toNat, arg2.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Swa0Ideal.lean ====
variable {F : FTy → Type} [FloatOps F] [Named F]
def κ : String → Option EReal := fun
  | "mask" => some ⊥
  | _ => none
-- ==== Attend0Ideal.lean ====
abbrev S4x4096x1536 : Shape := ⟨3, ![4, 4096, 1536]⟩
abbrev S4x4096x12800 : Shape := ⟨3, ![4, 4096, 12800]⟩
abbrev S4x4096x3x4x128 : Shape := ⟨5, ![4, 4096, 3, 4, 128]⟩
abbrev S4x4096x1x4x128 : Shape := ⟨5, ![4, 4096, 1, 4, 128]⟩
abbrev S4x4096x4x128 : Shape := ⟨4, ![4, 4096, 4, 128]⟩
abbrev S4096 : Shape := ⟨1, ![4096]⟩
abbrev S4096x1 : Shape := ⟨2, ![4096, 1]⟩
abbrev S129 : Shape := ⟨1, ![129]⟩
abbrev S1x129 : Shape := ⟨2, ![1, 129]⟩
abbrev S_ : Shape := ⟨0, ![]⟩
abbrev S4096x129 : Shape := ⟨2, ![4096, 129]⟩
abbrev S4096x129x1 : Shape := ⟨3, ![4096, 129, 1]⟩
abbrev S1 : Shape := ⟨1, ![1]⟩
abbrev S1x1x1 : Shape := ⟨3, ![1, 1, 1]⟩
abbrev S4x4096x129x4x128 : Shape := ⟨5, ![4, 4096, 129, 4, 128]⟩
abbrev S4x4096x4x129 : Shape := ⟨4, ![4, 4096, 4, 129]⟩
abbrev S1x4096x1x129 : Shape := ⟨4, ![1, 4096, 1, 129]⟩
abbrev S4x4096x4 : Shape := ⟨3, ![4, 4096, 4]⟩
abbrev S4x4096x4x1 : Shape := ⟨4, ![4, 4096, 4, 1]⟩
abbrev S4x4096x512 : Shape := ⟨3, ![4, 4096, 512]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x1536, .f32⟩
  | .hbm, ⟨1, _⟩ => ⟨S4x4096x1536, .f32⟩
  | .hbm, ⟨2, _⟩ => ⟨S4x4096x12800, .f32⟩
  | .hbm, ⟨3, _⟩ => ⟨S4x4096x3x4x128, .f32⟩
  | .hbm, ⟨4, _⟩ => ⟨S4x4096x1x4x128, .f32⟩
  | .hbm, ⟨5, _⟩ => ⟨S4x4096x4x128, .f32⟩
  | .hbm, ⟨6, _⟩ => ⟨S4x4096x3x4x128, .f32⟩
  | .hbm, ⟨7, _⟩ => ⟨S4x4096x1x4x128, .f32⟩
  | .hbm, ⟨8, _⟩ => ⟨S4x4096x4x128, .f32⟩
  | .hbm, ⟨9, _⟩ => ⟨S4x4096x1536, .f32⟩
  | .hbm, ⟨10, _⟩ => ⟨S4x4096x3x4x128, .f32⟩
  | .hbm, ⟨11, _⟩ => ⟨S4x4096x1x4x128, .f32⟩
  | .hbm, ⟨12, _⟩ => ⟨S4x4096x4x128, .f32⟩
  | .hbm, ⟨13, _⟩ => ⟨S4096, .i32⟩
  | .hbm, ⟨14, _⟩ => ⟨S4096x1, .i32⟩
  | .hbm, ⟨15, _⟩ => ⟨S129, .i32⟩
  | .hbm, ⟨16, _⟩ => ⟨S1x129, .i32⟩
  | .hbm, ⟨17, _⟩ => ⟨S_, .i32⟩
  | .hbm, ⟨18, _⟩ => ⟨S1x129, .i32⟩
  | .hbm, ⟨19, _⟩ => ⟨S1x129, .i32⟩
  | .hbm, ⟨20, _⟩ => ⟨S4096x129, .i32⟩
  | .hbm, ⟨21, _⟩ => ⟨S4096x129, .i32⟩
  | .hbm, ⟨22, _⟩ => ⟨S4096x129, .i32⟩
  | .hbm, ⟨23, _⟩ => ⟨S_, .i32⟩
  | .hbm, ⟨24, _⟩ => ⟨S4096x129, .i32⟩
  | .hbm, ⟨25, _⟩ => ⟨S4096x129, .i1⟩
  | .hbm, ⟨26, _⟩ => ⟨S_, .i32⟩
  | .hbm, ⟨27, _⟩ => ⟨S4096x129, .i32⟩
  | .hbm, ⟨28, _⟩ => ⟨S4096x129, .i32⟩
  | .hbm, ⟨29, _⟩ => ⟨S_, .i32⟩
  | .hbm, ⟨30, _⟩ => ⟨S4096x129, .i32⟩
  | .hbm, ⟨31, _⟩ => ⟨S4096x129, .i1⟩
  | .hbm, ⟨32, _⟩ => ⟨S_, .i32⟩
  | .hbm, ⟨33, _⟩ => ⟨S4096x129, .i32⟩
  | .hbm, ⟨34, _⟩ => ⟨S4096x129, .i32⟩
  | .hbm, ⟨35, _⟩ => ⟨S4096x129, .i32⟩
  | .hbm, ⟨36, _⟩ => ⟨S4096x129x1, .i32⟩
  | .hbm, ⟨37, _⟩ => ⟨S1, .i32⟩
  | .hbm, ⟨38, _⟩ => ⟨S_, .i32⟩
  | .hbm, ⟨39, _⟩ => ⟨S4096x129x1, .i32⟩
  | .hbm, ⟨40, _⟩ => ⟨S4096x129x1, .i1⟩
  | .hbm, ⟨41, _⟩ => ⟨S1x1x1, .i32⟩
  | .hbm, ⟨42, _⟩ => ⟨S4096x129x1, .i32⟩
  | .hbm, ⟨43, _⟩ => ⟨S4096x129x1, .i1⟩
  | .hbm, ⟨44, _⟩ => ⟨S4096x129x1, .i1⟩
  | .hbm, ⟨45, _⟩ => ⟨S_, .i1⟩
  | .hbm, ⟨46, _⟩ => ⟨S4096x129, .i1⟩
  | .hbm, ⟨47, _⟩ => ⟨S4x4096x129x4x128, .f32⟩
  | .hbm, ⟨48, _⟩ => ⟨S4x4096x129x4x128, .i1⟩
  | .hbm, ⟨49, _⟩ => ⟨S_, .f32⟩
  | .hbm, ⟨50, _⟩ => ⟨S4x4096x129x4x128, .f32⟩
  | .hbm, ⟨51, _⟩ => ⟨S4x4096x129x4x128, .f32⟩
  | .hbm, ⟨52, _⟩ => ⟨S_, .i32⟩
  | .hbm, ⟨53, _⟩ => ⟨S4096x129, .i32⟩
  | .hbm, ⟨54, _⟩ => ⟨S4096x129, .i1⟩
  | .hbm, ⟨55, _⟩ => ⟨S_, .i32⟩
  | .hbm, ⟨56, _⟩ => ⟨S4096x129, .i32⟩
  | .hbm, ⟨57, _⟩ => ⟨S4096x129, .i32⟩
  | .hbm, ⟨58, _⟩ => ⟨S4096x129, .i32⟩
  | .hbm, ⟨59, _⟩ => ⟨S4096x129x1, .i32⟩
  | .hbm, ⟨60, _⟩ => ⟨S1, .i32⟩
  | .hbm, ⟨61, _⟩ => ⟨S_, .i32⟩
  | .hbm, ⟨62, _⟩ => ⟨S4096x129x1, .i32⟩
  | .hbm, ⟨63, _⟩ => ⟨S4096x129x1, .i1⟩
  | .hbm, ⟨64, _⟩ => ⟨S1x1x1, .i32⟩
  | .hbm, ⟨65, _⟩ => ⟨S4096x129x1, .i32⟩
  | .hbm, ⟨66, _⟩ => ⟨S4096x129x1, .i1⟩
  | .hbm, ⟨67, _⟩ => ⟨S4096x129x1, .i1⟩
  | .hbm, ⟨68, _⟩ => ⟨S_, .i1⟩
  | .hbm, ⟨69, _⟩ => ⟨S4096x129, .i1⟩
  | .hbm, ⟨70, _⟩ => ⟨S4x4096x129x4x128, .f32⟩
  | .hbm, ⟨71, _⟩ => ⟨S4x4096x129x4x128, .i1⟩
  | .hbm, ⟨72, _⟩ => ⟨S_, .f32⟩
  | .hbm, ⟨73, _⟩ => ⟨S4x4096x129x4x128, .f32⟩
  | .hbm, ⟨74, _⟩ => ⟨S4x4096x129x4x128, .f32⟩
  | .hbm, ⟨75, _⟩ => ⟨S4x4096x4x129, .f32⟩
  | .hbm, ⟨76, _⟩ => ⟨S_, .f32⟩
  | .hbm, ⟨77, _⟩ => ⟨S4x4096x4x129, .f32⟩
  | .hbm, ⟨78, _⟩ => ⟨S4x4096x4x129, .f32⟩
  | .hbm, ⟨79, _⟩ => ⟨S1x4096x1x129, .i1⟩
  | .hbm, ⟨80, _⟩ => ⟨S_, .f32⟩
  | .hbm, ⟨81, _⟩ => ⟨S_, .f32⟩
  | .hbm, ⟨82, _⟩ => ⟨S4x4096x4x129, .i1⟩
  | .hbm, ⟨83, _⟩ => ⟨S4x4096x4x129, .f32⟩
  | .hbm, ⟨84, _⟩ => ⟨S4x4096x4x129, .f32⟩
  | .hbm, ⟨85, _⟩ => ⟨S_, .f32⟩
  | .hbm, ⟨86, _⟩ => ⟨S4x4096x4, .f32⟩
  | .hbm, ⟨87, _⟩ => ⟨S4x4096x4x1, .f32⟩
  | .hbm, ⟨88, _⟩ => ⟨S4x4096x4x129, .f32⟩
  | .hbm, ⟨89, _⟩ => ⟨S4x4096x4x129, .f32⟩
  | .hbm, ⟨90, _⟩ => ⟨S4x4096x4x129, .f32⟩
  | .hbm, ⟨91, _⟩ => ⟨S_, .f32⟩
  | .hbm, ⟨92, _⟩ => ⟨S4x4096x4, .f32⟩
  | .hbm, ⟨93, _⟩ => ⟨S4x4096x4x128, .f32⟩
  | .hbm, ⟨94, _⟩ => ⟨S4x4096x4x1, .f32⟩
  | .hbm, ⟨95, _⟩ => ⟨S4x4096x4x128, .f32⟩
  | .hbm, ⟨96, _⟩ => ⟨S4x4096x4x128, .f32⟩
  | .hbm, ⟨97, _⟩ => ⟨S4x4096x4, .f32⟩
  | .hbm, ⟨98, _⟩ => ⟨S4x4096x4, .f32⟩
  | .hbm, ⟨99, _⟩ => ⟨S4x4096x4, .f32⟩
  | .hbm, ⟨100, _⟩ => ⟨S4x4096x4x1, .f32⟩
  | .hbm, ⟨101, _⟩ => ⟨S4x4096x4x128, .f32⟩
  | .hbm, ⟨102, _⟩ => ⟨S4x4096x512, .f32⟩
  | .hbm, ⟨103, _⟩ => ⟨S4x4096x512, .f32⟩
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v23 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v24 : Ref sig .tc := ⟨.hbm, 74, rfl⟩
abbrev main_v25 : Ref sig .tc := ⟨.hbm, 75, rfl⟩
abbrev main_cst : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_2 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v29 : Ref sig .tc := ⟨.hbm, 84, rfl⟩
abbrev main_cst_3 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_cst_4 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩

abbrev nD : Nat := 1
abbrev τ : Topo := Topo.v7x

variable {F : FTy → Type} [FloatOps F]
-- ==== Swa1.lean ====
abbrev S4x4096x1536 : Shape := ⟨3, ![4, 4096, 1536]⟩
abbrev S4x4096x12800 : Shape := ⟨3, ![4, 4096, 12800]⟩
abbrev S4x1024x6144 : Shape := ⟨3, ![4, 1024, 6144]⟩
abbrev S4x1024x51200 : Shape := ⟨3, ![4, 1024, 51200]⟩
abbrev S4x1024x2048 : Shape := ⟨3, ![4, 1024, 2048]⟩
abbrev S1x128x512 : Shape := ⟨3, ![1, 128, 512]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S4x4096x1536, .f32⟩
  | .hbm, ⟨1, _⟩ => ⟨S4x4096x1536, .f32⟩
  | .hbm, ⟨2, _⟩ => ⟨S4x4096x12800, .f32⟩
  | .hbm, ⟨3, _⟩ => ⟨S4x1024x6144, .f32⟩
  | .hbm, ⟨4, _⟩ => ⟨S4x1024x6144, .f32⟩
  | .hbm, ⟨5, _⟩ => ⟨S4x1024x51200, .f32⟩
  | .hbm, ⟨6, _⟩ => ⟨S4x1024x2048, .f32⟩
  | .hbm, ⟨7, _⟩ => ⟨S4x1024x2048, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.muli arg1 c3_i32
  let c1_i32_0 : BitVec 32 := 1#32
  let v3 : BitVec 32 := Scalar.addi v2 c1_i32_0
  let c0_i32_1 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c25_i32 : BitVec 32 := 25#32
  let v2 : BitVec 32 := Scalar.muli arg1 c25_i32
  let c22_i32 : BitVec 32 := 22#32
  let v3 : BitVec 32 := Scalar.addi v2 c22_i32
  let c1_i32_0 : BitVec 32 := 1#32
  let v4 : BitVec 32 := Scalar.addi v3 c1_i32_0
  let c0_i32_1 : BitVec 32 := 0#32
  ![arg0.toNat, v1.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c25_i32 : BitVec 32 := 25#32
  let v0 : BitVec 32 := Scalar.muli arg1 c25_i32
  let c22_i32 : BitVec 32 := 22#32
  let v1 : BitVec 32 := Scalar.addi v0 c22_i32
  let c1_i32 : BitVec 32 := 1#32
  let v2 : BitVec 32 := Scalar.addi v1 c1_i32
  let c0_i32 : BitVec 32 := 0#32
  ![arg0.toNat, arg2.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Swa1Ideal.lean ====
variable {F : FTy → Type} [FloatOps F] [Named F]
def κ : String → Option EReal := fun
  | "mask" => some ⊥
  | _ => none
-- ==== Attend1Ideal.lean ====
abbrev S4x4096x1536 : Shape := ⟨3, ![4, 4096, 1536]⟩
abbrev S4x4096x12800 : Shape := ⟨3, ![4, 4096, 12800]⟩
abbrev S4x4096x3x4x128 : Shape := ⟨5, ![4, 4096, 3, 4, 128]⟩
abbrev S4x4096x1x4x128 : Shape := ⟨5, ![4, 4096, 1, 4, 128]⟩
abbrev S4x4096x4x128 : Shape := ⟨4, ![4, 4096, 4, 128]⟩
abbrev S4096 : Shape := ⟨1, ![4096]⟩
abbrev S4096x1 : Shape := ⟨2, ![4096, 1]⟩
abbrev S129 : Shape := ⟨1, ![129]⟩
abbrev S1x129 : Shape := ⟨2, ![1, 129]⟩
abbrev S_ : Shape := ⟨0, ![]⟩
abbrev S4096x129 : Shape := ⟨2, ![4096, 129]⟩
abbrev S4096x129x1 : Shape := ⟨3, ![4096, 129, 1]⟩
abbrev S1 : Shape := ⟨1, ![1]⟩
abbrev S1x1x1 : Shape := ⟨3, ![1, 1, 1]⟩
abbrev S4x4096x129x4x128 : Shape := ⟨5, ![4, 4096, 129, 4, 128]⟩
abbrev S4x4096x4x129 : Shape := ⟨4, ![4, 4096, 4, 129]⟩
abbrev S1x4096x1x129 : Shape := ⟨4, ![1, 4096, 1, 129]⟩
abbrev S4x4096x4 : Shape := ⟨3, ![4, 4096, 4]⟩
abbrev S4x4096x4x1 : Shape := ⟨4, ![4, 4096, 4, 1]⟩
abbrev S4x1024x2048 : Shape := ⟨3, ![4, 1024, 2048]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x1536, .f32⟩
  | .hbm, ⟨1, _⟩ => ⟨S4x4096x1536, .f32⟩
  | .hbm, ⟨2, _⟩ => ⟨S4x4096x12800, .f32⟩
  | .hbm, ⟨3, _⟩ => ⟨S4x4096x3x4x128, .f32⟩
  | .hbm, ⟨4, _⟩ => ⟨S4x4096x1x4x128, .f32⟩
  | .hbm, ⟨5, _⟩ => ⟨S4x4096x4x128, .f32⟩
  | .hbm, ⟨6, _⟩ => ⟨S4x4096x3x4x128, .f32⟩
  | .hbm, ⟨7, _⟩ => ⟨S4x4096x1x4x128, .f32⟩
  | .hbm, ⟨8, _⟩ => ⟨S4x4096x4x128, .f32⟩
  | .hbm, ⟨9, _⟩ => ⟨S4x4096x1536, .f32⟩
  | .hbm, ⟨10, _⟩ => ⟨S4x4096x3x4x128, .f32⟩
  | .hbm, ⟨11, _⟩ => ⟨S4x4096x1x4x128, .f32⟩
  | .hbm, ⟨12, _⟩ => ⟨S4x4096x4x128, .f32⟩
  | .hbm, ⟨13, _⟩ => ⟨S4096, .i32⟩
  | .hbm, ⟨14, _⟩ => ⟨S4096x1, .i32⟩
  | .hbm, ⟨15, _⟩ => ⟨S129, .i32⟩
  | .hbm, ⟨16, _⟩ => ⟨S1x129, .i32⟩
  | .hbm, ⟨17, _⟩ => ⟨S_, .i32⟩
  | .hbm, ⟨18, _⟩ => ⟨S1x129, .i32⟩
  | .hbm, ⟨19, _⟩ => ⟨S1x129, .i32⟩
  | .hbm, ⟨20, _⟩ => ⟨S4096x129, .i32⟩
  | .hbm, ⟨21, _⟩ => ⟨S4096x129, .i32⟩
  | .hbm, ⟨22, _⟩ => ⟨S4096x129, .i32⟩
  | .hbm, ⟨23, _⟩ => ⟨S_, .i32⟩
  | .hbm, ⟨24, _⟩ => ⟨S4096x129, .i32⟩
  | .hbm, ⟨25, _⟩ => ⟨S4096x129, .i1⟩
  | .hbm, ⟨26, _⟩ => ⟨S_, .i32⟩
  | .hbm, ⟨27, _⟩ => ⟨S4096x129, .i32⟩
  | .hbm, ⟨28, _⟩ => ⟨S4096x129, .i32⟩
  | .hbm, ⟨29, _⟩ => ⟨S_, .i32⟩
  | .hbm, ⟨30, _⟩ => ⟨S4096x129, .i32⟩
  | .hbm, ⟨31, _⟩ => ⟨S4096x129, .i1⟩
  | .hbm, ⟨32, _⟩ => ⟨S_, .i32⟩
  | .hbm, ⟨33, _⟩ => ⟨S4096x129, .i32⟩
  | .hbm, ⟨34, _⟩ => ⟨S4096x129, .i32⟩
  | .hbm, ⟨35, _⟩ => ⟨S4096x129, .i32⟩
  | .hbm, ⟨36, _⟩ => ⟨S4096x129x1, .i32⟩
  | .hbm, ⟨37, _⟩ => ⟨S1, .i32⟩
  | .hbm, ⟨38, _⟩ => ⟨S_, .i32⟩
  | .hbm, ⟨39, _⟩ => ⟨S4096x129x1, .i32⟩
  | .hbm, ⟨40, _⟩ => ⟨S4096x129x1, .i1⟩
  | .hbm, ⟨41, _⟩ => ⟨S1x1x1, .i32⟩
  | .hbm, ⟨42, _⟩ => ⟨S4096x129x1, .i32⟩
  | .hbm, ⟨43, _⟩ => ⟨S4096x129x1, .i1⟩
  | .hbm, ⟨44, _⟩ => ⟨S4096x129x1, .i1⟩
  | .hbm, ⟨45, _⟩ => ⟨S_, .i1⟩
  | .hbm, ⟨46, _⟩ => ⟨S4096x129, .i1⟩
  | .hbm, ⟨47, _⟩ => ⟨S4x4096x129x4x128, .f32⟩
  | .hbm, ⟨48, _⟩ => ⟨S4x4096x129x4x128, .i1⟩
  | .hbm, ⟨49, _⟩ => ⟨S_, .f32⟩
  | .hbm, ⟨50, _⟩ => ⟨S4x4096x129x4x128, .f32⟩
  | .hbm, ⟨51, _⟩ => ⟨S4x4096x129x4x128, .f32⟩
  | .hbm, ⟨52, _⟩ => ⟨S_, .i32⟩
  | .hbm, ⟨53, _⟩ => ⟨S4096x129, .i32⟩
  | .hbm, ⟨54, _⟩ => ⟨S4096x129, .i1⟩
  | .hbm, ⟨55, _⟩ => ⟨S_, .i32⟩
  | .hbm, ⟨56, _⟩ => ⟨S4096x129, .i32⟩
  | .hbm, ⟨57, _⟩ => ⟨S4096x129, .i32⟩
  | .hbm, ⟨58, _⟩ => ⟨S4096x129, .i32⟩
  | .hbm, ⟨59, _⟩ => ⟨S4096x129x1, .i32⟩
  | .hbm, ⟨60, _⟩ => ⟨S1, .i32⟩
  | .hbm, ⟨61, _⟩ => ⟨S_, .i32⟩
  | .hbm, ⟨62, _⟩ => ⟨S4096x129x1, .i32⟩
  | .hbm, ⟨63, _⟩ => ⟨S4096x129x1, .i1⟩
  | .hbm, ⟨64, _⟩ => ⟨S1x1x1, .i32⟩
  | .hbm, ⟨65, _⟩ => ⟨S4096x129x1, .i32⟩
  | .hbm, ⟨66, _⟩ => ⟨S4096x129x1, .i1⟩
  | .hbm, ⟨67, _⟩ => ⟨S4096x129x1, .i1⟩
  | .hbm, ⟨68, _⟩ => ⟨S_, .i1⟩
  | .hbm, ⟨69, _⟩ => ⟨S4096x129, .i1⟩
  | .hbm, ⟨70, _⟩ => ⟨S4x4096x129x4x128, .f32⟩
  | .hbm, ⟨71, _⟩ => ⟨S4x4096x129x4x128, .i1⟩
  | .hbm, ⟨72, _⟩ => ⟨S_, .f32⟩
  | .hbm, ⟨73, _⟩ => ⟨S4x4096x129x4x128, .f32⟩
  | .hbm, ⟨74, _⟩ => ⟨S4x4096x129x4x128, .f32⟩
  | .hbm, ⟨75, _⟩ => ⟨S4x4096x4x129, .f32⟩
  | .hbm, ⟨76, _⟩ => ⟨S_, .f32⟩
  | .hbm, ⟨77, _⟩ => ⟨S4x4096x4x129, .f32⟩
  | .hbm, ⟨78, _⟩ => ⟨S4x4096x4x129, .f32⟩
  | .hbm, ⟨79, _⟩ => ⟨S1x4096x1x129, .i1⟩
  | .hbm, ⟨80, _⟩ => ⟨S_, .f32⟩
  | .hbm, ⟨81, _⟩ => ⟨S_, .f32⟩
  | .hbm, ⟨82, _⟩ => ⟨S4x4096x4x129, .i1⟩
  | .hbm, ⟨83, _⟩ => ⟨S4x4096x4x129, .f32⟩
  | .hbm, ⟨84, _⟩ => ⟨S4x4096x4x129, .f32⟩
  | .hbm, ⟨85, _⟩ => ⟨S_, .f32⟩
  | .hbm, ⟨86, _⟩ => ⟨S4x4096x4, .f32⟩
  | .hbm, ⟨87, _⟩ => ⟨S4x4096x4x1, .f32⟩
  | .hbm, ⟨88, _⟩ => ⟨S4x4096x4x129, .f32⟩
  | .hbm, ⟨89, _⟩ => ⟨S4x4096x4x129, .f32⟩
  | .hbm, ⟨90, _⟩ => ⟨S4x4096x4x129, .f32⟩
  | .hbm, ⟨91, _⟩ => ⟨S_, .f32⟩
  | .hbm, ⟨92, _⟩ => ⟨S4x4096x4, .f32⟩
  | .hbm, ⟨93, _⟩ => ⟨S4x4096x4x128, .f32⟩
  | .hbm, ⟨94, _⟩ => ⟨S4x4096x4x1, .f32⟩
  | .hbm, ⟨95, _⟩ => ⟨S4x4096x4x128, .f32⟩
  | .hbm, ⟨96, _⟩ => ⟨S4x4096x4x128, .f32⟩
  | .hbm, ⟨97, _⟩ => ⟨S4x4096x4, .f32⟩
  | .hbm, ⟨98, _⟩ => ⟨S4x4096x4, .f32⟩
  | .hbm, ⟨99, _⟩ => ⟨S4x4096x4, .f32⟩
  | .hbm, ⟨100, _⟩ => ⟨S4x4096x4x1, .f32⟩
  | .hbm, ⟨101, _⟩ => ⟨S4x4096x4x128, .f32⟩
  | .hbm, ⟨102, _⟩ => ⟨S4x1024x2048, .f32⟩
  | .hbm, ⟨103, _⟩ => ⟨S4x1024x2048, .f32⟩
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v23 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v24 : Ref sig .tc := ⟨.hbm, 74, rfl⟩
abbrev main_v25 : Ref sig .tc := ⟨.hbm, 75, rfl⟩
abbrev main_cst : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_2 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v29 : Ref sig .tc := ⟨.hbm, 84, rfl⟩
abbrev main_cst_3 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_cst_4 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩

abbrev nD : Nat := 1
abbrev τ : Topo := Topo.v7x

variable {F : FTy → Type} [FloatOps F]
-- ==== Swa2.lean ====
abbrev S4x4096x1536 : Shape := ⟨3, ![4, 4096, 1536]⟩
abbrev S4x4096x12800 : Shape := ⟨3, ![4, 4096, 12800]⟩
abbrev S4x256x24576 : Shape := ⟨3, ![4, 256, 24576]⟩
abbrev S4x256x204800 : Shape := ⟨3, ![4, 256, 204800]⟩
abbrev S4x256x8192 : Shape := ⟨3, ![4, 256, 8192]⟩
abbrev S1x128x512 : Shape := ⟨3, ![1, 128, 512]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S4x4096x1536, .f32⟩
  | .hbm, ⟨1, _⟩ => ⟨S4x4096x1536, .f32⟩
  | .hbm, ⟨2, _⟩ => ⟨S4x4096x12800, .f32⟩
  | .hbm, ⟨3, _⟩ => ⟨S4x256x24576, .f32⟩
  | .hbm, ⟨4, _⟩ => ⟨S4x256x24576, .f32⟩
  | .hbm, ⟨5, _⟩ => ⟨S4x256x204800, .f32⟩
  | .hbm, ⟨6, _⟩ => ⟨S4x256x8192, .f32⟩
  | .hbm, ⟨7, _⟩ => ⟨S4x256x8192, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c3_i32 : BitVec 32 := 3#32
  let v2 : BitVec 32 := Scalar.muli arg1 c3_i32
  let c2_i32 : BitVec 32 := 2#32
  let v3 : BitVec 32 := Scalar.addi v2 c2_i32
  let c0_i32_0 : BitVec 32 := 0#32
  ![arg0.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c25_i32 : BitVec 32 := 25#32
  let v2 : BitVec 32 := Scalar.muli arg1 c25_i32
  let c22_i32 : BitVec 32 := 22#32
  let v3 : BitVec 32 := Scalar.addi v2 c22_i32
  let c2_i32 : BitVec 32 := 2#32
  let v4 : BitVec 32 := Scalar.addi v3 c2_i32
  let c0_i32_0 : BitVec 32 := 0#32
  ![arg0.toNat, v1.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c25_i32 : BitVec 32 := 25#32
  let v0 : BitVec 32 := Scalar.muli arg1 c25_i32
  let c22_i32 : BitVec 32 := 22#32
  let v1 : BitVec 32 := Scalar.addi v0 c22_i32
  let c2_i32 : BitVec 32 := 2#32
  let v2 : BitVec 32 := Scalar.addi v1 c2_i32
  let c0_i32 : BitVec 32 := 0#32
  ![arg0.toNat, arg2.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Swa2Ideal.lean ====
variable {F : FTy → Type} [FloatOps F] [Named F]
def κ : String → Option EReal := fun
  | "mask" => some ⊥
  | _ => none
-- ==== Attend2Ideal.lean ====
abbrev S4x4096x1536 : Shape := ⟨3, ![4, 4096, 1536]⟩
abbrev S4x4096x12800 : Shape := ⟨3, ![4, 4096, 12800]⟩
abbrev S4x4096x3x4x128 : Shape := ⟨5, ![4, 4096, 3, 4, 128]⟩
abbrev S4x4096x1x4x128 : Shape := ⟨5, ![4, 4096, 1, 4, 128]⟩
abbrev S4x4096x4x128 : Shape := ⟨4, ![4, 4096, 4, 128]⟩
abbrev S4096 : Shape := ⟨1, ![4096]⟩
abbrev S4096x1 : Shape := ⟨2, ![4096, 1]⟩
abbrev S129 : Shape := ⟨1, ![129]⟩
abbrev S1x129 : Shape := ⟨2, ![1, 129]⟩
abbrev S_ : Shape := ⟨0, ![]⟩
abbrev S4096x129 : Shape := ⟨2, ![4096, 129]⟩
abbrev S4096x129x1 : Shape := ⟨3, ![4096, 129, 1]⟩
abbrev S1 : Shape := ⟨1, ![1]⟩
abbrev S1x1x1 : Shape := ⟨3, ![1, 1, 1]⟩
abbrev S4x4096x129x4x128 : Shape := ⟨5, ![4, 4096, 129, 4, 128]⟩
abbrev S4x4096x4x129 : Shape := ⟨4, ![4, 4096, 4, 129]⟩
abbrev S1x4096x1x129 : Shape := ⟨4, ![1, 4096, 1, 129]⟩
abbrev S4x4096x4 : Shape := ⟨3, ![4, 4096, 4]⟩
abbrev S4x4096x4x1 : Shape := ⟨4, ![4, 4096, 4, 1]⟩
abbrev S4x256x8192 : Shape := ⟨3, ![4, 256, 8192]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x1536, .f32⟩
  | .hbm, ⟨1, _⟩ => ⟨S4x4096x1536, .f32⟩
  | .hbm, ⟨2, _⟩ => ⟨S4x4096x12800, .f32⟩
  | .hbm, ⟨3, _⟩ => ⟨S4x4096x3x4x128, .f32⟩
  | .hbm, ⟨4, _⟩ => ⟨S4x4096x1x4x128, .f32⟩
  | .hbm, ⟨5, _⟩ => ⟨S4x4096x4x128, .f32⟩
  | .hbm, ⟨6, _⟩ => ⟨S4x4096x3x4x128, .f32⟩
  | .hbm, ⟨7, _⟩ => ⟨S4x4096x1x4x128, .f32⟩
  | .hbm, ⟨8, _⟩ => ⟨S4x4096x4x128, .f32⟩
  | .hbm, ⟨9, _⟩ => ⟨S4x4096x1536, .f32⟩
  | .hbm, ⟨10, _⟩ => ⟨S4x4096x3x4x128, .f32⟩
  | .hbm, ⟨11, _⟩ => ⟨S4x4096x1x4x128, .f32⟩
  | .hbm, ⟨12, _⟩ => ⟨S4x4096x4x128, .f32⟩
  | .hbm, ⟨13, _⟩ => ⟨S4096, .i32⟩
  | .hbm, ⟨14, _⟩ => ⟨S4096x1, .i32⟩
  | .hbm, ⟨15, _⟩ => ⟨S129, .i32⟩
  | .hbm, ⟨16, _⟩ => ⟨S1x129, .i32⟩
  | .hbm, ⟨17, _⟩ => ⟨S_, .i32⟩
  | .hbm, ⟨18, _⟩ => ⟨S1x129, .i32⟩
  | .hbm, ⟨19, _⟩ => ⟨S1x129, .i32⟩
  | .hbm, ⟨20, _⟩ => ⟨S4096x129, .i32⟩
  | .hbm, ⟨21, _⟩ => ⟨S4096x129, .i32⟩
  | .hbm, ⟨22, _⟩ => ⟨S4096x129, .i32⟩
  | .hbm, ⟨23, _⟩ => ⟨S_, .i32⟩
  | .hbm, ⟨24, _⟩ => ⟨S4096x129, .i32⟩
  | .hbm, ⟨25, _⟩ => ⟨S4096x129, .i1⟩
  | .hbm, ⟨26, _⟩ => ⟨S_, .i32⟩
  | .hbm, ⟨27, _⟩ => ⟨S4096x129, .i32⟩
  | .hbm, ⟨28, _⟩ => ⟨S4096x129, .i32⟩
  | .hbm, ⟨29, _⟩ => ⟨S_, .i32⟩
  | .hbm, ⟨30, _⟩ => ⟨S4096x129, .i32⟩
  | .hbm, ⟨31, _⟩ => ⟨S4096x129, .i1⟩
  | .hbm, ⟨32, _⟩ => ⟨S_, .i32⟩
  | .hbm, ⟨33, _⟩ => ⟨S4096x129, .i32⟩
  | .hbm, ⟨34, _⟩ => ⟨S4096x129, .i32⟩
  | .hbm, ⟨35, _⟩ => ⟨S4096x129, .i32⟩
  | .hbm, ⟨36, _⟩ => ⟨S4096x129x1, .i32⟩
  | .hbm, ⟨37, _⟩ => ⟨S1, .i32⟩
  | .hbm, ⟨38, _⟩ => ⟨S_, .i32⟩
  | .hbm, ⟨39, _⟩ => ⟨S4096x129x1, .i32⟩
  | .hbm, ⟨40, _⟩ => ⟨S4096x129x1, .i1⟩
  | .hbm, ⟨41, _⟩ => ⟨S1x1x1, .i32⟩
  | .hbm, ⟨42, _⟩ => ⟨S4096x129x1, .i32⟩
  | .hbm, ⟨43, _⟩ => ⟨S4096x129x1, .i1⟩
  | .hbm, ⟨44, _⟩ => ⟨S4096x129x1, .i1⟩
  | .hbm, ⟨45, _⟩ => ⟨S_, .i1⟩
  | .hbm, ⟨46, _⟩ => ⟨S4096x129, .i1⟩
  | .hbm, ⟨47, _⟩ => ⟨S4x4096x129x4x128, .f32⟩
  | .hbm, ⟨48, _⟩ => ⟨S4x4096x129x4x128, .i1⟩
  | .hbm, ⟨49, _⟩ => ⟨S_, .f32⟩
  | .hbm, ⟨50, _⟩ => ⟨S4x4096x129x4x128, .f32⟩
  | .hbm, ⟨51, _⟩ => ⟨S4x4096x129x4x128, .f32⟩
  | .hbm, ⟨52, _⟩ => ⟨S_, .i32⟩
  | .hbm, ⟨53, _⟩ => ⟨S4096x129, .i32⟩
  | .hbm, ⟨54, _⟩ => ⟨S4096x129, .i1⟩
  | .hbm, ⟨55, _⟩ => ⟨S_, .i32⟩
  | .hbm, ⟨56, _⟩ => ⟨S4096x129, .i32⟩
  | .hbm, ⟨57, _⟩ => ⟨S4096x129, .i32⟩
  | .hbm, ⟨58, _⟩ => ⟨S4096x129, .i32⟩
  | .hbm, ⟨59, _⟩ => ⟨S4096x129x1, .i32⟩
  | .hbm, ⟨60, _⟩ => ⟨S1, .i32⟩
  | .hbm, ⟨61, _⟩ => ⟨S_, .i32⟩
  | .hbm, ⟨62, _⟩ => ⟨S4096x129x1, .i32⟩
  | .hbm, ⟨63, _⟩ => ⟨S4096x129x1, .i1⟩
  | .hbm, ⟨64, _⟩ => ⟨S1x1x1, .i32⟩
  | .hbm, ⟨65, _⟩ => ⟨S4096x129x1, .i32⟩
  | .hbm, ⟨66, _⟩ => ⟨S4096x129x1, .i1⟩
  | .hbm, ⟨67, _⟩ => ⟨S4096x129x1, .i1⟩
  | .hbm, ⟨68, _⟩ => ⟨S_, .i1⟩
  | .hbm, ⟨69, _⟩ => ⟨S4096x129, .i1⟩
  | .hbm, ⟨70, _⟩ => ⟨S4x4096x129x4x128, .f32⟩
  | .hbm, ⟨71, _⟩ => ⟨S4x4096x129x4x128, .i1⟩
  | .hbm, ⟨72, _⟩ => ⟨S_, .f32⟩
  | .hbm, ⟨73, _⟩ => ⟨S4x4096x129x4x128, .f32⟩
  | .hbm, ⟨74, _⟩ => ⟨S4x4096x129x4x128, .f32⟩
  | .hbm, ⟨75, _⟩ => ⟨S4x4096x4x129, .f32⟩
  | .hbm, ⟨76, _⟩ => ⟨S_, .f32⟩
  | .hbm, ⟨77, _⟩ => ⟨S4x4096x4x129, .f32⟩
  | .hbm, ⟨78, _⟩ => ⟨S4x4096x4x129, .f32⟩
  | .hbm, ⟨79, _⟩ => ⟨S1x4096x1x129, .i1⟩
  | .hbm, ⟨80, _⟩ => ⟨S_, .f32⟩
  | .hbm, ⟨81, _⟩ => ⟨S_, .f32⟩
  | .hbm, ⟨82, _⟩ => ⟨S4x4096x4x129, .i1⟩
  | .hbm, ⟨83, _⟩ => ⟨S4x4096x4x129, .f32⟩
  | .hbm, ⟨84, _⟩ => ⟨S4x4096x4x129, .f32⟩
  | .hbm, ⟨85, _⟩ => ⟨S_, .f32⟩
  | .hbm, ⟨86, _⟩ => ⟨S4x4096x4, .f32⟩
  | .hbm, ⟨87, _⟩ => ⟨S4x4096x4x1, .f32⟩
  | .hbm, ⟨88, _⟩ => ⟨S4x4096x4x129, .f32⟩
  | .hbm, ⟨89, _⟩ => ⟨S4x4096x4x129, .f32⟩
  | .hbm, ⟨90, _⟩ => ⟨S4x4096x4x129, .f32⟩
  | .hbm, ⟨91, _⟩ => ⟨S_, .f32⟩
  | .hbm, ⟨92, _⟩ => ⟨S4x4096x4, .f32⟩
  | .hbm, ⟨93, _⟩ => ⟨S4x4096x4x128, .f32⟩
  | .hbm, ⟨94, _⟩ => ⟨S4x4096x4x1, .f32⟩
  | .hbm, ⟨95, _⟩ => ⟨S4x4096x4x128, .f32⟩
  | .hbm, ⟨96, _⟩ => ⟨S4x4096x4x128, .f32⟩
  | .hbm, ⟨97, _⟩ => ⟨S4x4096x4, .f32⟩
  | .hbm, ⟨98, _⟩ => ⟨S4x4096x4, .f32⟩
  | .hbm, ⟨99, _⟩ => ⟨S4x4096x4, .f32⟩
  | .hbm, ⟨100, _⟩ => ⟨S4x4096x4x1, .f32⟩
  | .hbm, ⟨101, _⟩ => ⟨S4x4096x4x128, .f32⟩
  | .hbm, ⟨102, _⟩ => ⟨S4x256x8192, .f32⟩
  | .hbm, ⟨103, _⟩ => ⟨S4x256x8192, .f32⟩
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v23 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v24 : Ref sig .tc := ⟨.hbm, 74, rfl⟩
abbrev main_v25 : Ref sig .tc := ⟨.hbm, 75, rfl⟩
abbrev main_cst : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_2 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v29 : Ref sig .tc := ⟨.hbm, 84, rfl⟩
abbrev main_cst_3 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_cst_4 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩

abbrev nD : Nat := 1
abbrev τ : Topo := Topo.v7x

variable {F : FTy → Type} [FloatOps F]
-- ==== Proj.lean ====
abbrev S4x4096x2048 : Shape := ⟨3, ![4, 4096, 2048]⟩
abbrev S2048 : Shape := ⟨1, ![2048]⟩
abbrev S2048x12816 : Shape := ⟨2, ![2048, 12816]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x4096 : Shape := ⟨2, ![2048, 4096]⟩
abbrev S2048x4608 : Shape := ⟨2, ![2048, 4608]⟩
abbrev S2048x12800 : Shape := ⟨2, ![2048, 12800]⟩
abbrev S16384x12800 : Shape := ⟨2, ![16384, 12800]⟩
abbrev S1024x2048 : Shape := ⟨2, ![1024, 2048]⟩
abbrev S2048x640 : Shape := ⟨2, ![2048, 640]⟩
abbrev S1024x640 : Shape := ⟨2, ![1024, 640]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S16384x1536 : Shape := ⟨2, ![16384, 1536]⟩
abbrev S512x512 : Shape := ⟨2, ![512, 512]⟩
abbrev S512x128 : Shape := ⟨2, ![512, 128]⟩
abbrev S4x4096x12800 : Shape := ⟨3, ![4, 4096, 12800]⟩
abbrev S4x4096x1536 : Shape := ⟨3, ![4, 4096, 1536]⟩
abbrev S4x3x3072 : Shape := ⟨3, ![4, 3, 3072]⟩
abbrev S4x128x512 : Shape := ⟨3, ![4, 128, 512]⟩
abbrev S4x128x4x128 : Shape := ⟨4, ![4, 128, 4, 128]⟩
abbrev S4x128x1x4x128 : Shape := ⟨5, ![4, 128, 1, 4, 128]⟩
abbrev S4x128x2x4x128 : Shape := ⟨5, ![4, 128, 2, 4, 128]⟩
abbrev S4x512x512 : Shape := ⟨3, ![4, 512, 512]⟩
abbrev S4x512x4x128 : Shape := ⟨4, ![4, 512, 4, 128]⟩
abbrev S4x512x1x4x128 : Shape := ⟨5, ![4, 512, 1, 4, 128]⟩
abbrev S4x512x2x4x128 : Shape := ⟨5, ![4, 512, 2, 4, 128]⟩
abbrev S4x2048x512 : Shape := ⟨3, ![4, 2048, 512]⟩
abbrev S4x2048x4x128 : Shape := ⟨4, ![4, 2048, 4, 128]⟩
abbrev S4x2048x1x4x128 : Shape := ⟨5, ![4, 2048, 1, 4, 128]⟩
abbrev S4x2048x2x4x128 : Shape := ⟨5, ![4, 2048, 2, 4, 128]⟩

abbrev nBuf : Space → Nat
  | .hbm => 65
  | .vmem => 23
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x12816, .f32⟩
  | .hbm, ⟨3, _⟩ => ⟨S16384x2048, .f32⟩
  | .hbm, ⟨4, _⟩ => ⟨S1x2048, .f32⟩
  | .hbm, ⟨5, _⟩ => ⟨S16384x2048, .bf16⟩
  | .hbm, ⟨6, _⟩ => ⟨S2048x4096, .f32⟩
  | .hbm, ⟨7, _⟩ => ⟨S2048x4096, .f32⟩
  | .hbm, ⟨8, _⟩ => ⟨S2048x4608, .f32⟩
  | .hbm, ⟨9, _⟩ => ⟨S2048x12800, .f32⟩
  | .hbm, ⟨10, _⟩ => ⟨S2048x12800, .bf16⟩
  | .hbm, ⟨11, _⟩ => ⟨S16384x12800, .f32⟩
  | .hbm, ⟨12, _⟩ => ⟨S4096, .i32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S4096, .f32⟩
  | .hbm, ⟨25, _⟩ => ⟨S4096x1, .f32⟩
  | .hbm, ⟨26, _⟩ => ⟨S1x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S_, .f32⟩
  | .hbm, ⟨33, _⟩ => ⟨S4096x96, .f32⟩
  | .hbm, ⟨34, _⟩ => ⟨S4096x128, .f32⟩
  | .hbm, ⟨35, _⟩ => ⟨S4096x16, .f32⟩
  | .hbm, ⟨36, _⟩ => ⟨S_, .f32⟩
  | .hbm, ⟨37, _⟩ => ⟨S4096x96, .f32⟩
  | .hbm, ⟨38, _⟩ => ⟨S4096x128, .f32⟩
  | .hbm, ⟨39, _⟩ => ⟨S16384x1536, .f32⟩
  | .hbm, ⟨40, _⟩ => ⟨S16384x1536, .f32⟩
  | .hbm, ⟨41, _⟩ => ⟨S4x4096x12800, .f32⟩
  | .hbm, ⟨42, _⟩ => ⟨S4x4096x1536, .f32⟩
  | .hbm, ⟨43, _⟩ => ⟨S4x3x3072, .f32⟩
  | .hbm, ⟨44, _⟩ => ⟨S4x128x512, .f32⟩
  | .hbm, ⟨45, _⟩ => ⟨S4x128x4x128, .f32⟩
  | .hbm, ⟨46, _⟩ => ⟨S4x128x512, .f32⟩
  | .hbm, ⟨47, _⟩ => ⟨S4x128x4x128, .f32⟩
  | .hbm, ⟨48, _⟩ => ⟨S4x128x1x4x128, .f32⟩
  | .hbm, ⟨49, _⟩ => ⟨S4x128x1x4x128, .f32⟩
  | .hbm, ⟨50, _⟩ => ⟨S4x128x2x4x128, .f32⟩
  | .hbm, ⟨51, _⟩ => ⟨S4x512x512, .f32⟩
  | .hbm, ⟨52, _⟩ => ⟨S4x512x4x128, .f32⟩
  | .hbm, ⟨53, _⟩ => ⟨S4x512x512, .f32⟩
  | .hbm, ⟨54, _⟩ => ⟨S4x512x4x128, .f32⟩
  | .hbm, ⟨55, _⟩ => ⟨S4x512x1x4x128, .f32⟩
  | .hbm, ⟨56, _⟩ => ⟨S4x512x1x4x128, .f32⟩
  | .hbm, ⟨57, _⟩ => ⟨S4x512x2x4x128, .f32⟩
  | .hbm, ⟨58, _⟩ => ⟨S4x2048x512, .f32⟩
  | .hbm, ⟨59, _⟩ => ⟨S4x2048x4x128, .f32⟩
  | .hbm, ⟨60, _⟩ => ⟨S4x2048x512, .f32⟩
  | .hbm, ⟨61, _⟩ => ⟨S4x2048x4x128, .f32⟩
  | .hbm, ⟨62, _⟩ => ⟨S4x2048x1x4x128, .f32⟩
  | .hbm, ⟨63, _⟩ => ⟨S4x2048x1x4x128, .f32⟩
  | .hbm, ⟨64, _⟩ => ⟨S4x2048x2x4x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x640, .bf16⟩
  | .local _ .vmem, ⟨8, _⟩ => ⟨S2048x640, .bf16⟩
  | .local _ .vmem, ⟨9, _⟩ => ⟨S1024x640, .f32⟩
  | .local _ .vmem, ⟨10, _⟩ => ⟨S1024x640, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31_0 : Ref sig .tc := ⟨.hbm, 39, rfl⟩
abbrev main_v31_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![20, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![32, 3], ![false, false]⟩

def cc2_transform_0 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc2_transform_1 (i : grid2.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc2_transform_2 (i : grid2.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_3 (i : grid2.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ProjRefIdeal.lean ====
abbrev S4x4096x2048 : Shape := ⟨3, ![4, 4096, 2048]⟩
abbrev S2048 : Shape := ⟨1, ![2048]⟩
abbrev S2048x12816 : Shape := ⟨2, ![2048, 12816]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x12816 : Shape := ⟨3, ![4, 4096, 12816]⟩
abbrev S4x4096x1024 : Shape := ⟨3, ![4, 4096, 1024]⟩
abbrev S4x4096x8 : Shape := ⟨3, ![4, 4096, 8]⟩
abbrev S4x4096x1536 : Shape := ⟨3, ![4, 4096, 1536]⟩
abbrev S4096 : Shape := ⟨1, ![4096]⟩
abbrev S4x4096x3x4x128 : Shape := ⟨5, ![4, 4096, 3, 4, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x1x16 : Shape := ⟨5, ![1, 4096, 1, 1, 16]⟩
abbrev S4x4096x3x4x32 : Shape := ⟨5, ![4, 4096, 3, 4, 32]⟩
abbrev S4x4096x3x4x16 : Shape := ⟨5, ![4, 4096, 3, 4, 16]⟩
abbrev S4x4096x3x4x96 : Shape := ⟨5, ![4, 4096, 3, 4, 96]⟩
abbrev S4x4096x3072 : Shape := ⟨3, ![4, 4096, 3072]⟩
abbrev S4x3x3072 : Shape := ⟨3, ![4, 3, 3072]⟩
abbrev S4x4096x1x4x128 : Shape := ⟨5, ![4, 4096, 1, 4, 128]⟩
abbrev S4x4096x4x128 : Shape := ⟨4, ![4, 4096, 4, 128]⟩
abbrev S4x4096x2x4x128 : Shape := ⟨5, ![4, 4096, 2, 4, 128]⟩
abbrev S4x128x2x4x128 : Shape := ⟨5, ![4, 128, 2, 4, 128]⟩
abbrev S4x512x2x4x128 : Shape := ⟨5, ![4, 512, 2, 4, 128]⟩
abbrev S4x2048x2x4x128 : Shape := ⟨5, ![4, 2048, 2, 4, 128]⟩
abbrev S4x4096x12800 : Shape := ⟨3, ![4, 4096, 12800]⟩
abbrev S16384x12800 : Shape := ⟨2, ![16384, 12800]⟩
abbrev S16384x1536 : Shape := ⟨2, ![16384, 1536]⟩

abbrev nBuf : Space → Nat
  | .hbm => 137
  | .vmem => 0
  | .smem => 0
  | _ => 0

abbrev hbmTy0_0 (i : Nat) : BufTy := match i % 128 with
  | 0 => ⟨S4x4096x2048, .f32⟩
  | 1 => ⟨S2048, .f32⟩
  | 2 => ⟨S2048x12816, .f32⟩
  | 3 => ⟨S4x4096x2048, .f32⟩
  | 4 => ⟨S_, .f32⟩
  | 5 => ⟨S4x4096, .f32⟩
  | 6 => ⟨S4x4096x1, .f32⟩
  | 7 => ⟨S_, .f32⟩
  | 8 => ⟨S4x4096x1, .f32⟩
  | 9 => ⟨S4x4096x1, .f32⟩
  | 10 => ⟨S_, .f32⟩
  | 11 => ⟨S4x4096x1, .f32⟩
  | 12 => ⟨S4x4096x1, .f32⟩
  | 13 => ⟨S4x4096x1, .f32⟩
  | 14 => ⟨S4x4096x2048, .f32⟩
  | 15 => ⟨S4x4096x2048, .f32⟩
  | 16 => ⟨S1x1x2048, .f32⟩
  | 17 => ⟨S4x4096x2048, .f32⟩
  | 18 => ⟨S4x4096x2048, .f32⟩
  | 19 => ⟨S4x4096x12816, .f32⟩
  | 20 => ⟨S4x4096x1024, .f32⟩
  | 21 => ⟨S4x4096x1024, .f32⟩
  | 22 => ⟨S4x4096x1024, .f32⟩
  | 23 => ⟨S4x4096x1024, .f32⟩
  | 24 => ⟨S4x4096x8, .f32⟩
  | 25 => ⟨S4x4096x8, .f32⟩
  | 26 => ⟨S4x4096x1536, .f32⟩
  | 27 => ⟨S4x4096x1536, .f32⟩
  | 28 => ⟨S4x4096x1536, .f32⟩
  | 29 => ⟨S4x4096x2048, .f32⟩
  | 30 => ⟨S4x4096x2048, .f32⟩
  | 31 => ⟨S4096, .i32⟩
  | 32 => ⟨S4x4096x3x4x128, .f32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S4096, .f32⟩
  | 45 => ⟨S4096x1, .f32⟩
  | 46 => ⟨S1x16, .f32⟩
  | 47 => ⟨S4096x16, .f32⟩
  | 48 => ⟨S4096x16, .f32⟩
  | 49 => ⟨S4096x16, .f32⟩
  | 50 => ⟨S1x4096x1x1x16, .f32⟩
  | 51 => ⟨S1x4096x1x1x16, .f32⟩
  | 52 => ⟨S1x4096x1x1x16, .f32⟩
  | 53 => ⟨S4x4096x3x4x32, .f32⟩
  | 54 => ⟨S4x4096x3x4x16, .f32⟩
  | 55 => ⟨S4x4096x3x4x16, .f32⟩
  | 56 => ⟨S4x4096x3x4x16, .f32⟩
  | 57 => ⟨S4x4096x3x4x16, .f32⟩
  | 58 => ⟨S4x4096x3x4x16, .f32⟩
  | 59 => ⟨S4x4096x3x4x16, .f32⟩
  | 60 => ⟨S4x4096x3x4x16, .f32⟩
  | 61 => ⟨S4x4096x3x4x16, .f32⟩
  | 62 => ⟨S4x4096x3x4x16, .f32⟩
  | 63 => ⟨S4x4096x3x4x16, .f32⟩
  | 64 => ⟨S4x4096x3x4x16, .f32⟩
  | 65 => ⟨S4x4096x3x4x16, .f32⟩
  | 66 => ⟨S4x4096x3x4x32, .f32⟩
  | 67 => ⟨S4x4096x3x4x96, .f32⟩
  | 68 => ⟨S4x4096x3x4x128, .f32⟩
  | 69 => ⟨S4x4096x3x4x128, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S4096, .f32⟩
  | 82 => ⟨S4096x1, .f32⟩
  | 83 => ⟨S1x16, .f32⟩
  | 84 => ⟨S4096x16, .f32⟩
  | 85 => ⟨S4096x16, .f32⟩
  | 86 => ⟨S4096x16, .f32⟩
  | 87 => ⟨S1x4096x1x1x16, .f32⟩
  | 88 => ⟨S1x4096x1x1x16, .f32⟩
  | 89 => ⟨S1x4096x1x1x16, .f32⟩
  | 90 => ⟨S4x4096x3x4x32, .f32⟩
  | 91 => ⟨S4x4096x3x4x16, .f32⟩
  | 92 => ⟨S4x4096x3x4x16, .f32⟩
  | 93 => ⟨S4x4096x3x4x16, .f32⟩
  | 94 => ⟨S4x4096x3x4x16, .f32⟩
  | 95 => ⟨S4x4096x3x4x16, .f32⟩
  | 96 => ⟨S4x4096x3x4x16, .f32⟩
  | 97 => ⟨S4x4096x3x4x16, .f32⟩
  | 98 => ⟨S4x4096x3x4x16, .f32⟩
  | 99 => ⟨S4x4096x3x4x16, .f32⟩
  | 100 => ⟨S4x4096x3x4x16, .f32⟩
  | 101 => ⟨S4x4096x3x4x16, .f32⟩
  | 102 => ⟨S4x4096x3x4x16, .f32⟩
  | 103 => ⟨S4x4096x3x4x32, .f32⟩
  | 104 => ⟨S4x4096x3x4x96, .f32⟩
  | 105 => ⟨S4x4096x3x4x128, .f32⟩
  | 106 => ⟨S4x4096x3x4x128, .f32⟩
  | 107 => ⟨S4x4096x3072, .f32⟩
  | 108 => ⟨S4x3x3072, .f32⟩
  | 109 => ⟨S4x4096x1x4x128, .f32⟩
  | 110 => ⟨S4x4096x4x128, .f32⟩
  | 111 => ⟨S4x4096x1x4x128, .f32⟩
  | 112 => ⟨S4x4096x4x128, .f32⟩
  | 113 => ⟨S4x4096x1x4x128, .f32⟩
  | 114 => ⟨S4x4096x1x4x128, .f32⟩
  | 115 => ⟨S4x4096x2x4x128, .f32⟩
  | 116 => ⟨S4x128x2x4x128, .f32⟩
  | 117 => ⟨S4x4096x1x4x128, .f32⟩
  | 118 => ⟨S4x4096x4x128, .f32⟩
  | 119 => ⟨S4x4096x1x4x128, .f32⟩
  | 120 => ⟨S4x4096x4x128, .f32⟩
  | 121 => ⟨S4x4096x1x4x128, .f32⟩
  | 122 => ⟨S4x4096x1x4x128, .f32⟩
  | 123 => ⟨S4x4096x2x4x128, .f32⟩
  | 124 => ⟨S4x512x2x4x128, .f32⟩
  | 125 => ⟨S4x4096x1x4x128, .f32⟩
  | 126 => ⟨S4x4096x4x128, .f32⟩
  | 127 => ⟨S4x4096x1x4x128, .f32⟩
  | _ => ⟨S4x4096x2048, .f32⟩

abbrev hbmTy0_1 (i : Nat) : BufTy := match i % 128 with
  | 0 => ⟨S4x4096x4x128, .f32⟩
  | 1 => ⟨S4x4096x1x4x128, .f32⟩
  | 2 => ⟨S4x4096x1x4x128, .f32⟩
  | 3 => ⟨S4x4096x2x4x128, .f32⟩
  | 4 => ⟨S4x2048x2x4x128, .f32⟩
  | 5 => ⟨S4x4096x12800, .f32⟩
  | 6 => ⟨S16384x12800, .f32⟩
  | 7 => ⟨S16384x1536, .f32⟩
  | 8 => ⟨S16384x1536, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_cst_6 : Ref sig .tc := ⟨.hbm, 75, rfl⟩
abbrev main_v65 : Ref sig .tc := ⟨.hbm, 76, rfl⟩
abbrev main_v66 : Ref sig .tc := ⟨.hbm, 77, rfl⟩
abbrev main_cst_7 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩

abbrev nD : Nat := 1
abbrev τ : Topo := Topo.v7x

variable {F : FTy → Type} [FloatOps F]
-- ==== Mix.lean ====
abbrev S16384x1024 : Shape := ⟨2, ![16384, 1024]⟩
abbrev S16384x512 : Shape := ⟨2, ![16384, 512]⟩
abbrev S16384x12800 : Shape := ⟨2, ![16384, 12800]⟩
abbrev S16384x2048 : Shape := ⟨2, ![16384, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x12800, .f32⟩
  | .hbm, ⟨8, _⟩ => ⟨S16384x2048, .f32⟩
  | .hbm, ⟨9, _⟩ => ⟨S1024x2048, .f32⟩
  | .hbm, ⟨10, _⟩ => ⟨S512x2048, .f32⟩
  | .hbm, ⟨11, _⟩ => ⟨S2048x2048, .f32⟩
  | .hbm, ⟨12, _⟩ => ⟨S2048, .f32⟩
  | .hbm, ⟨13, _⟩ => ⟨S1024x2048, .bf16⟩
  | .hbm, ⟨14, _⟩ => ⟨S512x2048, .bf16⟩
  | .hbm, ⟨15, _⟩ => ⟨S2048x2048, .bf16⟩
  | .hbm, ⟨16, _⟩ => ⟨S1x2048, .f32⟩
  | .hbm, ⟨17, _⟩ => ⟨S16384x2048, .f32⟩
  | .hbm, ⟨18, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S1024x2048, .bf16⟩
  | .local _ .vmem, ⟨21, _⟩ => ⟨S512x2048, .bf16⟩
  | .local _ .vmem, ⟨22, _⟩ => ⟨S2048x2048, .bf16⟩
  | .local _ .vmem, ⟨23, _⟩ => ⟨S1x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixRefIdeal.lean ====
abbrev S16384x1024 : Shape := ⟨2, ![16384, 1024]⟩
abbrev S16384x512 : Shape := ⟨2, ![16384, 512]⟩
abbrev S16384x12800 : Shape := ⟨2, ![16384, 12800]⟩
abbrev S16384x2048 : Shape := ⟨2, ![16384, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S1x16384x512 : Shape := ⟨3, ![1, 16384, 512]⟩
abbrev S3x16384x512 : Shape := ⟨3, ![3, 16384, 512]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x12800, .f32⟩
  | .hbm, ⟨8, _⟩ => ⟨S16384x2048, .f32⟩
  | .hbm, ⟨9, _⟩ => ⟨S1024x2048, .f32⟩
  | .hbm, ⟨10, _⟩ => ⟨S512x2048, .f32⟩
  | .hbm, ⟨11, _⟩ => ⟨S2048x2048, .f32⟩
  | .hbm, ⟨12, _⟩ => ⟨S2048, .f32⟩
  | .hbm, ⟨13, _⟩ => ⟨S1x16384x512, .f32⟩
  | .hbm, ⟨14, _⟩ => ⟨S1x16384x512, .f32⟩
  | .hbm, ⟨15, _⟩ => ⟨S1x16384x512, .f32⟩
  | .hbm, ⟨16, _⟩ => ⟨S3x16384x512, .f32⟩
  | .hbm, ⟨17, _⟩ => ⟨S1x16384x512, .f32⟩
  | .hbm, ⟨18, _⟩ => ⟨S1x16384x512, .f32⟩
  | .hbm, ⟨19, _⟩ => ⟨S1x16384x512, .f32⟩
  | .hbm, ⟨20, _⟩ => ⟨S3x16384x512, .f32⟩
  | .hbm, ⟨21, _⟩ => ⟨S_, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S1x16384x512, .f32⟩
  | .hbm, ⟨27, _⟩ => ⟨S3x16384x512, .f32⟩
  | .hbm, ⟨28, _⟩ => ⟨S3x16384x512, .f32⟩
  | .hbm, ⟨29, _⟩ => ⟨S3x16384x512, .f32⟩
  | .hbm, ⟨30, _⟩ => ⟨S_, .f32⟩
  | .hbm, ⟨31, _⟩ => ⟨S16384x512, .f32⟩
  | .hbm, ⟨32, _⟩ => ⟨S1x16384x512, .f32⟩
  | .hbm, ⟨33, _⟩ => ⟨S3x16384x512, .f32⟩
  | .hbm, ⟨34, _⟩ => ⟨S3x16384x512, .f32⟩
  | .hbm, ⟨35, _⟩ => ⟨S3x16384x512, .f32⟩
  | .hbm, ⟨36, _⟩ => ⟨S_, .f32⟩
  | .hbm, ⟨37, _⟩ => ⟨S16384x512, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x2048, .f32⟩
  | .hbm, ⟨75, _⟩ => ⟨S16384x2048, .f32⟩
  | .hbm, ⟨76, _⟩ => ⟨S1x2048, .f32⟩
  | .hbm, ⟨77, _⟩ => ⟨S16384x2048, .f32⟩
  | .hbm, ⟨78, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Peer.lean ====
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .bf16⟩
  | .hbm, ⟨3, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerRefIdeal.lean ====
abbrev S16384x2048 : Shape := ⟨2, ![16384, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Step.lean ====
abbrev S32x1x2048 : Shape := ⟨3, ![32, 1, 2048]⟩
abbrev S2048 : Shape := ⟨1, ![2048]⟩
abbrev S2048x12816 : Shape := ⟨2, ![2048, 12816]⟩
abbrev S32x3x3072 : Shape := ⟨3, ![32, 3, 3072]⟩
abbrev S32x128x2x4x128 : Shape := ⟨5, ![32, 128, 2, 4, 128]⟩
abbrev S32x512x2x4x128 : Shape := ⟨5, ![32, 512, 2, 4, 128]⟩
abbrev S32x2048x2x4x128 : Shape := ⟨5, ![32, 2048, 2, 4, 128]⟩
abbrev S32x2048 : Shape := ⟨2, ![32, 2048]⟩
abbrev S1x2048 : Shape := ⟨2, ![1, 2048]⟩
abbrev S32 : Shape := ⟨1, ![32]⟩
abbrev S32x1 : Shape := ⟨2, ![32, 1]⟩
abbrev S2048x4096 : Shape := ⟨2, ![2048, 4096]⟩
abbrev S2048x4608 : Shape := ⟨2, ![2048, 4608]⟩
abbrev S2048x12800 : Shape := ⟨2, ![2048, 12800]⟩
abbrev S32x12800 : Shape := ⟨2, ![32, 12800]⟩
abbrev S2048x640 : Shape := ⟨2, ![2048, 640]⟩
abbrev S32x640 : Shape := ⟨2, ![32, 640]⟩
abbrev S1 : Shape := ⟨1, ![1]⟩
abbrev S_ : Shape := ⟨0, ![]⟩
abbrev S16 : Shape := ⟨1, ![16]⟩
abbrev S1x1 : Shape := ⟨2, ![1, 1]⟩
abbrev S1x16 : Shape := ⟨2, ![1, 16]⟩
abbrev S1x96 : Shape := ⟨2, ![1, 96]⟩
abbrev S1x128 : Shape := ⟨2, ![1, 128]⟩
abbrev S1x1x1x128 : Shape := ⟨4, ![1, 1, 1, 128]⟩
abbrev S32x1x1x128 : Shape := ⟨4, ![32, 1, 1, 128]⟩
abbrev S32x128 : Shape := ⟨2, ![32, 128]⟩
abbrev S32x1536 : Shape := ⟨2, ![32, 1536]⟩
abbrev S32x512 : Shape := ⟨2, ![32, 512]⟩
abbrev S32x1x12800 : Shape := ⟨3, ![32, 1, 12800]⟩
abbrev S32x1x1536 : Shape := ⟨3, ![32, 1, 1536]⟩
abbrev S32x1x3072 : Shape := ⟨3, ![32, 1, 3072]⟩
abbrev S32x4x3072 : Shape := ⟨3, ![32, 4, 3072]⟩
abbrev S32x1x512 : Shape := ⟨3, ![32, 1, 512]⟩
abbrev S32x1x4x128 : Shape := ⟨4, ![32, 1, 4, 128]⟩
abbrev S32x1x1x4x128 : Shape := ⟨5, ![32, 1, 1, 4, 128]⟩
abbrev S32x1x2x4x128 : Shape := ⟨5, ![32, 1, 2, 4, 128]⟩
abbrev S32x129x2x4x128 : Shape := ⟨5, ![32, 129, 2, 4, 128]⟩
abbrev S32x513x2x4x128 : Shape := ⟨5, ![32, 513, 2, 4, 128]⟩
abbrev S32x2049x2x4x128 : Shape := ⟨5, ![32, 2049, 2, 4, 128]⟩

abbrev nBuf : Space → Nat
  | .hbm => 85
  | .vmem => 18
  | .smem => 0
  | _ => 0

abbrev bufTy : (tb : Table) → Fin (tcTables nBuf tb) → BufTy
  | .hbm, ⟨0, _⟩ => ⟨S32x1x2048, .f32⟩
  | .hbm, ⟨1, _⟩ => ⟨S2048, .f32⟩
  | .hbm, ⟨2, _⟩ => ⟨S2048x12816, .f32⟩
  | .hbm, ⟨3, _⟩ => ⟨S32x3x3072, .f32⟩
  | .hbm, ⟨4, _⟩ => ⟨S32x128x2x4x128, .f32⟩
  | .hbm, ⟨5, _⟩ => ⟨S32x512x2x4x128, .f32⟩
  | .hbm, ⟨6, _⟩ => ⟨S32x2048x2x4x128, .f32⟩
  | .hbm, ⟨7, _⟩ => ⟨S32x2048, .f32⟩
  | .hbm, ⟨8, _⟩ => ⟨S1x2048, .f32⟩
  | .hbm, ⟨9, _⟩ => ⟨S32x2048, .bf16⟩
  | .hbm, ⟨10, _⟩ => ⟨S2048x4096, .f32⟩
  | .hbm, ⟨11, _⟩ => ⟨S2048x4096, .f32⟩
  | .hbm, ⟨12, _⟩ => ⟨S2048x4608, .f32⟩
  | .hbm, ⟨13, _⟩ => ⟨S2048x12800, .f32⟩
  | .hbm, ⟨14, _⟩ => ⟨S2048x12800, .bf16⟩
  | .hbm, ⟨15, _⟩ => ⟨S32x12800, .f32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S1, .f32⟩
  | .hbm, ⟨32, _⟩ => ⟨S1x1, .f32⟩
  | .hbm, ⟨33, _⟩ => ⟨S1x16, .f32⟩
  | .hbm, ⟨34, _⟩ => ⟨S1x16, .f32⟩
  | .hbm, ⟨35, _⟩ => ⟨S1x16, .f32⟩
  | .hbm, ⟨36, _⟩ => ⟨S1x16, .f32⟩
  | .hbm, ⟨37, _⟩ => ⟨S1x16, .f32⟩
  | .hbm, ⟨38, _⟩ => ⟨S_, .f32⟩
  | .hbm, ⟨39, _⟩ => ⟨S1x96, .f32⟩
  | .hbm, ⟨40, _⟩ => ⟨S1x128, .f32⟩
  | .hbm, ⟨41, _⟩ => ⟨S1x16, .f32⟩
  | .hbm, ⟨42, _⟩ => ⟨S_, .f32⟩
  | .hbm, ⟨43, _⟩ => ⟨S1x96, .f32⟩
  | .hbm, ⟨44, _⟩ => ⟨S1x128, .f32⟩
  | .hbm, ⟨45, _⟩ => ⟨S1x1x1x128, .f32⟩
  | .hbm, ⟨46, _⟩ => ⟨S32x1x1x128, .f32⟩
  | .hbm, ⟨47, _⟩ => ⟨S32x128, .f32⟩
  | .hbm, ⟨48, _⟩ => ⟨S1x1x1x128, .f32⟩
  | .hbm, ⟨49, _⟩ => ⟨S32x1x1x128, .f32⟩
  | .hbm, ⟨50, _⟩ => ⟨S32x128, .f32⟩
  | .hbm, ⟨51, _⟩ => ⟨S32x1536, .f32⟩
  | .hbm, ⟨52, _⟩ => ⟨S32x1536, .f32⟩
  | .hbm, ⟨53, _⟩ => ⟨S32x1x12800, .f32⟩
  | .hbm, ⟨54, _⟩ => ⟨S32x1x1536, .f32⟩
  | .hbm, ⟨55, _⟩ => ⟨S32x1x3072, .f32⟩
  | .hbm, ⟨56, _⟩ => ⟨S32x4x3072, .f32⟩
  | .hbm, ⟨57, _⟩ => ⟨S32x3x3072, .f32⟩
  | .hbm, ⟨58, _⟩ => ⟨S32x1x512, .f32⟩
  | .hbm, ⟨59, _⟩ => ⟨S32x1x4x128, .f32⟩
  | .hbm, ⟨60, _⟩ => ⟨S32x1x512, .f32⟩
  | .hbm, ⟨61, _⟩ => ⟨S32x1x4x128, .f32⟩
  | .hbm, ⟨62, _⟩ => ⟨S32x1x1x4x128, .f32⟩
  | .hbm, ⟨63, _⟩ => ⟨S32x1x1x4x128, .f32⟩
  | .hbm, ⟨64, _⟩ => ⟨S32x1x2x4x128, .f32⟩
  | .hbm, ⟨65, _⟩ => ⟨S32x129x2x4x128, .f32⟩
  | .hbm, ⟨66, _⟩ => ⟨S32x128x2x4x128, .f32⟩
  | .hbm, ⟨67, _⟩ => ⟨S32x1x512, .f32⟩
  | .hbm, ⟨68, _⟩ => ⟨S32x1x4x128, .f32⟩
  | .hbm, ⟨69, _⟩ => ⟨S32x1x512, .f32⟩
  | .hbm, ⟨70, _⟩ => ⟨S32x1x4x128, .f32⟩
  | .hbm, ⟨71, _⟩ => ⟨S32x1x1x4x128, .f32⟩
  | .hbm, ⟨72, _⟩ => ⟨S32x1x1x4x128, .f32⟩
  | .hbm, ⟨73, _⟩ => ⟨S32x1x2x4x128, .f32⟩
  | .hbm, ⟨74, _⟩ => ⟨S32x513x2x4x128, .f32⟩
  | .hbm, ⟨75, _⟩ => ⟨S32x512x2x4x128, .f32⟩
  | .hbm, ⟨76, _⟩ => ⟨S32x1x512, .f32⟩
  | .hbm, ⟨77, _⟩ => ⟨S32x1x4x128, .f32⟩
  | .hbm, ⟨78, _⟩ => ⟨S32x1x512, .f32⟩
  | .hbm, ⟨79, _⟩ => ⟨S32x1x4x128, .f32⟩
  | .hbm, ⟨80, _⟩ => ⟨S32x1x1x4x128, .f32⟩
  | .hbm, ⟨81, _⟩ => ⟨S32x1x1x4x128, .f32⟩
  | .hbm, ⟨82, _⟩ => ⟨S32x1x2x4x128, .f32⟩
  | .hbm, ⟨83, _⟩ => ⟨S32x2049x2x4x128, .f32⟩
  | .hbm, ⟨84, _⟩ => ⟨S32x2048x2x4x128, .f32⟩
  | .local _ .vmem, ⟨0, _⟩ => ⟨S32x2048, .f32⟩
  | .local _ .vmem, ⟨1, _⟩ => ⟨S1x2048, .f32⟩
  | .local _ .vmem, ⟨2, _⟩ => ⟨S32x2048, .bf16⟩
  | .local _ .vmem, ⟨3, _⟩ => ⟨S32x2048, .bf16⟩
  | .local _ .vmem, ⟨4, _⟩ => ⟨S2048x640, .bf16⟩
  | .local _ .vmem, ⟨5, _⟩ => ⟨S2048x640, .bf16⟩
  | .local _ .vmem, ⟨6, _⟩ => ⟨S32x640, .f32⟩
  | .local _ .vmem, ⟨7, _⟩ => ⟨S32x640, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x128, .f32⟩
  | .local _ .vmem, ⟨13, _⟩ => ⟨S32x128, .f32⟩
  | .local _ .vmem, ⟨14, _⟩ => ⟨S32x512, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38_0 : Ref sig .tc := ⟨.hbm, 51, rfl⟩
abbrev main_v38_1 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem4_1 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![20, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S32x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S2048x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S32x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 3], ![false, false]⟩

def cc2_transform_0 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc2_transform_1 (i : grid2.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S32x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S32x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S32x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S32x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== StepRefIdeal.lean ====
abbrev S32x1x2048 : Shape := ⟨3, ![32, 1, 2048]⟩
abbrev S2048 : Shape := ⟨1, ![2048]⟩
abbrev S2048x12816 : Shape := ⟨2, ![2048, 12816]⟩
abbrev S32x3x3072 : Shape := ⟨3, ![32, 3, 3072]⟩
abbrev S32x128x2x4x128 : Shape := ⟨5, ![32, 128, 2, 4, 128]⟩
abbrev S32x512x2x4x128 : Shape := ⟨5, ![32, 512, 2, 4, 128]⟩
abbrev S32x2048x2x4x128 : Shape := ⟨5, ![32, 2048, 2, 4, 128]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S32x1x12816 : Shape := ⟨3, ![32, 1, 12816]⟩
abbrev S32x1x1024 : Shape := ⟨3, ![32, 1, 1024]⟩
abbrev S32x1x8 : Shape := ⟨3, ![32, 1, 8]⟩
abbrev S32x1x1536 : Shape := ⟨3, ![32, 1, 1536]⟩
abbrev S32x1x3x4x128 : Shape := ⟨5, ![32, 1, 3, 4, 128]⟩
abbrev S1 : Shape := ⟨1, ![1]⟩
abbrev S16 : Shape := ⟨1, ![16]⟩
abbrev S1x1 : Shape := ⟨2, ![1, 1]⟩
abbrev S1x16 : Shape := ⟨2, ![1, 16]⟩
abbrev S1x1x1x1x16 : Shape := ⟨5, ![1, 1, 1, 1, 16]⟩
abbrev S32x1x3x4x32 : Shape := ⟨5, ![32, 1, 3, 4, 32]⟩
abbrev S32x1x3x4x16 : Shape := ⟨5, ![32, 1, 3, 4, 16]⟩
abbrev S32x1x3x4x96 : Shape := ⟨5, ![32, 1, 3, 4, 96]⟩
abbrev S32x1x3072 : Shape := ⟨3, ![32, 1, 3072]⟩
abbrev S32x4x3072 : Shape := ⟨3, ![32, 4, 3072]⟩
abbrev S32x128x1x4x128 : Shape := ⟨5, ![32, 128, 1, 4, 128]⟩
abbrev S32x128x4x128 : Shape := ⟨4, ![32, 128, 4, 128]⟩
abbrev S32x1x1x4x128 : Shape := ⟨5, ![32, 1, 1, 4, 128]⟩
abbrev S32x1x4x128 : Shape := ⟨4, ![32, 1, 4, 128]⟩
abbrev S32x129x4x128 : Shape := ⟨4, ![32, 129, 4, 128]⟩
abbrev S32x129x1x4x128 : Shape := ⟨5, ![32, 129, 1, 4, 128]⟩
abbrev S32x129x2x4x128 : Shape := ⟨5, ![32, 129, 2, 4, 128]⟩
abbrev S32x512x1x4x128 : Shape := ⟨5, ![32, 512, 1, 4, 128]⟩
abbrev S32x512x4x128 : Shape := ⟨4, ![32, 512, 4, 128]⟩
abbrev S32x513x4x128 : Shape := ⟨4, ![32, 513, 4, 128]⟩
abbrev S32x513x1x4x128 : Shape := ⟨5, ![32, 513, 1, 4, 128]⟩
abbrev S32x513x2x4x128 : Shape := ⟨5, ![32, 513, 2, 4, 128]⟩
abbrev S32x2048x1x4x128 : Shape := ⟨5, ![32, 2048, 1, 4, 128]⟩
abbrev S32x2048x4x128 : Shape := ⟨4, ![32, 2048, 4, 128]⟩
abbrev S32x2049x4x128 : Shape := ⟨4, ![32, 2049, 4, 128]⟩
abbrev S32x2049x1x4x128 : Shape := ⟨5, ![32, 2049, 1, 4, 128]⟩
abbrev S32x2049x2x4x128 : Shape := ⟨5, ![32, 2049, 2, 4, 128]⟩

abbrev nBuf : Space → Nat
  | .hbm => 121
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2048, .f32⟩
  | .hbm, ⟨2, _⟩ => ⟨S2048x12816, .f32⟩
  | .hbm, ⟨3, _⟩ => ⟨S32x3x3072, .f32⟩
  | .hbm, ⟨4, _⟩ => ⟨S32x128x2x4x128, .f32⟩
  | .hbm, ⟨5, _⟩ => ⟨S32x512x2x4x128, .f32⟩
  | .hbm, ⟨6, _⟩ => ⟨S32x2048x2x4x128, .f32⟩
  | .hbm, ⟨7, _⟩ => ⟨S32x1x2048, .f32⟩
  | .hbm, ⟨8, _⟩ => ⟨S_, .f32⟩
  | .hbm, ⟨9, _⟩ => ⟨S32x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S_, .f32⟩
  | .hbm, ⟨15, _⟩ => ⟨S32x1x1, .f32⟩
  | .hbm, ⟨16, _⟩ => ⟨S32x1x1, .f32⟩
  | .hbm, ⟨17, _⟩ => ⟨S32x1x1, .f32⟩
  | .hbm, ⟨18, _⟩ => ⟨S32x1x2048, .f32⟩
  | .hbm, ⟨19, _⟩ => ⟨S32x1x2048, .f32⟩
  | .hbm, ⟨20, _⟩ => ⟨S1x1x2048, .f32⟩
  | .hbm, ⟨21, _⟩ => ⟨S32x1x2048, .f32⟩
  | .hbm, ⟨22, _⟩ => ⟨S32x1x2048, .f32⟩
  | .hbm, ⟨23, _⟩ => ⟨S32x1x12816, .f32⟩
  | .hbm, ⟨24, _⟩ => ⟨S32x1x1024, .f32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S32x1x8, .f32⟩
  | .hbm, ⟨29, _⟩ => ⟨S32x1x8, .f32⟩
  | .hbm, ⟨30, _⟩ => ⟨S32x1x1536, .f32⟩
  | .hbm, ⟨31, _⟩ => ⟨S32x1x1536, .f32⟩
  | .hbm, ⟨32, _⟩ => ⟨S32x1x1536, .f32⟩
  | .hbm, ⟨33, _⟩ => ⟨S32x1x2048, .f32⟩
  | .hbm, ⟨34, _⟩ => ⟨S32x1x2048, .f32⟩
  | .hbm, ⟨35, _⟩ => ⟨S32x1x3x4x128, .f32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S1, .i32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S1, .f32⟩
  | .hbm, ⟨52, _⟩ => ⟨S1x1, .f32⟩
  | .hbm, ⟨53, _⟩ => ⟨S1x16, .f32⟩
  | .hbm, ⟨54, _⟩ => ⟨S1x16, .f32⟩
  | .hbm, ⟨55, _⟩ => ⟨S1x16, .f32⟩
  | .hbm, ⟨56, _⟩ => ⟨S1x1x1x1x16, .f32⟩
  | .hbm, ⟨57, _⟩ => ⟨S1x1x1x1x16, .f32⟩
  | .hbm, ⟨58, _⟩ => ⟨S1x1x1x1x16, .f32⟩
  | .hbm, ⟨59, _⟩ => ⟨S32x1x3x4x32, .f32⟩
  | .hbm, ⟨60, _⟩ => ⟨S32x1x3x4x16, .f32⟩
  | .hbm, ⟨61, _⟩ => ⟨S32x1x3x4x16, .f32⟩
  | .hbm, ⟨62, _⟩ => ⟨S32x1x3x4x16, .f32⟩
  | .hbm, ⟨63, _⟩ => ⟨S32x1x3x4x16, .f32⟩
  | .hbm, ⟨64, _⟩ => ⟨S32x1x3x4x16, .f32⟩
  | .hbm, ⟨65, _⟩ => ⟨S32x1x3x4x16, .f32⟩
  | .hbm, ⟨66, _⟩ => ⟨S32x1x3x4x16, .f32⟩
  | .hbm, ⟨67, _⟩ => ⟨S32x1x3x4x16, .f32⟩
  | .hbm, ⟨68, _⟩ => ⟨S32x1x3x4x16, .f32⟩
  | .hbm, ⟨69, _⟩ => ⟨S32x1x3x4x16, .f32⟩
  | .hbm, ⟨70, _⟩ => ⟨S32x1x3x4x16, .f32⟩
  | .hbm, ⟨71, _⟩ => ⟨S32x1x3x4x16, .f32⟩
  | .hbm, ⟨72, _⟩ => ⟨S32x1x3x4x32, .f32⟩
  | .hbm, ⟨73, _⟩ => ⟨S32x1x3x4x96, .f32⟩
  | .hbm, ⟨74, _⟩ => ⟨S32x1x3x4x128, .f32⟩
  | .hbm, ⟨75, _⟩ => ⟨S32x1x3x4x128, .f32⟩
  | .hbm, ⟨76, _⟩ => ⟨S32x1x3072, .f32⟩
  | .hbm, ⟨77, _⟩ => ⟨S32x4x3072, .f32⟩
  | .hbm, ⟨78, _⟩ => ⟨S32x3x3072, .f32⟩
  | .hbm, ⟨79, _⟩ => ⟨S32x128x1x4x128, .f32⟩
  | .hbm, ⟨80, _⟩ => ⟨S32x128x4x128, .f32⟩
  | .hbm, ⟨81, _⟩ => ⟨S32x1x1x4x128, .f32⟩
  | .hbm, ⟨82, _⟩ => ⟨S32x1x4x128, .f32⟩
  | .hbm, ⟨83, _⟩ => ⟨S32x129x4x128, .f32⟩
  | .hbm, ⟨84, _⟩ => ⟨S32x128x1x4x128, .f32⟩
  | .hbm, ⟨85, _⟩ => ⟨S32x128x4x128, .f32⟩
  | .hbm, ⟨86, _⟩ => ⟨S32x1x1x4x128, .f32⟩
  | .hbm, ⟨87, _⟩ => ⟨S32x1x4x128, .f32⟩
  | .hbm, ⟨88, _⟩ => ⟨S32x129x4x128, .f32⟩
  | .hbm, ⟨89, _⟩ => ⟨S32x129x1x4x128, .f32⟩
  | .hbm, ⟨90, _⟩ => ⟨S32x129x1x4x128, .f32⟩
  | .hbm, ⟨91, _⟩ => ⟨S32x129x2x4x128, .f32⟩
  | .hbm, ⟨92, _⟩ => ⟨S32x128x2x4x128, .f32⟩
  | .hbm, ⟨93, _⟩ => ⟨S32x512x1x4x128, .f32⟩
  | .hbm, ⟨94, _⟩ => ⟨S32x512x4x128, .f32⟩
  | .hbm, ⟨95, _⟩ => ⟨S32x1x1x4x128, .f32⟩
  | .hbm, ⟨96, _⟩ => ⟨S32x1x4x128, .f32⟩
  | .hbm, ⟨97, _⟩ => ⟨S32x513x4x128, .f32⟩
  | .hbm, ⟨98, _⟩ => ⟨S32x512x1x4x128, .f32⟩
  | .hbm, ⟨99, _⟩ => ⟨S32x512x4x128, .f32⟩
  | .hbm, ⟨100, _⟩ => ⟨S32x1x1x4x128, .f32⟩
  | .hbm, ⟨101, _⟩ => ⟨S32x1x4x128, .f32⟩
  | .hbm, ⟨102, _⟩ => ⟨S32x513x4x128, .f32⟩
  | .hbm, ⟨103, _⟩ => ⟨S32x513x1x4x128, .f32⟩
  | .hbm, ⟨104, _⟩ => ⟨S32x513x1x4x128, .f32⟩
  | .hbm, ⟨105, _⟩ => ⟨S32x513x2x4x128, .f32⟩
  | .hbm, ⟨106, _⟩ => ⟨S32x512x2x4x128, .f32⟩
  | .hbm, ⟨107, _⟩ => ⟨S32x2048x1x4x128, .f32⟩
  | .hbm, ⟨108, _⟩ => ⟨S32x2048x4x128, .f32⟩
  | .hbm, ⟨109, _⟩ => ⟨S32x1x1x4x128, .f32⟩
  | .hbm, ⟨110, _⟩ => ⟨S32x1x4x128, .f32⟩
  | .hbm, ⟨111, _⟩ => ⟨S32x2049x4x128, .f32⟩
  | .hbm, ⟨112, _⟩ => ⟨S32x2048x1x4x128, .f32⟩
  | .hbm, ⟨113, _⟩ => ⟨S32x2048x4x128, .f32⟩
  | .hbm, ⟨114, _⟩ => ⟨S32x1x1x4x128, .f32⟩
  | .hbm, ⟨115, _⟩ => ⟨S32x1x4x128, .f32⟩
  | .hbm, ⟨116, _⟩ => ⟨S32x2049x4x128, .f32⟩
  | .hbm, ⟨117, _⟩ => ⟨S32x2049x1x4x128, .f32⟩
  | .hbm, ⟨118, _⟩ => ⟨S32x2049x1x4x128, .f32⟩
  | .hbm, ⟨119, _⟩ => ⟨S32x2049x2x4x128, .f32⟩
  | .hbm, ⟨120, _⟩ => ⟨S32x2048x2x4x128, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩

abbrev nD : Nat := 1
abbrev τ : Topo := Topo.v7x

variable {F : FTy → Type} [FloatOps F]
-- ==== Proof.Window.lean ====
module

public import Idealize.ShloMosaic.PureOps.Ideal.Laws
public import Idealize.ShloMosaic.Lib.ValueIdx

@[expose] public section

noncomputable section

namespace Cert.Window

open Idealize.ShloMosaic

/-! # Attention over a window of 129 positions, seen as two blocks of 128 keys

Row `r` of a query block looks back over the 129 positions `0 … 128` steps behind it. A position `n ≤ r` steps behind
lies in the row's own block of keys, at place `r - n`; a position `n > r` steps behind lies in the block before, at
place `128 + r - n`. The first block has no block before it. -/

/-- A place `j ≤ r` of the own block is `r - j` steps behind. -/
abbrev back (r j : Fin 128) : Fin 129 := ⟨r.val - j.val, by omega⟩

/-- A place `j ≥ r` of the block before is `128 + r - j` steps behind. -/
abbrev far (r j : Fin 128) (h : r.val ≤ j.val) : Fin 129 := ⟨128 + r.val - j.val, by omega⟩

/-- A sum over the window is the sum over the two key blocks, whatever is outside the window counting zero. -/
theorem sum_blocks (r : Fin 128) (p : Prop) [Decidable p] (g : Fin 129 → EReal) (a b : Fin 128 → EReal)
    (ha : ∀ j (h : r.val ≤ j.val), p → a j = g (far r j h)) (ha0 : ∀ j, ¬(r.val ≤ j.val ∧ p) → a j = 0)
    (hb : ∀ j : Fin 128, j.val ≤ r.val → b j = g (back r j)) (hb0 : ∀ j : Fin 128, ¬ j.val ≤ r.val → b j = 0)
    (hg : ¬p → ∀ n : Fin 129, r.val < n.val → g n = 0) :
    ∑ j, a j + ∑ j, b j = ∑ n, g n := by
  rw [← Finset.sum_filter_add_sum_filter_not Finset.univ (fun n : Fin 129 => r.val < n.val) g]
  congr 1
  · by_cases hp : p
    · rw [← Finset.sum_filter_add_sum_filter_not Finset.univ (fun j : Fin 128 => r.val ≤ j.val) a,
        Finset.sum_eq_zero (s := Finset.univ.filter fun j : Fin 128 => ¬ r.val ≤ j.val)
          (fun j hj => ha0 j fun h => (Finset.mem_filter.1 hj).2 h.1), add_zero]
      refine Finset.sum_bij (fun j hj => far r j (Finset.mem_filter.1 hj).2) ?_ ?_ ?_ ?_
      · intro j hj
        refine Finset.mem_filter.2 ⟨Finset.mem_univ _, ?_⟩
        show r.val < 128 + r.val - j.val
        omega
      · intro j hj j' hj' e
        have e' : 128 + r.val - j.val = 128 + r.val - j'.val := congrArg Fin.val e
        exact Fin.ext (by omega)
      · intro n hn
        have hn' : r.val < n.val := (Finset.mem_filter.1 hn).2
        refine ⟨⟨128 + r.val - n.val, by omega⟩, Finset.mem_filter.2 ⟨Finset.mem_univ _, ?_⟩, Fin.ext ?_⟩
        · show r.val ≤ 128 + r.val - n.val
          omega
        · show 128 + r.val - (128 + r.val - n.val) = n.val
          omega
      · intro j hj
        exact ha j _ hp
    · rw [Finset.sum_eq_zero (fun j _ => ha0 j fun h => hp h.2),
        Finset.sum_eq_zero (fun n hn => hg hp n (Finset.mem_filter.1 hn).2)]
  · rw [← Finset.sum_filter_add_sum_filter_not Finset.univ (fun j : Fin 128 => j.val ≤ r.val) b,
      Finset.sum_eq_zero (s := Finset.univ.filter fun j : Fin 128 => ¬ j.val ≤ r.val)
        (fun j hj => hb0 j (Finset.mem_filter.1 hj).2), add_zero]
    refine Finset.sum_bij (fun j _ => back r j) ?_ ?_ ?_ ?_
    · intro j hj
      refine Finset.mem_filter.2 ⟨Finset.mem_univ _, ?_⟩
      show ¬ r.val < r.val - j.val
      omega
    · intro j hj j' hj' e
      have h1 : j.val ≤ r.val := (Finset.mem_filter.1 hj).2
      have h2 : j'.val ≤ r.val := (Finset.mem_filter.1 hj').2
      have e' : r.val - j.val = r.val - j'.val := congrArg Fin.val e
      exact Fin.ext (by omega)
    · intro n hn
      have hn' : ¬ r.val < n.val := (Finset.mem_filter.1 hn).2
      refine ⟨⟨r.val - n.val, by omega⟩, Finset.mem_filter.2 ⟨Finset.mem_univ _, ?_⟩, Fin.ext ?_⟩
      · show r.val - n.val ≤ r.val
        omega
      · show r.val - (r.val - n.val) = n.val
        omega
    · intro j hj
      exact hb j (Finset.mem_filter.1 hj).2

/-- The greatest logit of the window is the greater of the two blocks' greatest, whatever is outside the window
    counting `⊥`. -/
theorem max_blocks (r : Fin 128) (p : Prop) [Decidable p] (g : Fin 129 → EReal) (a b : Fin 128 → EReal)
    (ha : ∀ j (h : r.val ≤ j.val), p → a j = g (far r j h)) (ha0 : ∀ j, ¬(r.val ≤ j.val ∧ p) → a j = ⊥)
    (hb : ∀ j : Fin 128, j.val ≤ r.val → b j = g (back r j)) (hb0 : ∀ j : Fin 128, ¬ j.val ≤ r.val → b j = ⊥)
    (hg : ¬p → ∀ n : Fin 129, r.val < n.val → g n = ⊥) :
    max (Finset.univ.fold max ⊥ a) (Finset.univ.fold max ⊥ b) = Finset.univ.fold max ⊥ g := by
  have le_g : ∀ n, g n ≤ Finset.univ.fold max ⊥ g := fun n =>
    (Finset.le_fold_max _).2 (.inr ⟨n, Finset.mem_univ _, le_rfl⟩)
  apply le_antisymm
  · refine max_le ((Finset.fold_max_le _).2 ⟨bot_le, fun j _ => ?_⟩) ((Finset.fold_max_le _).2 ⟨bot_le, fun j _ => ?_⟩)
    · by_cases h : r.val ≤ j.val ∧ p
      · rw [ha j h.1 h.2]; exact le_g _
      · rw [ha0 j h]; exact bot_le
    · by_cases h : j.val ≤ r.val
      · rw [hb j h]; exact le_g _
      · rw [hb0 j h]; exact bot_le
  · refine (Finset.fold_max_le _).2 ⟨bot_le, fun n _ => ?_⟩
    by_cases h : r.val < n.val
    · by_cases hp : p
      · have hj : r.val ≤ 128 + r.val - n.val := by omega
        have e := ha ⟨128 + r.val - n.val, by omega⟩ hj hp
        have en : far r ⟨128 + r.val - n.val, by omega⟩ hj = n :=
          Fin.ext (show 128 + r.val - (128 + r.val - n.val) = n.val by omega)
        rw [en] at e
        rw [← e]
        exact le_max_of_le_left ((Finset.le_fold_max _).2 (.inr ⟨_, Finset.mem_univ _, le_rfl⟩))
      · rw [hg hp n h]; exact bot_le
    · have hj : r.val - n.val ≤ r.val := by omega
      have e := hb ⟨r.val - n.val, by omega⟩ hj
      have en : back r ⟨r.val - n.val, by omega⟩ = n :=
        Fin.ext (show r.val - (r.val - n.val) = n.val by omega)
      rw [en] at e
      rw [← e]
      exact le_max_of_le_right ((Finset.le_fold_max _).2 (.inr ⟨_, Finset.mem_univ _, le_rfl⟩))

/-! ## The window's attention as one formula -/

/-- The scale of the logits, as the word both programs hold: `128 ^ (-1/2)` rounded. -/
abbrev scale : EReal := Ideal.ofBits .f32 0x3DB504F3#32

/-- The word of minus infinity is `⊥`. -/
theorem ofBits_negInf : Ideal.ofBits .f32 0xFF800000#32 = ⊥ := by
  simp [Ideal.ofBits, Ideal.ieee]

section Spec
variable (ℓ : Fin 129 → EReal)

/-- The greatest logit. -/
def top : EReal := Finset.univ.fold max ⊥ ℓ
/-- A position's weight: the exponential of its logit less the greatest. -/
def weight (n : Fin 129) : EReal := Ideal.exp (ℓ n - top ℓ)
/-- The sum of the weights. -/
def mass : EReal := ∑ n, weight ℓ n
/-- The weighted mean of the values. -/
def mean (v : Fin 129 → EReal) : EReal := Ideal.div (∑ n, weight ℓ n * v n) (mass ℓ)
/-- The logarithm of the sum of the exponentials. -/
def lse : EReal := top ℓ + Ideal.log (mass ℓ)

end Spec

/-- The logit of the position `n` steps behind `s` in a sequence of keys `K`: the scaled product with the query where
    the sequence has begun, `⊥` before. -/
def logit (Q : Fin 128 → EReal) (K : ℕ → Fin 128 → EReal) (s : ℕ) (n : Fin 129) : EReal :=
  if n.val ≤ s then (∑ x, Q x * K (s - n.val) x) * scale else ⊥

/-- Outside the window the exponential of the logit less anything is zero. -/
theorem exp_bot_sub (x : EReal) : Ideal.exp (⊥ - x) = 0 := by
  rw [EReal.bot_sub]; rfl

section Blocks
variable (r : Fin 128) (p : Prop) [Decidable p] (ℓ : Fin 129 → EReal) (sp sc : Fin 128 → EReal)
  (ha : ∀ j (h : r.val ≤ j.val), p → sp j = ℓ (far r j h)) (ha0 : ∀ j, ¬(r.val ≤ j.val ∧ p) → sp j = ⊥)
  (hb : ∀ j : Fin 128, j.val ≤ r.val → sc j = ℓ (back r j)) (hb0 : ∀ j : Fin 128, ¬ j.val ≤ r.val → sc j = ⊥)
  (hg : ¬p → ∀ n : Fin 129, r.val < n.val → ℓ n = ⊥)
include ha ha0 hb hb0 hg

/-- The two blocks' greatest logit is the window's. -/
theorem top_blocks : max (Finset.univ.fold max ⊥ sp) (Finset.univ.fold max ⊥ sc) = top ℓ :=
  max_blocks r p ℓ sp sc ha ha0 hb hb0 hg

/-- The two blocks' weights add up to the window's. -/
theorem mass_blocks : ∑ j, Ideal.exp (sp j - top ℓ) + ∑ j, Ideal.exp (sc j - top ℓ) = mass ℓ := by
  refine sum_blocks r p (weight ℓ) _ _ (fun j h hp => ?_) (fun j h => ?_) (fun j h => ?_) (fun j h => ?_) (fun hp n hn => ?_)
  · rw [ha j h hp]; rfl
  · rw [ha0 j h, exp_bot_sub]
  · rw [hb j h]; rfl
  · rw [hb0 j h, exp_bot_sub]
  · unfold weight; rw [hg hp n hn, exp_bot_sub]

/-- The two blocks' weighted values add up to the window's: a key outside the window has weight zero, whatever its value. -/
theorem acc_blocks (v : Fin 129 → EReal) (vp vc : Fin 128 → EReal)
    (hv : ∀ j (h : r.val ≤ j.val), p → vp j = v (far r j h)) (hw : ∀ j : Fin 128, j.val ≤ r.val → vc j = v (back r j)) :
    ∑ j, Ideal.exp (sp j - top ℓ) * vp j + ∑ j, Ideal.exp (sc j - top ℓ) * vc j = ∑ n, weight ℓ n * v n := by
  refine sum_blocks r p (fun n => weight ℓ n * v n) _ _ (fun j h hp => ?_) (fun j h => ?_) (fun j h => ?_) (fun j h => ?_) (fun hp n hn => ?_)
  · show Ideal.exp (sp j - top ℓ) * vp j = weight ℓ (far r j h) * v (far r j h)
    rw [ha j h hp, hv j h hp]; rfl
  · show Ideal.exp (sp j - top ℓ) * vp j = 0
    rw [ha0 j h, exp_bot_sub, zero_mul]
  · show Ideal.exp (sc j - top ℓ) * vc j = weight ℓ (back r j) * v (back r j)
    rw [hb j h, hw j h]; rfl
  · show Ideal.exp (sc j - top ℓ) * vc j = 0
    rw [hb0 j h, exp_bot_sub, zero_mul]
  · show weight ℓ n * v n = 0
    unfold weight; rw [hg hp n hn, exp_bot_sub, zero_mul]

end Blocks

end Cert.Window

end
-- ==== Proof.Spec.lean ====
module

public import proofs.«01_k».proof.Proof.Window
public import Idealize.ShloMosaic.Lib.Pointwise

@[expose] public section

noncomputable section

namespace Cert.Spec

open Idealize.ShloMosaic Cert.Window

/-! # The dilated window's attention over the arrays

The queries and the rotated keys are `[4, 4096, 1536]`: 3 groups of 4 heads of 128 lanes; the values are the last
1536 columns of the projection `[4, 4096, 12800]`. Group `g` with dilation `dil` splits the positions into `dil`
residue classes, the `s`-th position of class `res` being `s * dil + res`, and each position looks back over the 129
positions of its class that end at it. -/

/-- The `s`-th position of a residue class (held inside the array where no such position is read). -/
abbrev pos (dil res s : ℕ) : Fin 4096 := ⟨min (s * dil + res) 4095, by omega⟩
/-- A head's lane among the 1536 columns. -/
abbrev lane (g : Fin 3) (h : Fin 4) (x : Fin 128) : Fin 1536 := ⟨g.val * 512 + h.val * 128 + x.val, by omega⟩
/-- A head's lane among the projection's 12800 columns. -/
abbrev vlane (g : Fin 3) (h : Fin 4) (x : Fin 128) : Fin 12800 := ⟨11264 + (g.val * 512 + h.val * 128 + x.val), by omega⟩

variable (A0 A1 : (⟨3, ![4, 4096, 1536]⟩ : Shape).Idx → EReal) (A2 : (⟨3, ![4, 4096, 12800]⟩ : Shape).Idx → EReal)
  (g : Fin 3) (dil : ℕ) (b : Fin 4) (s res : ℕ) (h : Fin 4) (d : Fin 128)

/-- A query's lanes. -/
def query (x : Fin 128) : EReal := A0 (ix3 b (pos dil res s) (lane g h x))
/-- The keys of a residue class. -/
def keys (s' : ℕ) (x : Fin 128) : EReal := A1 (ix3 b (pos dil res s') (lane g h x))
/-- One lane of the values of a residue class. -/
def vals (s' : ℕ) : EReal := A2 (ix3 b (pos dil res s') (vlane g h d))
/-- The logits of the window behind position `s` of the class. -/
def logits : Fin 129 → EReal := logit (query A0 g dil b s res h) (keys A1 g dil b res h) s
/-- The attention's output. -/
def out : EReal := mean (logits A0 A1 g dil b s res h) fun n => vals A2 g dil b res h d (s - n.val)
/-- The attention's logarithm of the summed exponentials. -/
def lse : EReal := Window.lse (logits A0 A1 g dil b s res h)

/-- The output array at batch row `b`, class position `s` and column `c`: columns are class by class, head by head. -/
def outAt (c : ℕ) : EReal := out A0 A1 A2 g dil b s (c / 512) ⟨c % 512 / 128, by omega⟩ ⟨c % 128, by omega⟩
/-- The array of logarithms at batch row `b`, class position `s` and column `c`. -/
def lseAt (c : ℕ) : EReal := lse A0 A1 g dil b s (c / 512) ⟨c % 512 / 128, by omega⟩

/-- A position outside the window weighs nothing, so its value does not count. -/
theorem weight_out (n : Fin 129) (hn : ¬ n.val ≤ s) : weight (logits A0 A1 g dil b s res h) n = 0 := by
  unfold weight logits logit
  rw [if_neg hn, exp_bot_sub]

/-- Rows of `[4, 4096, N]` put side by side: an entry of the reshaped array is the entry at the same place in row-major order. -/
theorem view_apply {tl w n : ℕ} (A : (⟨3, ![4, 4096, n]⟩ : Shape).Idx → EReal) (hs : (⟨3, ![4, 4096, n]⟩ : Shape).ShapeCasts ⟨3, ![4, tl, w]⟩)
    (k : (⟨3, ![4, tl, w]⟩ : Shape).Idx) (b : Fin 4) (p : Fin 4096) (l : Fin n)
    (hk : (b.val * 4096 + p.val) * n + l.val = ((k 0).val * tl + (k 1).val) * w + (k 2).val) :
    shapeCast _ A hs k = A (ix3 b p l) := by
  refine shapeCast_apply A hs k (ix3 b p l) ?_
  rewrite [Shape.rowMajor_val_three, Shape.rowMajor_val_three]
  exact hk

end Cert.Spec

end
-- ==== Proof.Head.lean ====
module

public import proofs.«01_k».proof.Proof.Spec
public import proofs.«01_k».proof.Proof.Gen.Swa0Ideal.Frame
public import Idealize.ShloMosaic.Lib.Pointwise
public import Idealize.ShloMosaic.Lib.Tactic.WordOmega
public import Idealize.ShloMosaic.Lib.Affine
public import Idealize.ShloMosaic.PureOps.IdealRules

@[expose] public section

set_option maxRecDepth 16384

noncomputable section

namespace Cert.Swa0Ideal.Head

open Cert.Swa0Ideal Cert.Swa0Ideal.Gen Idealize.ShloMosaic Idealize.ShloMosaic.TcCoe Idealize.SL.Sem
open Cert.Window

/-! # One head of the attention kernel at a query block, read at an index -/

variable (i : grid0.Coords) (q kp kc vp vc : FVec Ideal S1x128x128 .f32)

/-- The masked logits against the block before: in the window, and only where there is a block before. -/
theorem prev_apply (r j : Fin 128) : k0_pay6 (F := Ideal) i q kp (ix2 r j)
    = if r.val ≤ j.val ∧ 0 < (i 2).val then (∑ x, q (ix3 0 r x) * kp (ix3 0 j x)) * scale else ⊥ := by
  pointwise [k0_pay6, k0_pay5, k0_pay3]
  rw [show (Named.named κ "mask" 0xF149F2CA#32 : Ideal .f32) = ⊥ from IdealRules.named_const.ideal_named_scalar _ _ _ _ rfl]
  have hi : (i 2).val < 32 := (i 2).isLt
  have hc : IntOp.andi (IntOp.cmpi .sge (BitVec.ofNat 32 j.val) (BitVec.ofNat 32 r.val))
      (Scalar.cmpi .sgt (BitVec.ofNat 32 (i 2).val) 0#32) = 1#1 ↔ r.val ≤ j.val ∧ 0 < (i 2).val := by
    rw [IntOp.andi_eq_one]
    refine and_congr ?_ ?_
    · rw [IntOp.cmpi_sge]; word_omega
    · show IntOp.cmpi .sgt _ _ = 1#1 ↔ _
      rw [IntOp.cmpi_sgt]; word_omega
  show (if _ = 1#1 then _ else _) = _
  exact if_congr hc rfl rfl

/-- The masked logits against the own block: no key later than the query. -/
theorem cur_apply (r j : Fin 128) : k0_pay7 (F := Ideal) q kc (ix2 r j)
    = if j.val ≤ r.val then (∑ x, q (ix3 0 r x) * kc (ix3 0 j x)) * scale else ⊥ := by
  pointwise [k0_pay7, k0_pay5, k0_pay4]
  rw [show (Named.named κ "mask" 0xF149F2CA#32 : Ideal .f32) = ⊥ from IdealRules.named_const.ideal_named_scalar _ _ _ _ rfl]
  have hc : IntOp.cmpi .sle (BitVec.ofNat 32 j.val) (BitVec.ofNat 32 r.val) = 1#1 ↔ j.val ≤ r.val := by
    rw [IntOp.cmpi_sle]; word_omega
  show (if _ = 1#1 then _ else _) = _
  exact if_congr hc rfl rfl

/-- A row's greatest logit. -/
theorem max_apply (r : Fin 128) : k0_pay8 (F := Ideal) i q kp kc (ix2 r 0)
    = max (Finset.univ.fold max ⊥ fun x => k0_pay6 (F := Ideal) i q kp (ix2 r x))
        (Finset.univ.fold max ⊥ fun x => k0_pay7 (F := Ideal) q kc (ix2 r x)) := by
  pointwise [k0_pay8]
  rw [ofBits_negInf]

/-- The weights against the block before. -/
theorem wprev_apply (r j : Fin 128) : k0_pay9 (F := Ideal) i q kp kc (ix2 r j)
    = Ideal.exp (k0_pay6 (F := Ideal) i q kp (ix2 r j) - k0_pay8 (F := Ideal) i q kp kc (ix2 r 0)) := by
  pointwise [k0_pay9]

/-- The weights against the own block. -/
theorem wcur_apply (r j : Fin 128) : k0_pay10 (F := Ideal) i q kp kc (ix2 r j)
    = Ideal.exp (k0_pay7 (F := Ideal) q kc (ix2 r j) - k0_pay8 (F := Ideal) i q kp kc (ix2 r 0)) := by
  pointwise [k0_pay10]

/-- One head's output block: the first head's stored payload over its own slices. -/
def headO : FVec Ideal S1x128x128 .f32 :=
  k0_pay13 (F := Ideal) (k0_pay9 i q kp kc) (k0_pay10 i q kp kc) (k0_pay11 i q kp kc) vp vc

/-- One head's block of logarithms: the first head's stored payload over its own slices. -/
def headL : FVec Ideal S1x128x128 .f32 :=
  k0_pay14 (F := Ideal) (k0_pay8 i q kp kc) (k0_pay10 i q kp kc) (k0_pay11 i q kp kc)

/-- The output at row `r` and lane `d`: the two blocks' weighted values over the two blocks' weights. -/
theorem headO_apply (r d : Fin 128) : headO i q kp kc vp vc (ix3 0 r d)
    = Ideal.div (∑ x, k0_pay9 (F := Ideal) i q kp kc (ix2 r x) * vp (ix3 0 x d) + ∑ x, k0_pay10 (F := Ideal) i q kp kc (ix2 r x) * vc (ix3 0 x d))
        (∑ x, k0_pay9 (F := Ideal) i q kp kc (ix2 r x) + ∑ x, k0_pay10 (F := Ideal) i q kp kc (ix2 r x)) := by
  unfold headO
  pointwise [k0_pay13, k0_pay12, k0_pay11]

/-- The logarithm at row `r`, the same in every lane. -/
theorem headL_apply (r d : Fin 128) : headL i q kp kc (ix3 0 r d)
    = k0_pay8 (F := Ideal) i q kp kc (ix2 r 0)
      + Ideal.log (∑ x, k0_pay9 (F := Ideal) i q kp kc (ix2 r x) + ∑ x, k0_pay10 (F := Ideal) i q kp kc (ix2 r x)) := by
  unfold headL
  pointwise [k0_pay14, k0_pay12, k0_pay11]

/-! ## Over a sequence of keys and values: block `i` of the sequence and the block before it -/

section Sequence
variable (r d : Fin 128) (Q : Fin 128 → EReal) (K : ℕ → Fin 128 → EReal) (V : ℕ → EReal)
  (hq : ∀ x, q (ix3 0 r x) = Q x)
  (hkp : 0 < (i 2).val → ∀ j x : Fin 128, kp (ix3 0 j x) = K (128 * ((i 2).val - 1) + j.val) x)
  (hkc : ∀ j x : Fin 128, kc (ix3 0 j x) = K (128 * (i 2).val + j.val) x)
  (hvp : 0 < (i 2).val → ∀ j : Fin 128, vp (ix3 0 j d) = V (128 * ((i 2).val - 1) + j.val))
  (hvc : ∀ j : Fin 128, vc (ix3 0 j d) = V (128 * (i 2).val + j.val))

include hq hkp in
theorem prev_logit (j : Fin 128) (h : r.val ≤ j.val) (hp : 0 < (i 2).val) :
    k0_pay6 (F := Ideal) i q kp (ix2 r j) = logit Q K (128 * (i 2).val + r.val) (far r j h) := by
  rw [prev_apply, if_pos ⟨h, hp⟩, logit, if_pos (show 128 + r.val - j.val ≤ _ by omega)]
  have e : 128 * (i 2).val + r.val - (far r j h).val = 128 * ((i 2).val - 1) + j.val := by
    show 128 * (i 2).val + r.val - (128 + r.val - j.val) = _
    omega
  rw [e]
  exact congrArg (· * scale) (Finset.sum_congr rfl fun x _ => by rw [hq, hkp hp])

include hq hkc in
theorem cur_logit (j : Fin 128) (h : j.val ≤ r.val) :
    k0_pay7 (F := Ideal) q kc (ix2 r j) = logit Q K (128 * (i 2).val + r.val) (back r j) := by
  rw [cur_apply, if_pos h, logit, if_pos (show r.val - j.val ≤ _ by omega)]
  have e : 128 * (i 2).val + r.val - (back r j).val = 128 * (i 2).val + j.val := by
    show 128 * (i 2).val + r.val - (r.val - j.val) = _
    omega
  rw [e]
  exact congrArg (· * scale) (Finset.sum_congr rfl fun x _ => by rw [hq, hkc])

theorem prev_out (j : Fin 128) (h : ¬(r.val ≤ j.val ∧ 0 < (i 2).val)) : k0_pay6 (F := Ideal) i q kp (ix2 r j) = ⊥ := by
  rw [prev_apply, if_neg h]

theorem cur_out (j : Fin 128) (h : ¬ j.val ≤ r.val) : k0_pay7 (F := Ideal) q kc (ix2 r j) = ⊥ := by
  rw [cur_apply, if_neg h]

theorem logit_out (h : ¬ 0 < (i 2).val) (n : Fin 129) (hn : r.val < n.val) :
    logit Q K (128 * (i 2).val + r.val) n = ⊥ := by
  rw [logit, if_neg (by omega)]

include hq hkp hkc in
theorem max_top : k0_pay8 (F := Ideal) i q kp kc (ix2 r 0) = top (logit Q K (128 * (i 2).val + r.val)) := by
  rw [max_apply]
  exact top_blocks r _ _ _ _ (prev_logit i q kp r Q K hq hkp) (prev_out i q kp r) (cur_logit i q kc r Q K hq hkc)
    (cur_out q kc r) (logit_out i r Q K)

include hq hkp hkc in
theorem sum_mass : ∑ x, k0_pay9 (F := Ideal) i q kp kc (ix2 r x) + ∑ x, k0_pay10 (F := Ideal) i q kp kc (ix2 r x)
    = mass (logit Q K (128 * (i 2).val + r.val)) := by
  simp only [wprev_apply, wcur_apply, max_top i q kp kc r Q K hq hkp hkc]
  exact mass_blocks r _ _ _ _ (prev_logit i q kp r Q K hq hkp) (prev_out i q kp r) (cur_logit i q kc r Q K hq hkc)
    (cur_out q kc r) (logit_out i r Q K)

include hq hkp hkc hvp hvc in
/-- The head's output is the mean of the values in the window behind position `128 i + r`. -/
theorem headO_mean : headO i q kp kc vp vc (ix3 0 r d)
    = mean (logit Q K (128 * (i 2).val + r.val)) fun n => V (128 * (i 2).val + r.val - n.val) := by
  rw [headO_apply, sum_mass i q kp kc r Q K hq hkp hkc]
  unfold mean
  congr 1
  simp only [wprev_apply, wcur_apply, max_top i q kp kc r Q K hq hkp hkc]
  refine acc_blocks r _ _ _ _ (prev_logit i q kp r Q K hq hkp) (prev_out i q kp r) (cur_logit i q kc r Q K hq hkc)
    (cur_out q kc r) (logit_out i r Q K) _ _ _ (fun j h hp => ?_) (fun j h => ?_)
  · rw [hvp hp]
    congr 1
    show _ = 128 * (i 2).val + r.val - (128 + r.val - j.val)
    omega
  · rw [hvc]
    congr 1
    show _ = 128 * (i 2).val + r.val - (r.val - j.val)
    omega

include hq hkp hkc in
/-- The head's logarithm is that of the window behind position `128 i + r`. -/
theorem headL_lse : headL i q kp kc (ix3 0 r d) = lse (logit Q K (128 * (i 2).val + r.val)) := by
  rw [headL_apply, sum_mass i q kp kc r Q K hq hkp hkc, max_top i q kp kc r Q K hq hkp hkc]
  rfl

end Sequence

/-! ## Over the arrays: group `g`, dilation `dil`, residue class `res`, head `hh` -/

section Arrays
open Cert.Spec
variable (A0 A1 : (⟨3, ![4, 4096, 1536]⟩ : Shape).Idx → EReal) (A2 : (⟨3, ![4, 4096, 12800]⟩ : Shape).Idx → EReal)
  (g : Fin 3) (dil : ℕ) (b : Fin 4) (res : ℕ) (hh : Fin 4) (r d : Fin 128)
  (h0 : ∀ r x : Fin 128, q (ix3 0 r x) = A0 (ix3 b (pos dil res (128 * (i 2).val + r.val)) (lane g hh x)))
  (h1 : 0 < (i 2).val → ∀ r x : Fin 128, kp (ix3 0 r x) = A1 (ix3 b (pos dil res (128 * ((i 2).val - 1) + r.val)) (lane g hh x)))
  (h2 : ∀ r x : Fin 128, kc (ix3 0 r x) = A1 (ix3 b (pos dil res (128 * (i 2).val + r.val)) (lane g hh x)))
  (h3 : 0 < (i 2).val → ∀ r x : Fin 128, vp (ix3 0 r x) = A2 (ix3 b (pos dil res (128 * ((i 2).val - 1) + r.val)) (vlane g hh x)))
  (h4 : ∀ r x : Fin 128, vc (ix3 0 r x) = A2 (ix3 b (pos dil res (128 * (i 2).val + r.val)) (vlane g hh x)))

include h0 h1 h2 h3 h4 in
/-- The head's output block holds the attention's output at its rows. -/
theorem headO_spec : headO i q kp kc vp vc (ix3 0 r d) = Spec.out A0 A1 A2 g dil b (128 * (i 2).val + r.val) res hh d :=
  headO_mean i q kp kc vp vc r d _ _ (vals A2 g dil b res hh d) (fun x => h0 r x) (fun hp j x => h1 hp j x) (fun j x => h2 j x)
    (fun hp j => h3 hp j d) (fun j => h4 j d)

include h0 h1 h2 in
/-- The head's block of logarithms holds the attention's logarithm at its rows. -/
theorem headL_spec : headL i q kp kc (ix3 0 r d) = Spec.lse A0 A1 g dil b (128 * (i 2).val + r.val) res hh :=
  headL_lse i q kp kc r d _ _ (fun x => h0 r x) (fun hp j x => h1 hp j x) (fun j x => h2 j x)

end Arrays

end Cert.Swa0Ideal.Head

end
-- ==== Proof.Blocks0.lean ====
module

public import proofs.«01_k».proof.Proof.Head
public import proofs.«01_k».proof.Proof.Spec
public import Idealize.ShloMosaic.Lib.Pipeline.ValueKit

@[expose] public section

set_option maxRecDepth 16384

noncomputable section

namespace Cert.Swa0Ideal.Blocks

open Cert.Swa0Ideal Cert.Swa0Ideal.Gen Idealize.ShloMosaic Idealize.ShloMosaic.TcCoe Idealize.SL.Sem
open Idealize.ShloMosaic.Pipeline (Dat)
open Cert.Swa0Ideal.Head

variable (m : (ℓ : Loc nD τ sig) → Buf (Elt Ideal) ℓ)

/-- Head 0's slice of a block. -/
abbrev ld0 (x : Vec Ideal S1x128x512 .f32) : Vec Ideal S1x128x128 .f32 := View.ld x r0_0
/-- Head 1's slice of a block. -/
abbrev ld1 (x : Vec Ideal S1x128x512 .f32) : Vec Ideal S1x128x128 .f32 := View.ld x r0_1
/-- Head 2's slice of a block. -/
abbrev ld2 (x : Vec Ideal S1x128x512 .f32) : Vec Ideal S1x128x128 .f32 := View.ld x r0_2
/-- Head 3's slice of a block. -/
abbrev ld3 (x : Vec Ideal S1x128x512 .f32) : Vec Ideal S1x128x128 .f32 := View.ld x r0_3

/-- The four output stores are the head's formula over the four heads' slices. -/
theorem out5_eq (i : grid0.Coords) (x0 x1 x2 x3 x4 : FVec Ideal S1x128x512 .f32) :
    out0_5 (F := Ideal) i x0 x1 x2 x3 x4 = View.canon [
      ⟨r0_3, headO i (ld3 x0) (ld3 x1) (ld3 x2) (ld3 x3) (ld3 x4)⟩,
      ⟨r0_2, headO i (ld2 x0) (ld2 x1) (ld2 x2) (ld2 x3) (ld2 x4)⟩,
      ⟨r0_1, headO i (ld1 x0) (ld1 x1) (ld1 x2) (ld1 x3) (ld1 x4)⟩,
      ⟨r0_0, headO i (ld0 x0) (ld0 x1) (ld0 x2) (ld0 x3) (ld0 x4)⟩] := rfl

/-- The four stores of logarithms are the head's formula over the four heads' slices. -/
theorem out6_eq (i : grid0.Coords) (x0 x1 x2 x3 x4 : FVec Ideal S1x128x512 .f32) :
    out0_6 (F := Ideal) i x0 x1 x2 x3 x4 = View.canon [
      ⟨r0_3, headL i (ld3 x0) (ld3 x1) (ld3 x2)⟩,
      ⟨r0_2, headL i (ld2 x0) (ld2 x1) (ld2 x2)⟩,
      ⟨r0_1, headL i (ld1 x0) (ld1 x1) (ld1 x2)⟩,
      ⟨r0_0, headL i (ld0 x0) (ld0 x1) (ld0 x2)⟩] := rfl

theorem idx : ∀ t : Fin cfg0.N,
    win0_0.index t = ![(grid0.coords t 0).val, (grid0.coords t 2).val, 0]
    ∧ win0_1.index t = ![(grid0.coords t 0).val, (grid0.coords t 2).val - 1, 0]
    ∧ win0_2.index t = ![(grid0.coords t 0).val, (grid0.coords t 2).val, 0]
    ∧ win0_3.index t = ![(grid0.coords t 0).val, (grid0.coords t 2).val - 1, 22]
    ∧ win0_4.index t = ![(grid0.coords t 0).val, (grid0.coords t 2).val, 22]
    ∧ win0_5.index t = ![(grid0.coords t 0).val, (grid0.coords t 2).val, 0]
    ∧ win0_6.index t = ![(grid0.coords t 0).val, (grid0.coords t 2).val, 0] :=
  (by decide +kernel : ∀ t : Fin grid0.N, _)

/-- The whole output array. -/
def O (A0 A1 : FVec Ideal S4x4096x1536 .f32) (A2 : FVec Ideal S4x4096x12800 .f32) : FVec Ideal S4x4096x512 .f32 :=
  fun j => Spec.outAt A0 A1 A2 0 1 (j 0) (j 1).val (j 2).val

/-- The whole array of logarithms. -/
def L (A0 A1 : FVec Ideal S4x4096x1536 .f32) : FVec Ideal S4x4096x512 .f32 :=
  fun j => Spec.lseAt A0 A1 0 1 (j 0) (j 1).val (j 2).val

/-- The batch row of a point's blocks. -/
abbrev bat (t : Fin cfg0.N) : Fin 4 := grid0.coords t 0
/-- Head `hh`'s slice of a block, as a block of its own. -/
def slice (hh : Fin 4) (x : Vec Ideal S1x128x512 .f32) : Vec Ideal S1x128x128 .f32 :=
  fun y => x (ix3 0 (y 1) ⟨hh.val * 128 + (y 2).val, by have : (y 2).val < 128 := (y 2).isLt; omega⟩)

theorem ld0_eq (x : Vec Ideal S1x128x512 .f32) : ld0 x = slice 0 x := by
  funext y; pointwise [slice, ld0]
theorem ld1_eq (x : Vec Ideal S1x128x512 .f32) : ld1 x = slice 1 x := by
  funext y; pointwise [slice, ld1]
theorem ld2_eq (x : Vec Ideal S1x128x512 .f32) : ld2 x = slice 2 x := by
  funext y; pointwise [slice, ld2]
theorem ld3_eq (x : Vec Ideal S1x128x512 .f32) : ld3 x = slice 3 x := by
  funext y; pointwise [slice, ld3]

section Reads
open Cert.Spec
variable (c : Dev nD) (t : Fin cfg0.N) (hh : Fin 4) (r l : Fin 128)

theorem read0 : slice hh (iblk m c 0 t) (ix3 0 r l)
    = (m ((c : Thread nD τ).loc main_arg0) : FVec Ideal S4x4096x1536 .f32) (ix3 (bat t) (pos 1 0 (128 * (grid0.coords t 2).val + r.val)) (lane 0 hh l)) := by
  have hi : (grid0.coords t 2).val < 32 := (grid0.coords t 2).isLt
  unfold slice
  blk_ext [iblk, V, idx t]; rfl

theorem read1 : slice hh (iblk m c 1 t) (ix3 0 r l)
    = (m ((c : Thread nD τ).loc main_arg1) : FVec Ideal S4x4096x1536 .f32) (ix3 (bat t) (pos 1 0 (128 * ((grid0.coords t 2).val - 1) + r.val)) (lane 0 hh l)) := by
  have hi : (grid0.coords t 2).val < 32 := (grid0.coords t 2).isLt
  unfold slice
  blk_ext [iblk, V, idx t]; rfl

theorem read2 : slice hh (iblk m c 2 t) (ix3 0 r l)
    = (m ((c : Thread nD τ).loc main_arg1) : FVec Ideal S4x4096x1536 .f32) (ix3 (bat t) (pos 1 0 (128 * (grid0.coords t 2).val + r.val)) (lane 0 hh l)) := by
  have hi : (grid0.coords t 2).val < 32 := (grid0.coords t 2).isLt
  unfold slice
  blk_ext [iblk, V, idx t]; rfl

theorem read3 : slice hh (iblk m c 3 t) (ix3 0 r l)
    = (m ((c : Thread nD τ).loc main_arg2) : FVec Ideal S4x4096x12800 .f32) (ix3 (bat t) (pos 1 0 (128 * ((grid0.coords t 2).val - 1) + r.val)) (vlane 0 hh l)) := by
  have hi : (grid0.coords t 2).val < 32 := (grid0.coords t 2).isLt
  unfold slice
  blk_ext [iblk, V, idx t]; rfl

theorem read4 : slice hh (iblk m c 4 t) (ix3 0 r l)
    = (m ((c : Thread nD τ).loc main_arg2) : FVec Ideal S4x4096x12800 .f32) (ix3 (bat t) (pos 1 0 (128 * (grid0.coords t 2).val + r.val)) (vlane 0 hh l)) := by
  have hi : (grid0.coords t 2).val < 32 := (grid0.coords t 2).isLt
  unfold slice
  blk_ext [iblk, V, idx t]; rfl

end Reads

section Point
variable (c : Dev nD) (t : Fin cfg0.N) (hh : Fin 4) (x : S1x128x128.Idx) (j : S4x4096x512.Idx)
    (hj0 : (j 0).val = (grid0.coords t 0).val) (hj1 : (j 1).val = 128 * (grid0.coords t 2).val + (x 1).val)
    (hj2 : (j 2).val = hh.val * 128 + (x 2).val)

include hj0 hj1 hj2 in
/-- A head's output block at a point is its part of the whole array. -/
theorem pieceO : headO (grid0.coords t) (slice hh (iblk m c 0 t)) (slice hh (iblk m c 1 t)) (slice hh (iblk m c 2 t))
      (slice hh (iblk m c 3 t)) (slice hh (iblk m c 4 t)) x
    = O (m ((c : Thread nD τ).loc main_arg0)) (m ((c : Thread nD τ).loc main_arg1)) (m ((c : Thread nD τ).loc main_arg2)) j := by
  have hx : x = ix3 0 (x 1) (x 2) := by blk_ext
  rw [hx]
  refine (headO_spec (grid0.coords t) _ _ _ _ _ (m ((c : Thread nD τ).loc main_arg0)) (m ((c : Thread nD τ).loc main_arg1))
    (m ((c : Thread nD τ).loc main_arg2)) 0 1 (bat t) 0 hh (x 1) (x 2) (fun r l => ?_) (fun _ r l => ?_) (fun r l => ?_)
    (fun _ r l => ?_) (fun r l => ?_)).trans ?_
  · exact read0 m c t hh r l
  · exact read1 m c t hh r l
  · exact read2 m c t hh r l
  · exact read3 m c t hh r l
  · exact read4 m c t hh r l
  · unfold O Spec.outAt
    have x2 : (x 2).val < 128 := (x 2).isLt
    congr 1
    · exact Fin.ext hj0.symm
    · exact hj1.symm
    · omega
    · exact Fin.ext (show hh.val = (j 2).val % 512 / 128 by omega)
    · exact Fin.ext (show (x 2).val = (j 2).val % 128 by omega)

include hj0 hj1 hj2 in
/-- A head's block of logarithms at a point is its part of the whole array. -/
theorem pieceL : headL (grid0.coords t) (slice hh (iblk m c 0 t)) (slice hh (iblk m c 1 t)) (slice hh (iblk m c 2 t)) x
    = L (m ((c : Thread nD τ).loc main_arg0)) (m ((c : Thread nD τ).loc main_arg1)) j := by
  have hx : x = ix3 0 (x 1) (x 2) := by blk_ext
  rw [hx]
  refine (headL_spec (grid0.coords t) _ _ _ (m ((c : Thread nD τ).loc main_arg0)) (m ((c : Thread nD τ).loc main_arg1))
    0 1 (bat t) 0 hh (x 1) (x 2) (fun r l => ?_) (fun _ r l => ?_) (fun r l => ?_)).trans ?_
  · exact read0 m c t hh r l
  · exact read1 m c t hh r l
  · exact read2 m c t hh r l
  · unfold L Spec.lseAt
    have x2 : (x 2).val < 128 := (x 2).isLt
    congr 1
    · exact Fin.ext hj0.symm
    · exact hj1.symm
    · omega
    · exact Fin.ext (show hh.val = (j 2).val % 512 / 128 by omega)

end Point

/-- What a point stores is its block of the whole output array. -/
theorem point5 (c : Dev nD) (t : Fin cfg0.N) (y : S1x128x512.Idx) (j : S4x4096x512.Idx)
    (hj0 : (j 0).val = (grid0.coords t 0).val) (hj1 : (j 1).val = 128 * (grid0.coords t 2).val + (y 1).val)
    (hj2 : (j 2).val = (y 2).val) :
    out0_5 (grid0.coords t) (iblk m c 0 t) (iblk m c 1 t) (iblk m c 2 t) (iblk m c 3 t) (iblk m c 4 t) y
      = O (m ((c : Thread nD τ).loc main_arg0)) (m ((c : Thread nD τ).loc main_arg1)) (m ((c : Thread nD τ).loc main_arg2)) j := by
  rw [out5_eq]
  canon_tiles x h
  · rw [ld3_eq, ld3_eq, ld3_eq, ld3_eq, ld3_eq]; exact pieceO m c t 3 x j hj0 (by omega) (by omega)
  · rw [ld2_eq, ld2_eq, ld2_eq, ld2_eq, ld2_eq]; exact pieceO m c t 2 x j hj0 (by omega) (by omega)
  · rw [ld1_eq, ld1_eq, ld1_eq, ld1_eq, ld1_eq]; exact pieceO m c t 1 x j hj0 (by omega) (by omega)
  · rw [ld0_eq, ld0_eq, ld0_eq, ld0_eq, ld0_eq]; exact pieceO m c t 0 x j hj0 (by omega) (by omega)

/-- What a point stores of logarithms is its block of the whole array. -/
theorem point6 (c : Dev nD) (t : Fin cfg0.N) (y : S1x128x512.Idx) (j : S4x4096x512.Idx)
    (hj0 : (j 0).val = (grid0.coords t 0).val) (hj1 : (j 1).val = 128 * (grid0.coords t 2).val + (y 1).val)
    (hj2 : (j 2).val = (y 2).val) :
    out0_6 (grid0.coords t) (iblk m c 0 t) (iblk m c 1 t) (iblk m c 2 t) (iblk m c 3 t) (iblk m c 4 t) y
      = L (m ((c : Thread nD τ).loc main_arg0)) (m ((c : Thread nD τ).loc main_arg1)) j := by
  rw [out6_eq]
  canon_tiles x h
  · rw [ld3_eq, ld3_eq, ld3_eq]; exact pieceL m c t 3 x j hj0 (by omega) (by omega)
  · rw [ld2_eq, ld2_eq, ld2_eq]; exact pieceL m c t 2 x j hj0 (by omega) (by omega)
  · rw [ld1_eq, ld1_eq, ld1_eq]; exact pieceL m c t 1 x j hj0 (by omega) (by omega)
  · rw [ld0_eq, ld0_eq, ld0_eq]; exact pieceL m c t 0 x j hj0 (by omega) (by omega)

/-- The output array after the run. -/
theorem final5 (c : Dev nD) : (dats m 0 c).arrAt 5 (cfgs 0).N
    = O (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  refine point5 m c t y _ ?_ ?_ ?_
  all_goals (blk_simp [idx t] <;> try omega)

/-- The array of logarithms after the run. -/
theorem final6 (c : Dev nD) : (dats m 0 c).arrAt 6 (cfgs 0).N
    = L (m ((c : Thread nD τ).loc main_arg0)) (m ((c : Thread nD τ).loc main_arg1)) := by
  refine (dats m 0 c).arrAt_eq_of_covers 6 _ (by decide +kernel) fun t _ y => ?_
  blk_simp
  rw [after0_6]
  refine point6 m c t y _ ?_ ?_ ?_
  all_goals (blk_simp [idx t] <;> try omega)

end Cert.Swa0Ideal.Blocks

end
-- ==== Proof.Take.lean ====
module

public import Idealize.ShloMosaic.Lib.Pointwise
public import Idealize.ShloMosaic.Lib.ValueIdx

@[expose] public section

set_option maxRecDepth 16384

noncomputable section

namespace Cert.Take

open Idealize.ShloMosaic

/-! # Taking rows of `[4, 4096, 4, 128]` along its second axis at a table `[4096, 129]` of row numbers -/

/-- The dimension numbers of taking along the second axis. -/
abbrev takeDims (wf : GatherDims.WF ⟨4, ![4, 4096, 4, 128]⟩ ⟨3, ![4096, 129, 1]⟩ ⟨5, ![4, 4096, 129, 4, 128]⟩ [0, 3, 4] [1] [] [1] [] 2 ![4, 1, 4, 128]) :
    GatherDims ⟨4, ![4, 4096, 4, 128]⟩ ⟨3, ![4096, 129, 1]⟩ ⟨5, ![4, 4096, 129, 4, 128]⟩ where
  offsetDims := [0, 3, 4]
  collapsedSliceDims := [1]
  operandBatchingDims := []
  startIndicesBatchingDims := []
  startIndexMap := [1]
  indexVectorDim := 2
  sliceSizes := ![4, 1, 4, 128]
  wf := wf

/-- The element taken at `(b, p, n, h, d)`: the operand's row at the table's entry `(p, n)`, held inside the array. -/
theorem take_apply {α : Type} (wf) (x : (⟨4, ![4, 4096, 4, 128]⟩ : Shape).Idx → α) (idx : IVec ⟨3, ![4096, 129, 1]⟩ 32)
    (b : Fin 4) (p : Fin 4096) (n : Fin 129) (h : Fin 4) (d : Fin 128) :
    Host.gather (takeDims wf) x idx (ix5 b p n h d)
      = x (ix4 b ⟨min (idx (ix3 p n 0)).toInt.toNat 4095, by omega⟩ h d) := by
  unfold Host.gather
  congr 1
  funext a
  refine Fin.ext ?_
  show (takeDims wf).start (ix5 b p n h d) idx a + (takeDims wf).batchCoord (ix5 b p n h d) a
      + (takeDims wf).offCoord (ix5 b p n h d) a = _
  rw [GatherDims.batchCoord_eq_zero _ _ _ List.not_mem_nil]
  have kept : ∀ c : Fin 4, c ≠ 1 → c ∈ (takeDims wf).sKept := fun c hc =>
    (GatherDims.mem_sKept _ _).2 ⟨fun h => hc (List.mem_singleton.1 h), List.not_mem_nil⟩
  have unmapped : ∀ c : Fin 4, c ≠ 1 → c ∉ (takeDims wf).startIndexMap := fun c hc h => hc (List.mem_singleton.1 h)
  have cases : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases cases with rfl | rfl | rfl | rfl
  · unfold GatherDims.start GatherDims.offCoord
    rw [dif_neg (unmapped 0 (by decide)), dif_pos (kept 0 (by decide))]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 4) ∈ (takeDims wf).startIndexMap from List.mem_singleton.mpr rfl)]
    have hsi : (takeDims wf).siIdx (ix5 b p n h d) ⟨List.idxOf (1 : Fin 4) (takeDims wf).startIndexMap,
        List.idxOf_lt_length_iff.2 (List.mem_singleton.mpr rfl)⟩ = ix3 p n 0 := by
      funext c; refine Fin.ext ?_
      match c with
      | ⟨0, _⟩ => rfl
      | ⟨1, _⟩ => rfl
      | ⟨2, _⟩ => rfl
    rw [hsi]
    rfl
  · unfold GatherDims.start GatherDims.offCoord
    rw [dif_neg (unmapped 2 (by decide)), dif_pos (kept 2 (by decide))]
    simp only [Nat.zero_add]
    rfl
  · unfold GatherDims.start GatherDims.offCoord
    rw [dif_neg (unmapped 3 (by decide)), dif_pos (kept 3 (by decide))]
    simp only [Nat.zero_add]
    rfl

end Cert.Take

end
-- ==== Proof.Words.lean ====
module

public import Idealize.ShloMosaic.Lib.Affine
public import Idealize.ShloMosaic.Lib.Tactic.WordOmega
public import Idealize.ShloMosaic.Lib.StableHlo.Predicate
public import Idealize.ShloMosaic.Lib.ReduceAll
public import Idealize.ShloMosaic.Lib.Pointwise

@[expose] public section

set_option maxRecDepth 16384

noncomputable section

namespace Cert.Words

open Idealize.ShloMosaic

/-! # The row numbers of the dilated window as 32-bit words -/

/-- The row number `p - dil * n` as a signed word. -/
theorem step_toInt (p n dil : ℕ) (hp : p < 4096) (hn : n < 129) (hd : dil ≤ 16) :
    (IntOp.subi (BitVec.ofNat 32 p) (IntOp.muli (BitVec.ofNat 32 dil) (BitVec.ofNat 32 n))).toInt = (p : ℤ) - dil * n := by
  have hm : dil * n ≤ 16 * 128 := Nat.mul_le_mul hd (by omega)
  have e : IntOp.muli (BitVec.ofNat 32 dil) (BitVec.ofNat 32 n) = BitVec.ofNat 32 (dil * n) := by
    show BitVec.ofNat 32 dil * BitVec.ofNat 32 n = _
    rw [BitVec.ofNat_mul]
  rw [e]
  show (BitVec.ofNat 32 p - BitVec.ofNat 32 (dil * n)).toInt = _
  rw [BitVec.toInt_sub, StableHlo.Predicate.toInt_ofNat_small _ (by omega), StableHlo.Predicate.toInt_ofNat_small _ (by omega),
    Int.bmod_eq_of_le (by omega) (by omega)]
  push_cast
  rfl

/-- Held at zero, and read unsigned: the natural-number difference. -/
theorem held_toNat (w : BitVec 32) (p k : ℕ) (hp : p < 4096) (hw : w.toInt = (p : ℤ) - k) :
    (Scalar.select (IntOp.cmpi .slt (IntOp.maxsi w 0#32) 0#32) (IntOp.addi (IntOp.maxsi w 0#32) 4096#32) (IntOp.maxsi w 0#32)).toInt
      = ((p - k : ℕ) : ℤ) := by
  have hmax : (IntOp.maxsi w 0#32).toInt = ((p - k : ℕ) : ℤ) := by
    unfold IntOp.maxsi
    have h0 : (0#32).toInt = 0 := rfl
    split <;> rename_i h <;> simp only [BitVec.slt_iff_toInt_lt, BitVec.sle_iff_toInt_le, h0, hw] at * <;> omega
  have hc : ¬ IntOp.cmpi .slt (IntOp.maxsi w 0#32) 0#32 = 1#1 := by
    rw [IntOp.cmpi_slt, hmax]; simp
  show (if _ = 1#1 then _ else _ : BitVec 32).toInt = _
  rw [if_neg hc, hmax]

/-- A held row number lies inside the array. -/
theorem held_ok (w : BitVec 32) (k : ℕ) (hk : k < 4096) (hw : w.toInt = (k : ℤ)) :
    IntOp.andi (IntOp.cmpi .sge w 0#32) (IntOp.cmpi .sle w 4095#32) = 1#1 := by
  rw [IntOp.andi_eq_one, IntOp.cmpi_sge, IntOp.cmpi_sle, hw]
  exact ⟨by simp, by show (k : ℤ) ≤ 4095; omega⟩

/-- The position is inside the sequence when the row number is not negative. -/
theorem valid_iff (w : BitVec 32) (p k : ℕ) (hw : w.toInt = (p : ℤ) - k) : IntOp.cmpi .sge w 0#32 = 1#1 ↔ k ≤ p := by
  rw [IntOp.cmpi_sge, hw]
  show (0 : ℤ) ≤ _ ↔ _
  omega

end Cert.Words

end
-- ==== Proof.Attend0.lean ====
module

public import proofs.«01_k».proof.Proof.Spec
public import proofs.«01_k».proof.Proof.Take
public import proofs.«01_k».proof.Proof.Words
public import proofs.«01_k».proof.Proof.Gen.Attend0Ideal.Read
public import Idealize.ShloMosaic.Lib.Pipeline.ValueKit

@[expose] public section

set_option maxRecDepth 16384

noncomputable section

namespace Cert.Attend0Ideal.Value

open Cert.Attend0Ideal Cert.Attend0Ideal.Gen Cert.Attend0Ideal.Read Idealize.ShloMosaic Idealize.ShloMosaic.TcCoe Idealize.SL.Sem
open Cert.Window Cert.Spec

/-! # The reference of group 0 read at an index -/

variable (A0 A1 : FVec Ideal S4x4096x1536 .f32) (A2 : FVec Ideal S4x4096x12800 .f32)

/-- The row number of the position `n` steps behind `p`, as a signed word. -/
theorem row_toInt (p : Fin 4096) (n : Fin 129) : (val_main_v18 (F := Ideal) (ix2 p n)).toInt = (p.val : ℤ) - ((1 * n.val : ℕ) : ℤ) := by
  pointwise [val_main_v18, val_main_v17, val_main_v16, val_main_v15, val_main_v14, val_main_v13, val_main_v12, val_main_v11, val_main_v10, val_main_c]
  simpa using Words.step_toInt p.val n.val 1 p.isLt n.isLt (by decide)

/-- A query's lane. -/
theorem q_apply (b : Fin 4) (p : Fin 4096) (h : Fin 4) (d : Fin 128) : val_main_v2 (F := Ideal) A0 (ix4 b p h d) = A0 (ix3 b p (lane 0 h d)) := by
  pointwise [val_main_v2, val_main_v1, val_main_v0]
  blk_ext

/-- A key's lane. -/
theorem k_apply (b : Fin 4) (p : Fin 4096) (h : Fin 4) (d : Fin 128) : val_main_v5 (F := Ideal) A1 (ix4 b p h d) = A1 (ix3 b p (lane 0 h d)) := by
  pointwise [val_main_v5, val_main_v4, val_main_v3]
  blk_ext

/-- A value's lane. -/
theorem v_apply (b : Fin 4) (p : Fin 4096) (h : Fin 4) (d : Fin 128) : val_main_v9 (F := Ideal) A2 (ix4 b p h d) = A2 (ix3 b p (vlane 0 h d)) := by
  pointwise [val_main_v9, val_main_v8, val_main_v7, val_main_v6]
  blk_ext

/-- The row number a key is taken at. -/
theorem row_k (p : Fin 4096) (n : Fin 129) : (val_main_call0_v5 (F := Ideal) (ix3 p n 0)).toInt = ((p.val - 1 * n.val : ℕ) : ℤ) := by
  have hw := row_toInt p n
  generalize 1 * n.val = k at hw ⊢
  pointwise [val_main_call0_v5, val_main_call0_v4, val_main_call0_v3, val_main_call0_v2, val_main_call0_v1, val_main_call0_v0, val_main_call0_c, val_main_call0_c_0, val_main_v22, val_main_v21, val_main_c_1]
  exact Words.held_toNat _ p.val k p.isLt hw

/-- The row number a value is taken at. -/
theorem row_v (p : Fin 4096) (n : Fin 129) : (val_main_call1_v5 (F := Ideal) (ix3 p n 0)).toInt = ((p.val - 1 * n.val : ℕ) : ℤ) := by
  have hw := row_toInt p n
  generalize 1 * n.val = k at hw ⊢
  pointwise [val_main_call1_v5, val_main_call1_v4, val_main_call1_v3, val_main_call1_v2, val_main_call1_v1, val_main_call1_v0, val_main_call1_c, val_main_call1_c_0, val_main_v22, val_main_v21, val_main_c_1]
  exact Words.held_toNat _ p.val k p.isLt hw

theorem ok_k (i : S4096x129x1.Idx) : val_main_call0_v11 (F := Ideal) i = 1#1 := by
  have hi : i = ix3 (i 0) (i 1) 0 := by blk_ext
  rw [hi]
  pointwise [val_main_call0_v11, val_main_call0_v10, val_main_call0_v9, val_main_call0_v8, val_main_call0_v7, val_main_call0_v6, val_main_call0_c_1, val_main_call0_c_2]
  refine Words.held_ok _ _ ?_ (row_k (i 0) (i 1))
  have : (i 0).val < 4096 := (i 0).isLt
  omega

theorem ok_v (i : S4096x129x1.Idx) : val_main_call1_v11 (F := Ideal) i = 1#1 := by
  have hi : i = ix3 (i 0) (i 1) 0 := by blk_ext
  rw [hi]
  pointwise [val_main_call1_v11, val_main_call1_v10, val_main_call1_v9, val_main_call1_v8, val_main_call1_v7, val_main_call1_v6, val_main_call1_c_1, val_main_call1_c_2]
  refine Words.held_ok _ _ ?_ (row_v (i 0) (i 1))
  have : (i 0).val < 4096 := (i 0).isLt
  omega

/-- The key taken `n` steps behind position `p`. -/
theorem take_k (b : Fin 4) (p : Fin 4096) (n : Fin 129) (h : Fin 4) (d : Fin 128) : val_main_v23 (F := Ideal) A1 (ix5 b p n h d)
    = A1 (ix3 b ⟨p.val - 1 * n.val, by omega⟩ (lane 0 h d)) := by
  rw [val_main_v23_apply]
  have e : val_main_call0_v14 (F := Ideal) (ix5 b p n h d) = 1#1 := by
    rw [val_main_call0_v14_apply]
    exact Host.reduce_andi_one _ _ _ _ _ rfl ok_k
  rw [e]
  show val_main_call0_v13 (F := Ideal) A1 (ix5 b p n h d) = _
  unfold val_main_call0_v13
  refine (Take.take_apply gather_S4x4096x4x128_S4096x129x1_S4x4096x129x4x128_034_1_n_n_1_2_414128_wf (val_main_v5 (F := Ideal) A1) (val_main_call0_v5 (F := Ideal)) b p n h d).trans ?_
  rw [k_apply]
  refine congrArg (fun q : Fin 4096 => A1 (ix3 b q (lane 0 h d))) (Fin.ext ?_)
  show min (val_main_call0_v5 (F := Ideal) (ix3 p n 0)).toInt.toNat 4095 = _
  rw [row_k]
  show min (p.val - 1 * n.val) 4095 = p.val - 1 * n.val
  omega

/-- The value taken `n` steps behind position `p`. -/
theorem take_v (b : Fin 4) (p : Fin 4096) (n : Fin 129) (h : Fin 4) (d : Fin 128) : val_main_v24 (F := Ideal) A2 (ix5 b p n h d)
    = A2 (ix3 b ⟨p.val - 1 * n.val, by omega⟩ (vlane 0 h d)) := by
  rw [val_main_v24_apply]
  have e : val_main_call1_v14 (F := Ideal) (ix5 b p n h d) = 1#1 := by
    rw [val_main_call1_v14_apply]
    exact Host.reduce_andi_one _ _ _ _ _ rfl ok_v
  rw [e]
  show val_main_call1_v13 (F := Ideal) A2 (ix5 b p n h d) = _
  unfold val_main_call1_v13
  refine (Take.take_apply gather_S4x4096x4x128_S4096x129x1_S4x4096x129x4x128_034_1_n_n_1_2_414128_wf (val_main_v9 (F := Ideal) A2) (val_main_call1_v5 (F := Ideal)) b p n h d).trans ?_
  rw [v_apply]
  refine congrArg (fun q : Fin 4096 => A2 (ix3 b q (vlane 0 h d))) (Fin.ext ?_)
  show min (val_main_call1_v5 (F := Ideal) (ix3 p n 0)).toInt.toNat 4095 = _
  rw [row_v]
  show min (p.val - 1 * n.val) 4095 = p.val - 1 * n.val
  omega

section At
variable (b : Fin 4) (p : Fin 4096) (h : Fin 4) (d : Fin 128) (s res : ℕ) (hres : res < 1) (hp : p.val = s * 1 + res)

include hres hp in
/-- A logit of the window behind position `p`. -/
theorem logit_apply (n : Fin 129) : val_main_v29 (F := Ideal) A0 A1 (ix4 b p h n) = logits A0 A1 0 1 b s res h n := by
  pointwise [val_main_v29, val_main_call2_v2, val_main_call2_v1, val_main_call2_v0, val_main_cst, val_main_cst_2, val_main_v28, val_main_v27, val_main_v26, val_main_v25, val_main_v20, val_main_v19, val_main_c_0]
  have hc : IntOp.cmpi .sge (val_main_v18 (F := Ideal) (ix2 p n)) 0#32 = 1#1 ↔ n.val ≤ s :=
    (Words.valid_iff _ p.val _ (row_toInt p n)).trans (by omega)
  show (if _ = 1#1 then _ else Ideal.ofBits .f32 0xFF800000#32) = _
  rw [ofBits_negInf]
  unfold logits logit
  by_cases hn : n.val ≤ s
  · rw [if_pos (hc.2 hn), if_pos hn]
    refine congrArg (· * scale) (Finset.sum_congr rfl fun x _ => ?_)
    unfold query keys
    have e1 : p = pos 1 res s := Fin.ext (show p.val = min (s * 1 + res) 4095 by omega)
    have e2 : (⟨p.val - 1 * n.val, by omega⟩ : Fin 4096) = pos 1 res (s - n.val) :=
      Fin.ext (show p.val - 1 * n.val = min ((s - n.val) * 1 + res) 4095 by omega)
    rw [q_apply, take_k, e2, ← e1]
  · rw [if_neg (fun h => hn (hc.1 h)), if_neg hn]

include hres hp in
/-- The greatest logit of the window behind position `p`. -/
theorem max_apply : val_main_v30 (F := Ideal) A0 A1 (ix3 b p h) = top (logits A0 A1 0 1 b s res h) := by
  pointwise [val_main_v30, val_main_cst_3]
  show Finset.fold max (Ideal.ofBits .f32 0xFF800000#32) _ _ = _
  rw [ofBits_negInf]
  unfold top
  exact Finset.fold_congr fun n _ => logit_apply A0 A1 b p h s res hres hp n

include hres hp in
/-- A weight. -/
theorem weight_apply (n : Fin 129) : val_main_v34 (F := Ideal) A0 A1 (ix4 b p h n) = weight (logits A0 A1 0 1 b s res h) n := by
  pointwise [val_main_v34, val_main_v33, val_main_v32, val_main_v31]
  rw [logit_apply A0 A1 b p h s res hres hp, max_apply A0 A1 b p h s res hres hp]
  rfl

include hres hp in
/-- The sum of the weights. -/
theorem mass_apply : val_main_v35 (F := Ideal) A0 A1 (ix3 b p h) = mass (logits A0 A1 0 1 b s res h) := by
  pointwise [val_main_v35, val_main_cst_4]
  exact Finset.sum_congr rfl fun n _ => weight_apply A0 A1 b p h s res hres hp n

include hres hp in
/-- The output at position `p`. -/
theorem mean_apply : val_main_v39 (F := Ideal) A0 A1 A2 (ix4 b p h d) = out A0 A1 A2 0 1 b s res h d := by
  pointwise [val_main_v39, val_main_v38, val_main_v37, val_main_v36]
  rw [mass_apply A0 A1 b p h s res hres hp]
  unfold out mean
  refine congrArg (Ideal.div · _) (Finset.sum_congr rfl fun n _ => ?_)
  rw [weight_apply A0 A1 b p h s res hres hp, take_v]
  by_cases hn : n.val ≤ s
  · unfold vals
    have e2 : (⟨p.val - 1 * n.val, by omega⟩ : Fin 4096) = pos 1 res (s - n.val) :=
      Fin.ext (show p.val - 1 * n.val = min ((s - n.val) * 1 + res) 4095 by omega)
    rw [e2]
  · rw [weight_out A0 A1 0 1 b s res h n hn, zero_mul, zero_mul]

include hres hp in
/-- The logarithm at position `p`. -/
theorem lse_apply : val_main_v44 (F := Ideal) A0 A1 (ix4 b p h d) = Spec.lse A0 A1 0 1 b s res h := by
  have e43 : idx_main_v43 (idx_main_v44 (ix4 b p h d)) = ix3 b p h := by
    funext a
    match a with
    | ⟨0, _⟩ => rfl
    | ⟨1, _⟩ => rfl
    | ⟨2, _⟩ => rfl
  have e40 : idx_main_v31 (idx_main_v40 (ix3 b p h)) = ix3 b p h := by
    funext a
    refine Fin.ext ?_
    match a with
    | ⟨0, _⟩ =>
      show ((b.val * 4096 + p.val) * 4 + h.val) / 16384 = b.val
      omega
    | ⟨1, _⟩ =>
      show ((b.val * 4096 + p.val) * 4 + h.val) / 4 % 4096 = p.val
      omega
    | ⟨2, _⟩ =>
      show ((b.val * 4096 + p.val) * 4 + h.val) / 1 % 4 = h.val
      omega
  rw [val_main_v44_apply, val_main_v43_apply, e43, val_main_v42_apply, val_main_v40_apply, val_main_v31_apply, e40,
    val_main_v41_apply, mass_apply A0 A1 b p h s res hres hp, max_apply A0 A1 b p h s res hres hp]
  rfl

end At

/-- The output at position `p`, from the column it is stored in. -/
theorem mean_at (b : Fin 4) (p : Fin 4096) (h : Fin 4) (d : Fin 128) (s c : ℕ) (hc : c / 512 < 1) (hp : p.val = s * 1 + c / 512)
    (hh : h.val = c % 512 / 128) (hd : d.val = c % 128) :
    val_main_v39 (F := Ideal) A0 A1 A2 (ix4 b p h d) = outAt A0 A1 A2 0 1 b s c := by
  rw [mean_apply A0 A1 A2 b p h d s (c / 512) hc hp]
  unfold outAt
  rw [show h = ⟨c % 512 / 128, by omega⟩ from Fin.ext hh, show d = ⟨c % 128, by omega⟩ from Fin.ext hd]

/-- The logarithm at position `p`, from the column it is stored in. -/
theorem lse_at (b : Fin 4) (p : Fin 4096) (h : Fin 4) (d : Fin 128) (s c : ℕ) (hc : c / 512 < 1) (hp : p.val = s * 1 + c / 512)
    (hh : h.val = c % 512 / 128) :
    val_main_v44 (F := Ideal) A0 A1 (ix4 b p h d) = lseAt A0 A1 0 1 b s c := by
  rw [lse_apply A0 A1 b p h d s (c / 512) hc hp]
  unfold lseAt
  rw [show h = ⟨c % 512 / 128, by omega⟩ from Fin.ext hh]

/-- The output array of the reference. -/
theorem out_eq (j : S4x4096x512.Idx) : val_main_v45 (F := Ideal) A0 A1 A2 j = outAt A0 A1 A2 0 1 (j 0) (j 1).val (j 2).val := by
  pointwise [val_main_v45]
  have h1 : (j 1).val < 4096 := (j 1).isLt
  have h2 : (j 2).val < 512 := (j 2).isLt
  refine mean_at A0 A1 A2 _ _ _ _ (j 1).val (j 2).val (by omega) ?_ ?_ ?_
  all_goals first | omega | (dsimp only; omega) | rfl

/-- The array of logarithms of the reference. -/
theorem lse_eq (j : S4x4096x512.Idx) : val_main_v46 (F := Ideal) A0 A1 j = lseAt A0 A1 0 1 (j 0) (j 1).val (j 2).val := by
  pointwise [val_main_v46]
  have h1 : (j 1).val < 4096 := (j 1).isLt
  have h2 : (j 2).val < 512 := (j 2).isLt
  refine lse_at A0 A1 _ _ _ _ (j 1).val (j 2).val (by omega) ?_ ?_
  all_goals first | omega | (dsimp only; omega) | rfl

end Cert.Attend0Ideal.Value

end
-- ==== Proof.Claims0.lean ====
/- The claims about the attention call of group 0. -/
module

public import proofs.«01_k».proof.Defs
public import proofs.«01_k».proof.Proof.Gen.Swa0.Frame
public import proofs.«01_k».proof.Proof.Gen.Swa0Ideal.Frame
public import proofs.«01_k».proof.Proof.Gen.Attend0Ideal.Run
public import proofs.«01_k».proof.Proof.Blocks0
public import proofs.«01_k».proof.Proof.Attend0
public import Idealize.ShloMosaic.Lib.Claim
public import Idealize.ShloMosaic.Lib.Quiescent

@[expose] public section

set_option maxRecDepth 16384

noncomputable section

namespace Cert.Proof

open Idealize.ShloMosaic Idealize.SL.Sem

/-- The attention call of group 0 runs, leaves its arguments as they were and every semaphore at zero. -/
theorem quiescent_Swa0 : Cert.quiescent_Swa0 := fun m g _ => Cert.Swa0.Gen.frame m g

/-- So does its idealization. -/
theorem quiescent_Swa0Ideal : Cert.quiescent_Swa0Ideal := fun m g _ => Cert.Swa0Ideal.Gen.frame m g

/-- So does the reference. -/
theorem quiescent_Attend0Ideal : Cert.quiescent_Attend0Ideal := fun m g _ =>
  (θ_run Cert.Attend0Ideal.defs _ _).mono
    (fun r h => ⟨fun c => ⟨(h c).2.2.1, (h c).2.2.2.1, (h c).2.2.2.2⟩, Idealize.ShloMosaic.sem_eq_zero_of_no_sems (by decide) r.2⟩)
    (Cert.Attend0Ideal.Value.run m g)

/-- The mask's finite stand-in is named for the value minus infinity. -/
theorem preserves_Swa0 : Cert.preserves_Swa0_Swa0Ideal :=
  IdealRules.named_const.statement Cert.Swa0Ideal.κ "mask" .f32 0xF149F2CA#32 ⊥ rfl

/-- The reference's first array over the kernel's arguments. -/
theorem out_Attend0 (m' : (ℓ : Loc Cert.Attend0Ideal.nD Cert.Attend0Ideal.τ Cert.Attend0Ideal.sig) → Buf (Elt Ideal) ℓ) (c : Dev Cert.Attend0Ideal.nD) :
    Cert.Attend0Ideal.Value.res_main_v45 m' c = Cert.Swa0Ideal.Blocks.O (m' ((c.tc : Thread Cert.Attend0Ideal.nD Cert.Attend0Ideal.τ).loc Cert.Attend0Ideal.main_arg0))
      (m' ((c.tc : Thread Cert.Attend0Ideal.nD Cert.Attend0Ideal.τ).loc Cert.Attend0Ideal.main_arg1))
      (m' ((c.tc : Thread Cert.Attend0Ideal.nD Cert.Attend0Ideal.τ).loc Cert.Attend0Ideal.main_arg2)) :=
  (Cert.Attend0Ideal.Read.val_main_v45_eq m' c).trans (funext fun j => Cert.Attend0Ideal.Value.out_eq _ _ _ j)

/-- The reference's second array over the kernel's arguments. -/
theorem lse_Attend0 (m' : (ℓ : Loc Cert.Attend0Ideal.nD Cert.Attend0Ideal.τ Cert.Attend0Ideal.sig) → Buf (Elt Ideal) ℓ) (c : Dev Cert.Attend0Ideal.nD) :
    Cert.Attend0Ideal.Value.res_main_v46 m' c = Cert.Swa0Ideal.Blocks.L (m' ((c.tc : Thread Cert.Attend0Ideal.nD Cert.Attend0Ideal.τ).loc Cert.Attend0Ideal.main_arg0))
      (m' ((c.tc : Thread Cert.Attend0Ideal.nD Cert.Attend0Ideal.τ).loc Cert.Attend0Ideal.main_arg1)) :=
  (Cert.Attend0Ideal.Read.val_main_v46_eq m' c).trans (funext fun j => Cert.Attend0Ideal.Value.lse_eq _ _ j)

/-- Over the extended reals the call's two arrays are the reference's two arrays. -/
theorem algebraic_Swa0 : Cert.algebraic_Swa0Ideal_Attend0Ideal := by
  pair_intro
  · run_from Cert.Swa0Ideal.Gen.run_main m g
  · refine (θ_run Cert.Attend0Ideal.defs _ _).mono (fun r h c => ⟨(h c).1.trans ?_, (h c).2.1.trans ?_, (h c).2.2⟩) (Cert.Attend0Ideal.Value.run m' g')
    · rw [out_Attend0 m' c, (hagree c).1, (hagree c).2.1, (hagree c).2.2]
      exact (Cert.Swa0Ideal.Blocks.final5 m c).symm
    · rw [lse_Attend0 m' c, (hagree c).1, (hagree c).2.1]
      exact (Cert.Swa0Ideal.Blocks.final6 m c).symm

end Cert.Proof

end
-- ==== Proof.Blocks1.lean ====
module

public import proofs.«01_k».proof.Proof.Head
public import proofs.«01_k».proof.Proof.Gen.Swa1Ideal.Frame
public import proofs.«01_k».proof.Proof.Spec
public import Idealize.ShloMosaic.Lib.Pipeline.ValueKit

@[expose] public section

set_option maxRecDepth 16384

noncomputable section

namespace Cert.Swa1Ideal.Blocks

open Cert.Swa1Ideal Cert.Swa1Ideal.Gen Idealize.ShloMosaic Idealize.ShloMosaic.TcCoe Idealize.SL.Sem
open Idealize.ShloMosaic.Pipeline (Dat)
open Cert.Swa0Ideal.Head

variable (m : (ℓ : Loc nD τ sig) → Buf (Elt Ideal) ℓ)

/-- Head 0's slice of a block. -/
abbrev ld0 (x : Vec Ideal S1x128x512 .f32) : Vec Ideal S1x128x128 .f32 := View.ld x r0_0
/-- Head 1's slice of a block. -/
abbrev ld1 (x : Vec Ideal S1x128x512 .f32) : Vec Ideal S1x128x128 .f32 := View.ld x r0_1
/-- Head 2's slice of a block. -/
abbrev ld2 (x : Vec Ideal S1x128x512 .f32) : Vec Ideal S1x128x128 .f32 := View.ld x r0_2
/-- Head 3's slice of a block. -/
abbrev ld3 (x : Vec Ideal S1x128x512 .f32) : Vec Ideal S1x128x128 .f32 := View.ld x r0_3

/-- A point of this grid as the point of group 0's grid with the same block of queries: the head's formula reads nothing else of it. -/
def at0 (i : grid0.Coords) : Cert.Swa0Ideal.grid0.Coords := fun k => match k with
  | ⟨0, _⟩ => ⟨0, show 0 < 4 by omega⟩
  | ⟨1, _⟩ => ⟨0, show 0 < 1 by omega⟩
  | ⟨2, _⟩ => ⟨(i 2).val, by have : (i 2).val < 8 := (i 2).isLt; show _ < 32; omega⟩

/-- The block of queries of the point. -/
theorem at0_two (i : grid0.Coords) : (at0 i 2).val = (i 2).val := rfl

/-- The four output stores are the head's formula over the four heads' slices. -/
theorem out5_eq (i : grid0.Coords) (x0 x1 x2 x3 x4 : FVec Ideal S1x128x512 .f32) :
    out0_5 (F := Ideal) i x0 x1 x2 x3 x4 = View.canon [
      ⟨r0_3, headO (at0 i) (ld3 x0) (ld3 x1) (ld3 x2) (ld3 x3) (ld3 x4)⟩,
      ⟨r0_2, headO (at0 i) (ld2 x0) (ld2 x1) (ld2 x2) (ld2 x3) (ld2 x4)⟩,
      ⟨r0_1, headO (at0 i) (ld1 x0) (ld1 x1) (ld1 x2) (ld1 x3) (ld1 x4)⟩,
      ⟨r0_0, headO (at0 i) (ld0 x0) (ld0 x1) (ld0 x2) (ld0 x3) (ld0 x4)⟩] := rfl

/-- The four stores of logarithms are the head's formula over the four heads' slices. -/
theorem out6_eq (i : grid0.Coords) (x0 x1 x2 x3 x4 : FVec Ideal S1x128x512 .f32) :
    out0_6 (F := Ideal) i x0 x1 x2 x3 x4 = View.canon [
      ⟨r0_3, headL (at0 i) (ld3 x0) (ld3 x1) (ld3 x2)⟩,
      ⟨r0_2, headL (at0 i) (ld2 x0) (ld2 x1) (ld2 x2)⟩,
      ⟨r0_1, headL (at0 i) (ld1 x0) (ld1 x1) (ld1 x2)⟩,
      ⟨r0_0, headL (at0 i) (ld0 x0) (ld0 x1) (ld0 x2)⟩] := rfl

theorem idx : ∀ t : Fin cfg0.N,
    win0_0.index t = ![(grid0.coords t 0).val, (grid0.coords t 2).val, (grid0.coords t 1).val * 3 + 1]
    ∧ win0_1.index t = ![(grid0.coords t 0).val, (grid0.coords t 2).val - 1, (grid0.coords t 1).val * 3 + 1]
    ∧ win0_2.index t = ![(grid0.coords t 0).val, (grid0.coords t 2).val, (grid0.coords t 1).val * 3 + 1]
    ∧ win0_3.index t = ![(grid0.coords t 0).val, (grid0.coords t 2).val - 1, (grid0.coords t 1).val * 25 + 22 + 1]
    ∧ win0_4.index t = ![(grid0.coords t 0).val, (grid0.coords t 2).val, (grid0.coords t 1).val * 25 + 22 + 1]
    ∧ win0_5.index t = ![(grid0.coords t 0).val, (grid0.coords t 2).val, (grid0.coords t 1).val]
    ∧ win0_6.index t = ![(grid0.coords t 0).val, (grid0.coords t 2).val, (grid0.coords t 1).val] :=
  (by decide +kernel : ∀ t : Fin grid0.N, _)

/-- The whole output array. -/
def O (A0 A1 : FVec Ideal S4x4096x1536 .f32) (A2 : FVec Ideal S4x4096x12800 .f32) : FVec Ideal S4x1024x2048 .f32 :=
  fun j => Spec.outAt A0 A1 A2 1 4 (j 0) (j 1).val (j 2).val

/-- The whole array of logarithms. -/
def L (A0 A1 : FVec Ideal S4x4096x1536 .f32) : FVec Ideal S4x1024x2048 .f32 :=
  fun j => Spec.lseAt A0 A1 1 4 (j 0) (j 1).val (j 2).val

/-- The batch row of a point's blocks. -/
abbrev bat (t : Fin cfg0.N) : Fin 4 := grid0.coords t 0
/-- Head `hh`'s slice of a block, as a block of its own. -/
def slice (hh : Fin 4) (x : Vec Ideal S1x128x512 .f32) : Vec Ideal S1x128x128 .f32 :=
  fun y => x (ix3 0 (y 1) ⟨hh.val * 128 + (y 2).val, by have : (y 2).val < 128 := (y 2).isLt; omega⟩)

theorem ld0_eq (x : Vec Ideal S1x128x512 .f32) : ld0 x = slice 0 x := by
  funext y; pointwise [slice, ld0]
theorem ld1_eq (x : Vec Ideal S1x128x512 .f32) : ld1 x = slice 1 x := by
  funext y; pointwise [slice, ld1]
theorem ld2_eq (x : Vec Ideal S1x128x512 .f32) : ld2 x = slice 2 x := by
  funext y; pointwise [slice, ld2]
theorem ld3_eq (x : Vec Ideal S1x128x512 .f32) : ld3 x = slice 3 x := by
  funext y; pointwise [slice, ld3]

section Reads
open Cert.Spec
variable (c : Dev nD) (t : Fin cfg0.N) (hh : Fin 4) (r l : Fin 128)

theorem read0 : slice hh (iblk m c 0 t) (ix3 0 r l)
    = (m ((c : Thread nD τ).loc main_arg0) : FVec Ideal S4x4096x1536 .f32) (ix3 (bat t) (pos 4 (grid0.coords t 1).val (128 * (grid0.coords t 2).val + r.val)) (lane 1 hh l)) := by
  have hi : (grid0.coords t 2).val < 8 := (grid0.coords t 2).isLt
  have hr : (grid0.coords t 1).val < 4 := (grid0.coords t 1).isLt
  unfold slice
  unfold iblk
  entry_read
  refine Spec.view_apply _ _ (((cfg0.win 0).blk t).view.emb _) _ _ _ ?_
  blk_simp [idx t]
  dsimp only [pos, lane, vlane, bat]
  omega

theorem read1 : slice hh (iblk m c 1 t) (ix3 0 r l)
    = (m ((c : Thread nD τ).loc main_arg1) : FVec Ideal S4x4096x1536 .f32) (ix3 (bat t) (pos 4 (grid0.coords t 1).val (128 * ((grid0.coords t 2).val - 1) + r.val)) (lane 1 hh l)) := by
  have hi : (grid0.coords t 2).val < 8 := (grid0.coords t 2).isLt
  have hr : (grid0.coords t 1).val < 4 := (grid0.coords t 1).isLt
  unfold slice
  unfold iblk
  entry_read
  refine Spec.view_apply _ _ (((cfg0.win 1).blk t).view.emb _) _ _ _ ?_
  blk_simp [idx t]
  dsimp only [pos, lane, vlane, bat]
  omega

theorem read2 : slice hh (iblk m c 2 t) (ix3 0 r l)
    = (m ((c : Thread nD τ).loc main_arg1) : FVec Ideal S4x4096x1536 .f32) (ix3 (bat t) (pos 4 (grid0.coords t 1).val (128 * (grid0.coords t 2).val + r.val)) (lane 1 hh l)) := by
  have hi : (grid0.coords t 2).val < 8 := (grid0.coords t 2).isLt
  have hr : (grid0.coords t 1).val < 4 := (grid0.coords t 1).isLt
  unfold slice
  unfold iblk
  entry_read
  refine Spec.view_apply _ _ (((cfg0.win 2).blk t).view.emb _) _ _ _ ?_
  blk_simp [idx t]
  dsimp only [pos, lane, vlane, bat]
  omega

theorem read3 : slice hh (iblk m c 3 t) (ix3 0 r l)
    = (m ((c : Thread nD τ).loc main_arg2) : FVec Ideal S4x4096x12800 .f32) (ix3 (bat t) (pos 4 (grid0.coords t 1).val (128 * ((grid0.coords t 2).val - 1) + r.val)) (vlane 1 hh l)) := by
  have hi : (grid0.coords t 2).val < 8 := (grid0.coords t 2).isLt
  have hr : (grid0.coords t 1).val < 4 := (grid0.coords t 1).isLt
  unfold slice
  unfold iblk
  entry_read
  refine Spec.view_apply _ _ (((cfg0.win 3).blk t).view.emb _) _ _ _ ?_
  blk_simp [idx t]
  dsimp only [pos, lane, vlane, bat]
  omega

theorem read4 : slice hh (iblk m c 4 t) (ix3 0 r l)
    = (m ((c : Thread nD τ).loc main_arg2) : FVec Ideal S4x4096x12800 .f32) (ix3 (bat t) (pos 4 (grid0.coords t 1).val (128 * (grid0.coords t 2).val + r.val)) (vlane 1 hh l)) := by
  have hi : (grid0.coords t 2).val < 8 := (grid0.coords t 2).isLt
  have hr : (grid0.coords t 1).val < 4 := (grid0.coords t 1).isLt
  unfold slice
  unfold iblk
  entry_read
  refine Spec.view_apply _ _ (((cfg0.win 4).blk t).view.emb _) _ _ _ ?_
  blk_simp [idx t]
  dsimp only [pos, lane, vlane, bat]
  omega

end Reads

section Point
variable (c : Dev nD) (t : Fin cfg0.N) (hh : Fin 4) (x : S1x128x128.Idx) (j : S4x1024x2048.Idx)
    (hj0 : (j 0).val = (grid0.coords t 0).val) (hj1 : (j 1).val = 128 * (grid0.coords t 2).val + (x 1).val)
    (hj2 : (j 2).val = (grid0.coords t 1).val * 512 + hh.val * 128 + (x 2).val)

include hj0 hj1 hj2 in
/-- A head's output block at a point is its part of the whole array. -/
theorem pieceO : headO (at0 (grid0.coords t)) (slice hh (iblk m c 0 t)) (slice hh (iblk m c 1 t)) (slice hh (iblk m c 2 t))
      (slice hh (iblk m c 3 t)) (slice hh (iblk m c 4 t)) x
    = O (m ((c : Thread nD τ).loc main_arg0)) (m ((c : Thread nD τ).loc main_arg1)) (m ((c : Thread nD τ).loc main_arg2)) j := by
  have hx : x = ix3 0 (x 1) (x 2) := by blk_ext
  rw [hx]
  refine (headO_spec (at0 (grid0.coords t)) _ _ _ _ _ (m ((c : Thread nD τ).loc main_arg0)) (m ((c : Thread nD τ).loc main_arg1))
    (m ((c : Thread nD τ).loc main_arg2)) 1 4 (bat t) (grid0.coords t 1).val hh (x 1) (x 2) (fun r l => ?_) (fun _ r l => ?_) (fun r l => ?_)
    (fun _ r l => ?_) (fun r l => ?_)).trans ?_
  · rw [at0_two]; exact read0 m c t hh r l
  · rw [at0_two]; exact read1 m c t hh r l
  · rw [at0_two]; exact read2 m c t hh r l
  · rw [at0_two]; exact read3 m c t hh r l
  · rw [at0_two]; exact read4 m c t hh r l
  · unfold O Spec.outAt
    have x2 : (x 2).val < 128 := (x 2).isLt
    congr 1
    · exact Fin.ext hj0.symm
    · rw [at0_two]; exact hj1.symm
    · omega
    · exact Fin.ext (show hh.val = (j 2).val % 512 / 128 by omega)
    · exact Fin.ext (show (x 2).val = (j 2).val % 128 by omega)

include hj0 hj1 hj2 in
/-- A head's block of logarithms at a point is its part of the whole array. -/
theorem pieceL : headL (at0 (grid0.coords t)) (slice hh (iblk m c 0 t)) (slice hh (iblk m c 1 t)) (slice hh (iblk m c 2 t)) x
    = L (m ((c : Thread nD τ).loc main_arg0)) (m ((c : Thread nD τ).loc main_arg1)) j := by
  have hx : x = ix3 0 (x 1) (x 2) := by blk_ext
  rw [hx]
  refine (headL_spec (at0 (grid0.coords t)) _ _ _ (m ((c : Thread nD τ).loc main_arg0)) (m ((c : Thread nD τ).loc main_arg1))
    1 4 (bat t) (grid0.coords t 1).val hh (x 1) (x 2) (fun r l => ?_) (fun _ r l => ?_) (fun r l => ?_)).trans ?_
  · rw [at0_two]; exact read0 m c t hh r l
  · rw [at0_two]; exact read1 m c t hh r l
  · rw [at0_two]; exact read2 m c t hh r l
  · unfold L Spec.lseAt
    have x2 : (x 2).val < 128 := (x 2).isLt
    congr 1
    · exact Fin.ext hj0.symm
    · rw [at0_two]; exact hj1.symm
    · omega
    · exact Fin.ext (show hh.val = (j 2).val % 512 / 128 by omega)

end Point

/-- What a point stores is its block of the whole output array. -/
theorem point5 (c : Dev nD) (t : Fin cfg0.N) (y : S1x128x512.Idx) (j : S4x1024x2048.Idx)
    (hj0 : (j 0).val = (grid0.coords t 0).val) (hj1 : (j 1).val = 128 * (grid0.coords t 2).val + (y 1).val)
    (hj2 : (j 2).val = (grid0.coords t 1).val * 512 + (y 2).val) :
    out0_5 (grid0.coords t) (iblk m c 0 t) (iblk m c 1 t) (iblk m c 2 t) (iblk m c 3 t) (iblk m c 4 t) y
      = O (m ((c : Thread nD τ).loc main_arg0)) (m ((c : Thread nD τ).loc main_arg1)) (m ((c : Thread nD τ).loc main_arg2)) j := by
  rw [out5_eq]
  canon_tiles x h
  · rw [ld3_eq, ld3_eq, ld3_eq, ld3_eq, ld3_eq]; exact pieceO m c t 3 x j hj0 (by omega) (by omega)
  · rw [ld2_eq, ld2_eq, ld2_eq, ld2_eq, ld2_eq]; exact pieceO m c t 2 x j hj0 (by omega) (by omega)
  · rw [ld1_eq, ld1_eq, ld1_eq, ld1_eq, ld1_eq]; exact pieceO m c t 1 x j hj0 (by omega) (by omega)
  · rw [ld0_eq, ld0_eq, ld0_eq, ld0_eq, ld0_eq]; exact pieceO m c t 0 x j hj0 (by omega) (by omega)

/-- What a point stores of logarithms is its block of the whole array. -/
theorem point6 (c : Dev nD) (t : Fin cfg0.N) (y : S1x128x512.Idx) (j : S4x1024x2048.Idx)
    (hj0 : (j 0).val = (grid0.coords t 0).val) (hj1 : (j 1).val = 128 * (grid0.coords t 2).val + (y 1).val)
    (hj2 : (j 2).val = (grid0.coords t 1).val * 512 + (y 2).val) :
    out0_6 (grid0.coords t) (iblk m c 0 t) (iblk m c 1 t) (iblk m c 2 t) (iblk m c 3 t) (iblk m c 4 t) y
      = L (m ((c : Thread nD τ).loc main_arg0)) (m ((c : Thread nD τ).loc main_arg1)) j := by
  rw [out6_eq]
  canon_tiles x h
  · rw [ld3_eq, ld3_eq, ld3_eq]; exact pieceL m c t 3 x j hj0 (by omega) (by omega)
  · rw [ld2_eq, ld2_eq, ld2_eq]; exact pieceL m c t 2 x j hj0 (by omega) (by omega)
  · rw [ld1_eq, ld1_eq, ld1_eq]; exact pieceL m c t 1 x j hj0 (by omega) (by omega)
  · rw [ld0_eq, ld0_eq, ld0_eq]; exact pieceL m c t 0 x j hj0 (by omega) (by omega)

/-- The output array after the run. -/
theorem final5 (c : Dev nD) : (dats m 0 c).arrAt 5 (cfgs 0).N
    = O (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  refine point5 m c t y _ ?_ ?_ ?_
  all_goals (blk_simp [idx t] <;> try omega)

/-- The array of logarithms after the run. -/
theorem final6 (c : Dev nD) : (dats m 0 c).arrAt 6 (cfgs 0).N
    = L (m ((c : Thread nD τ).loc main_arg0)) (m ((c : Thread nD τ).loc main_arg1)) := by
  refine (dats m 0 c).arrAt_eq_of_covers 6 _ (by decide +kernel) fun t _ y => ?_
  blk_simp
  rw [after0_6]
  refine point6 m c t y _ ?_ ?_ ?_
  all_goals (blk_simp [idx t] <;> try omega)

end Cert.Swa1Ideal.Blocks

end
-- ==== Proof.Attend1.lean ====
module

public import proofs.«01_k».proof.Proof.Spec
public import proofs.«01_k».proof.Proof.Take
public import proofs.«01_k».proof.Proof.Words
public import proofs.«01_k».proof.Proof.Gen.Attend1Ideal.Read
public import Idealize.ShloMosaic.Lib.Pipeline.ValueKit

@[expose] public section

set_option maxRecDepth 16384

noncomputable section

namespace Cert.Attend1Ideal.Value

open Cert.Attend1Ideal Cert.Attend1Ideal.Gen Cert.Attend1Ideal.Read Idealize.ShloMosaic Idealize.ShloMosaic.TcCoe Idealize.SL.Sem
open Cert.Window Cert.Spec

/-! # The reference of group 1 read at an index -/

variable (A0 A1 : FVec Ideal S4x4096x1536 .f32) (A2 : FVec Ideal S4x4096x12800 .f32)

/-- The row number of the position `n` steps behind `p`, as a signed word. -/
theorem row_toInt (p : Fin 4096) (n : Fin 129) : (val_main_v18 (F := Ideal) (ix2 p n)).toInt = (p.val : ℤ) - ((4 * n.val : ℕ) : ℤ) := by
  pointwise [val_main_v18, val_main_v17, val_main_v16, val_main_v15, val_main_v14, val_main_v13, val_main_v12, val_main_v11, val_main_v10, val_main_c]
  simpa using Words.step_toInt p.val n.val 4 p.isLt n.isLt (by decide)

/-- A query's lane. -/
theorem q_apply (b : Fin 4) (p : Fin 4096) (h : Fin 4) (d : Fin 128) : val_main_v2 (F := Ideal) A0 (ix4 b p h d) = A0 (ix3 b p (lane 1 h d)) := by
  pointwise [val_main_v2, val_main_v1, val_main_v0]
  blk_ext

/-- A key's lane. -/
theorem k_apply (b : Fin 4) (p : Fin 4096) (h : Fin 4) (d : Fin 128) : val_main_v5 (F := Ideal) A1 (ix4 b p h d) = A1 (ix3 b p (lane 1 h d)) := by
  pointwise [val_main_v5, val_main_v4, val_main_v3]
  blk_ext

/-- A value's lane. -/
theorem v_apply (b : Fin 4) (p : Fin 4096) (h : Fin 4) (d : Fin 128) : val_main_v9 (F := Ideal) A2 (ix4 b p h d) = A2 (ix3 b p (vlane 1 h d)) := by
  pointwise [val_main_v9, val_main_v8, val_main_v7, val_main_v6]
  blk_ext

/-- The row number a key is taken at. -/
theorem row_k (p : Fin 4096) (n : Fin 129) : (val_main_call0_v5 (F := Ideal) (ix3 p n 0)).toInt = ((p.val - 4 * n.val : ℕ) : ℤ) := by
  have hw := row_toInt p n
  generalize 4 * n.val = k at hw ⊢
  pointwise [val_main_call0_v5, val_main_call0_v4, val_main_call0_v3, val_main_call0_v2, val_main_call0_v1, val_main_call0_v0, val_main_call0_c, val_main_call0_c_0, val_main_v22, val_main_v21, val_main_c_1]
  exact Words.held_toNat _ p.val k p.isLt hw

/-- The row number a value is taken at. -/
theorem row_v (p : Fin 4096) (n : Fin 129) : (val_main_call1_v5 (F := Ideal) (ix3 p n 0)).toInt = ((p.val - 4 * n.val : ℕ) : ℤ) := by
  have hw := row_toInt p n
  generalize 4 * n.val = k at hw ⊢
  pointwise [val_main_call1_v5, val_main_call1_v4, val_main_call1_v3, val_main_call1_v2, val_main_call1_v1, val_main_call1_v0, val_main_call1_c, val_main_call1_c_0, val_main_v22, val_main_v21, val_main_c_1]
  exact Words.held_toNat _ p.val k p.isLt hw

theorem ok_k (i : S4096x129x1.Idx) : val_main_call0_v11 (F := Ideal) i = 1#1 := by
  have hi : i = ix3 (i 0) (i 1) 0 := by blk_ext
  rw [hi]
  pointwise [val_main_call0_v11, val_main_call0_v10, val_main_call0_v9, val_main_call0_v8, val_main_call0_v7, val_main_call0_v6, val_main_call0_c_1, val_main_call0_c_2]
  refine Words.held_ok _ _ ?_ (row_k (i 0) (i 1))
  have : (i 0).val < 4096 := (i 0).isLt
  omega

theorem ok_v (i : S4096x129x1.Idx) : val_main_call1_v11 (F := Ideal) i = 1#1 := by
  have hi : i = ix3 (i 0) (i 1) 0 := by blk_ext
  rw [hi]
  pointwise [val_main_call1_v11, val_main_call1_v10, val_main_call1_v9, val_main_call1_v8, val_main_call1_v7, val_main_call1_v6, val_main_call1_c_1, val_main_call1_c_2]
  refine Words.held_ok _ _ ?_ (row_v (i 0) (i 1))
  have : (i 0).val < 4096 := (i 0).isLt
  omega

/-- The key taken `n` steps behind position `p`. -/
theorem take_k (b : Fin 4) (p : Fin 4096) (n : Fin 129) (h : Fin 4) (d : Fin 128) : val_main_v23 (F := Ideal) A1 (ix5 b p n h d)
    = A1 (ix3 b ⟨p.val - 4 * n.val, by omega⟩ (lane 1 h d)) := by
  rw [val_main_v23_apply]
  have e : val_main_call0_v14 (F := Ideal) (ix5 b p n h d) = 1#1 := by
    rw [val_main_call0_v14_apply]
    exact Host.reduce_andi_one _ _ _ _ _ rfl ok_k
  rw [e]
  show val_main_call0_v13 (F := Ideal) A1 (ix5 b p n h d) = _
  unfold val_main_call0_v13
  refine (Take.take_apply gather_S4x4096x4x128_S4096x129x1_S4x4096x129x4x128_034_1_n_n_1_2_414128_wf (val_main_v5 (F := Ideal) A1) (val_main_call0_v5 (F := Ideal)) b p n h d).trans ?_
  rw [k_apply]
  refine congrArg (fun q : Fin 4096 => A1 (ix3 b q (lane 1 h d))) (Fin.ext ?_)
  show min (val_main_call0_v5 (F := Ideal) (ix3 p n 0)).toInt.toNat 4095 = _
  rw [row_k]
  show min (p.val - 4 * n.val) 4095 = p.val - 4 * n.val
  omega

/-- The value taken `n` steps behind position `p`. -/
theorem take_v (b : Fin 4) (p : Fin 4096) (n : Fin 129) (h : Fin 4) (d : Fin 128) : val_main_v24 (F := Ideal) A2 (ix5 b p n h d)
    = A2 (ix3 b ⟨p.val - 4 * n.val, by omega⟩ (vlane 1 h d)) := by
  rw [val_main_v24_apply]
  have e : val_main_call1_v14 (F := Ideal) (ix5 b p n h d) = 1#1 := by
    rw [val_main_call1_v14_apply]
    exact Host.reduce_andi_one _ _ _ _ _ rfl ok_v
  rw [e]
  show val_main_call1_v13 (F := Ideal) A2 (ix5 b p n h d) = _
  unfold val_main_call1_v13
  refine (Take.take_apply gather_S4x4096x4x128_S4096x129x1_S4x4096x129x4x128_034_1_n_n_1_2_414128_wf (val_main_v9 (F := Ideal) A2) (val_main_call1_v5 (F := Ideal)) b p n h d).trans ?_
  rw [v_apply]
  refine congrArg (fun q : Fin 4096 => A2 (ix3 b q (vlane 1 h d))) (Fin.ext ?_)
  show min (val_main_call1_v5 (F := Ideal) (ix3 p n 0)).toInt.toNat 4095 = _
  rw [row_v]
  show min (p.val - 4 * n.val) 4095 = p.val - 4 * n.val
  omega

section At
variable (b : Fin 4) (p : Fin 4096) (h : Fin 4) (d : Fin 128) (s res : ℕ) (hres : res < 4) (hp : p.val = s * 4 + res)

include hres hp in
/-- A logit of the window behind position `p`. -/
theorem logit_apply (n : Fin 129) : val_main_v29 (F := Ideal) A0 A1 (ix4 b p h n) = logits A0 A1 1 4 b s res h n := by
  pointwise [val_main_v29, val_main_call2_v2, val_main_call2_v1, val_main_call2_v0, val_main_cst, val_main_cst_2, val_main_v28, val_main_v27, val_main_v26, val_main_v25, val_main_v20, val_main_v19, val_main_c_0]
  have hc : IntOp.cmpi .sge (val_main_v18 (F := Ideal) (ix2 p n)) 0#32 = 1#1 ↔ n.val ≤ s :=
    (Words.valid_iff _ p.val _ (row_toInt p n)).trans (by omega)
  show (if _ = 1#1 then _ else Ideal.ofBits .f32 0xFF800000#32) = _
  rw [ofBits_negInf]
  unfold logits logit
  by_cases hn : n.val ≤ s
  · rw [if_pos (hc.2 hn), if_pos hn]
    refine congrArg (· * scale) (Finset.sum_congr rfl fun x _ => ?_)
    unfold query keys
    have e1 : p = pos 4 res s := Fin.ext (show p.val = min (s * 4 + res) 4095 by omega)
    have e2 : (⟨p.val - 4 * n.val, by omega⟩ : Fin 4096) = pos 4 res (s - n.val) :=
      Fin.ext (show p.val - 4 * n.val = min ((s - n.val) * 4 + res) 4095 by omega)
    rw [q_apply, take_k, e2, ← e1]
  · rw [if_neg (fun h => hn (hc.1 h)), if_neg hn]

include hres hp in
/-- The greatest logit of the window behind position `p`. -/
theorem max_apply : val_main_v30 (F := Ideal) A0 A1 (ix3 b p h) = top (logits A0 A1 1 4 b s res h) := by
  pointwise [val_main_v30, val_main_cst_3]
  show Finset.fold max (Ideal.ofBits .f32 0xFF800000#32) _ _ = _
  rw [ofBits_negInf]
  unfold top
  exact Finset.fold_congr fun n _ => logit_apply A0 A1 b p h s res hres hp n

include hres hp in
/-- A weight. -/
theorem weight_apply (n : Fin 129) : val_main_v34 (F := Ideal) A0 A1 (ix4 b p h n) = weight (logits A0 A1 1 4 b s res h) n := by
  pointwise [val_main_v34, val_main_v33, val_main_v32, val_main_v31]
  rw [logit_apply A0 A1 b p h s res hres hp, max_apply A0 A1 b p h s res hres hp]
  rfl

include hres hp in
/-- The sum of the weights. -/
theorem mass_apply : val_main_v35 (F := Ideal) A0 A1 (ix3 b p h) = mass (logits A0 A1 1 4 b s res h) := by
  pointwise [val_main_v35, val_main_cst_4]
  exact Finset.sum_congr rfl fun n _ => weight_apply A0 A1 b p h s res hres hp n

include hres hp in
/-- The output at position `p`. -/
theorem mean_apply : val_main_v39 (F := Ideal) A0 A1 A2 (ix4 b p h d) = out A0 A1 A2 1 4 b s res h d := by
  pointwise [val_main_v39, val_main_v38, val_main_v37, val_main_v36]
  rw [mass_apply A0 A1 b p h s res hres hp]
  unfold out mean
  refine congrArg (Ideal.div · _) (Finset.sum_congr rfl fun n _ => ?_)
  rw [weight_apply A0 A1 b p h s res hres hp, take_v]
  by_cases hn : n.val ≤ s
  · unfold vals
    have e2 : (⟨p.val - 4 * n.val, by omega⟩ : Fin 4096) = pos 4 res (s - n.val) :=
      Fin.ext (show p.val - 4 * n.val = min ((s - n.val) * 4 + res) 4095 by omega)
    rw [e2]
  · rw [weight_out A0 A1 1 4 b s res h n hn, zero_mul, zero_mul]

include hres hp in
/-- The logarithm at position `p`. -/
theorem lse_apply : val_main_v44 (F := Ideal) A0 A1 (ix4 b p h d) = Spec.lse A0 A1 1 4 b s res h := by
  have e43 : idx_main_v43 (idx_main_v44 (ix4 b p h d)) = ix3 b p h := by
    funext a
    match a with
    | ⟨0, _⟩ => rfl
    | ⟨1, _⟩ => rfl
    | ⟨2, _⟩ => rfl
  have e40 : idx_main_v31 (idx_main_v40 (ix3 b p h)) = ix3 b p h := by
    funext a
    refine Fin.ext ?_
    match a with
    | ⟨0, _⟩ =>
      show ((b.val * 4096 + p.val) * 4 + h.val) / 16384 = b.val
      omega
    | ⟨1, _⟩ =>
      show ((b.val * 4096 + p.val) * 4 + h.val) / 4 % 4096 = p.val
      omega
    | ⟨2, _⟩ =>
      show ((b.val * 4096 + p.val) * 4 + h.val) / 1 % 4 = h.val
      omega
  rw [val_main_v44_apply, val_main_v43_apply, e43, val_main_v42_apply, val_main_v40_apply, val_main_v31_apply, e40,
    val_main_v41_apply, mass_apply A0 A1 b p h s res hres hp, max_apply A0 A1 b p h s res hres hp]
  rfl

end At

/-- The output at position `p`, from the column it is stored in. -/
theorem mean_at (b : Fin 4) (p : Fin 4096) (h : Fin 4) (d : Fin 128) (s c : ℕ) (hc : c / 512 < 4) (hp : p.val = s * 4 + c / 512)
    (hh : h.val = c % 512 / 128) (hd : d.val = c % 128) :
    val_main_v39 (F := Ideal) A0 A1 A2 (ix4 b p h d) = outAt A0 A1 A2 1 4 b s c := by
  rw [mean_apply A0 A1 A2 b p h d s (c / 512) hc hp]
  unfold outAt
  rw [show h = ⟨c % 512 / 128, by omega⟩ from Fin.ext hh, show d = ⟨c % 128, by omega⟩ from Fin.ext hd]

/-- The logarithm at position `p`, from the column it is stored in. -/
theorem lse_at (b : Fin 4) (p : Fin 4096) (h : Fin 4) (d : Fin 128) (s c : ℕ) (hc : c / 512 < 4) (hp : p.val = s * 4 + c / 512)
    (hh : h.val = c % 512 / 128) :
    val_main_v44 (F := Ideal) A0 A1 (ix4 b p h d) = lseAt A0 A1 1 4 b s c := by
  rw [lse_apply A0 A1 b p h d s (c / 512) hc hp]
  unfold lseAt
  rw [show h = ⟨c % 512 / 128, by omega⟩ from Fin.ext hh]

/-- The output array of the reference. -/
theorem out_eq (j : S4x1024x2048.Idx) : val_main_v45 (F := Ideal) A0 A1 A2 j = outAt A0 A1 A2 1 4 (j 0) (j 1).val (j 2).val := by
  pointwise [val_main_v45]
  have h1 : (j 1).val < 1024 := (j 1).isLt
  have h2 : (j 2).val < 2048 := (j 2).isLt
  refine mean_at A0 A1 A2 _ _ _ _ (j 1).val (j 2).val (by omega) ?_ ?_ ?_
  all_goals first | omega | (dsimp only; omega) | rfl

/-- The array of logarithms of the reference. -/
theorem lse_eq (j : S4x1024x2048.Idx) : val_main_v46 (F := Ideal) A0 A1 j = lseAt A0 A1 1 4 (j 0) (j 1).val (j 2).val := by
  pointwise [val_main_v46]
  have h1 : (j 1).val < 1024 := (j 1).isLt
  have h2 : (j 2).val < 2048 := (j 2).isLt
  refine lse_at A0 A1 _ _ _ _ (j 1).val (j 2).val (by omega) ?_ ?_
  all_goals first | omega | (dsimp only; omega) | rfl

end Cert.Attend1Ideal.Value

end
-- ==== Proof.Claims1.lean ====
/- The claims about the attention call of group 1. -/
module

public import proofs.«01_k».proof.Defs
public import proofs.«01_k».proof.Proof.Gen.Swa1.Frame
public import proofs.«01_k».proof.Proof.Gen.Swa1Ideal.Frame
public import proofs.«01_k».proof.Proof.Gen.Attend1Ideal.Run
public import proofs.«01_k».proof.Proof.Blocks1
public import proofs.«01_k».proof.Proof.Attend1
public import Idealize.ShloMosaic.Lib.Claim
public import Idealize.ShloMosaic.Lib.Quiescent

@[expose] public section

set_option maxRecDepth 16384

noncomputable section

namespace Cert.Proof

open Idealize.ShloMosaic Idealize.SL.Sem

/-- The attention call of group 1 runs, leaves its arguments as they were and every semaphore at zero. -/
theorem quiescent_Swa1 : Cert.quiescent_Swa1 := fun m g _ => Cert.Swa1.Gen.frame m g

/-- So does its idealization. -/
theorem quiescent_Swa1Ideal : Cert.quiescent_Swa1Ideal := fun m g _ => Cert.Swa1Ideal.Gen.frame m g

/-- So does the reference. -/
theorem quiescent_Attend1Ideal : Cert.quiescent_Attend1Ideal := fun m g _ =>
  (θ_run Cert.Attend1Ideal.defs _ _).mono
    (fun r h => ⟨fun c => ⟨(h c).2.2.1, (h c).2.2.2.1, (h c).2.2.2.2⟩, Idealize.ShloMosaic.sem_eq_zero_of_no_sems (by decide) r.2⟩)
    (Cert.Attend1Ideal.Value.run m g)

/-- The mask's finite stand-in is named for the value minus infinity. -/
theorem preserves_Swa1 : Cert.preserves_Swa1_Swa1Ideal :=
  IdealRules.named_const.statement Cert.Swa1Ideal.κ "mask" .f32 0xF149F2CA#32 ⊥ rfl

/-- The reference's first array over the kernel's arguments. -/
theorem out_Attend1 (m' : (ℓ : Loc Cert.Attend1Ideal.nD Cert.Attend1Ideal.τ Cert.Attend1Ideal.sig) → Buf (Elt Ideal) ℓ) (c : Dev Cert.Attend1Ideal.nD) :
    Cert.Attend1Ideal.Value.res_main_v45 m' c = Cert.Swa1Ideal.Blocks.O (m' ((c.tc : Thread Cert.Attend1Ideal.nD Cert.Attend1Ideal.τ).loc Cert.Attend1Ideal.main_arg0))
      (m' ((c.tc : Thread Cert.Attend1Ideal.nD Cert.Attend1Ideal.τ).loc Cert.Attend1Ideal.main_arg1))
      (m' ((c.tc : Thread Cert.Attend1Ideal.nD Cert.Attend1Ideal.τ).loc Cert.Attend1Ideal.main_arg2)) :=
  (Cert.Attend1Ideal.Read.val_main_v45_eq m' c).trans (funext fun j => Cert.Attend1Ideal.Value.out_eq _ _ _ j)

/-- The reference's second array over the kernel's arguments. -/
theorem lse_Attend1 (m' : (ℓ : Loc Cert.Attend1Ideal.nD Cert.Attend1Ideal.τ Cert.Attend1Ideal.sig) → Buf (Elt Ideal) ℓ) (c : Dev Cert.Attend1Ideal.nD) :
    Cert.Attend1Ideal.Value.res_main_v46 m' c = Cert.Swa1Ideal.Blocks.L (m' ((c.tc : Thread Cert.Attend1Ideal.nD Cert.Attend1Ideal.τ).loc Cert.Attend1Ideal.main_arg0))
      (m' ((c.tc : Thread Cert.Attend1Ideal.nD Cert.Attend1Ideal.τ).loc Cert.Attend1Ideal.main_arg1)) :=
  (Cert.Attend1Ideal.Read.val_main_v46_eq m' c).trans (funext fun j => Cert.Attend1Ideal.Value.lse_eq _ _ j)

/-- Over the extended reals the call's two arrays are the reference's two arrays. -/
theorem algebraic_Swa1 : Cert.algebraic_Swa1Ideal_Attend1Ideal := by
  pair_intro
  · run_from Cert.Swa1Ideal.Gen.run_main m g
  · refine (θ_run Cert.Attend1Ideal.defs _ _).mono (fun r h c => ⟨(h c).1.trans ?_, (h c).2.1.trans ?_, (h c).2.2⟩) (Cert.Attend1Ideal.Value.run m' g')
    · rw [out_Attend1 m' c, (hagree c).1, (hagree c).2.1, (hagree c).2.2]
      exact (Cert.Swa1Ideal.Blocks.final5 m c).symm
    · rw [lse_Attend1 m' c, (hagree c).1, (hagree c).2.1]
      exact (Cert.Swa1Ideal.Blocks.final6 m c).symm

end Cert.Proof

end
-- ==== Proof.Blocks2.lean ====
module

public import proofs.«01_k».proof.Proof.Head
public import proofs.«01_k».proof.Proof.Gen.Swa2Ideal.Frame
public import proofs.«01_k».proof.Proof.Spec
public import Idealize.ShloMosaic.Lib.Pipeline.ValueKit

@[expose] public section

set_option maxRecDepth 16384

noncomputable section

namespace Cert.Swa2Ideal.Blocks

open Cert.Swa2Ideal Cert.Swa2Ideal.Gen Idealize.ShloMosaic Idealize.ShloMosaic.TcCoe Idealize.SL.Sem
open Idealize.ShloMosaic.Pipeline (Dat)
open Cert.Swa0Ideal.Head

variable (m : (ℓ : Loc nD τ sig) → Buf (Elt Ideal) ℓ)

/-- Head 0's slice of a block. -/
abbrev ld0 (x : Vec Ideal S1x128x512 .f32) : Vec Ideal S1x128x128 .f32 := View.ld x r0_0
/-- Head 1's slice of a block. -/
abbrev ld1 (x : Vec Ideal S1x128x512 .f32) : Vec Ideal S1x128x128 .f32 := View.ld x r0_1
/-- Head 2's slice of a block. -/
abbrev ld2 (x : Vec Ideal S1x128x512 .f32) : Vec Ideal S1x128x128 .f32 := View.ld x r0_2
/-- Head 3's slice of a block. -/
abbrev ld3 (x : Vec Ideal S1x128x512 .f32) : Vec Ideal S1x128x128 .f32 := View.ld x r0_3

/-- A point of this grid as the point of group 0's grid with the same block of queries: the head's formula reads nothing else of it. -/
def at0 (i : grid0.Coords) : Cert.Swa0Ideal.grid0.Coords := fun k => match k with
  | ⟨0, _⟩ => ⟨0, show 0 < 4 by omega⟩
  | ⟨1, _⟩ => ⟨0, show 0 < 1 by omega⟩
  | ⟨2, _⟩ => ⟨(i 2).val, by have : (i 2).val < 2 := (i 2).isLt; show _ < 32; omega⟩

/-- The block of queries of the point. -/
theorem at0_two (i : grid0.Coords) : (at0 i 2).val = (i 2).val := rfl

/-- The four output stores are the head's formula over the four heads' slices. -/
theorem out5_eq (i : grid0.Coords) (x0 x1 x2 x3 x4 : FVec Ideal S1x128x512 .f32) :
    out0_5 (F := Ideal) i x0 x1 x2 x3 x4 = View.canon [
      ⟨r0_3, headO (at0 i) (ld3 x0) (ld3 x1) (ld3 x2) (ld3 x3) (ld3 x4)⟩,
      ⟨r0_2, headO (at0 i) (ld2 x0) (ld2 x1) (ld2 x2) (ld2 x3) (ld2 x4)⟩,
      ⟨r0_1, headO (at0 i) (ld1 x0) (ld1 x1) (ld1 x2) (ld1 x3) (ld1 x4)⟩,
      ⟨r0_0, headO (at0 i) (ld0 x0) (ld0 x1) (ld0 x2) (ld0 x3) (ld0 x4)⟩] := rfl

/-- The four stores of logarithms are the head's formula over the four heads' slices. -/
theorem out6_eq (i : grid0.Coords) (x0 x1 x2 x3 x4 : FVec Ideal S1x128x512 .f32) :
    out0_6 (F := Ideal) i x0 x1 x2 x3 x4 = View.canon [
      ⟨r0_3, headL (at0 i) (ld3 x0) (ld3 x1) (ld3 x2)⟩,
      ⟨r0_2, headL (at0 i) (ld2 x0) (ld2 x1) (ld2 x2)⟩,
      ⟨r0_1, headL (at0 i) (ld1 x0) (ld1 x1) (ld1 x2)⟩,
      ⟨r0_0, headL (at0 i) (ld0 x0) (ld0 x1) (ld0 x2)⟩] := rfl

theorem idx : ∀ t : Fin cfg0.N,
    win0_0.index t = ![(grid0.coords t 0).val, (grid0.coords t 2).val, (grid0.coords t 1).val * 3 + 2]
    ∧ win0_1.index t = ![(grid0.coords t 0).val, (grid0.coords t 2).val - 1, (grid0.coords t 1).val * 3 + 2]
    ∧ win0_2.index t = ![(grid0.coords t 0).val, (grid0.coords t 2).val, (grid0.coords t 1).val * 3 + 2]
    ∧ win0_3.index t = ![(grid0.coords t 0).val, (grid0.coords t 2).val - 1, (grid0.coords t 1).val * 25 + 22 + 2]
    ∧ win0_4.index t = ![(grid0.coords t 0).val, (grid0.coords t 2).val, (grid0.coords t 1).val * 25 + 22 + 2]
    ∧ win0_5.index t = ![(grid0.coords t 0).val, (grid0.coords t 2).val, (grid0.coords t 1).val]
    ∧ win0_6.index t = ![(grid0.coords t 0).val, (grid0.coords t 2).val, (grid0.coords t 1).val] :=
  (by decide +kernel : ∀ t : Fin grid0.N, _)

/-- The whole output array. -/
def O (A0 A1 : FVec Ideal S4x4096x1536 .f32) (A2 : FVec Ideal S4x4096x12800 .f32) : FVec Ideal S4x256x8192 .f32 :=
  fun j => Spec.outAt A0 A1 A2 2 16 (j 0) (j 1).val (j 2).val

/-- The whole array of logarithms. -/
def L (A0 A1 : FVec Ideal S4x4096x1536 .f32) : FVec Ideal S4x256x8192 .f32 :=
  fun j => Spec.lseAt A0 A1 2 16 (j 0) (j 1).val (j 2).val

/-- The batch row of a point's blocks. -/
abbrev bat (t : Fin cfg0.N) : Fin 4 := grid0.coords t 0
/-- Head `hh`'s slice of a block, as a block of its own. -/
def slice (hh : Fin 4) (x : Vec Ideal S1x128x512 .f32) : Vec Ideal S1x128x128 .f32 :=
  fun y => x (ix3 0 (y 1) ⟨hh.val * 128 + (y 2).val, by have : (y 2).val < 128 := (y 2).isLt; omega⟩)

theorem ld0_eq (x : Vec Ideal S1x128x512 .f32) : ld0 x = slice 0 x := by
  funext y; pointwise [slice, ld0]
theorem ld1_eq (x : Vec Ideal S1x128x512 .f32) : ld1 x = slice 1 x := by
  funext y; pointwise [slice, ld1]
theorem ld2_eq (x : Vec Ideal S1x128x512 .f32) : ld2 x = slice 2 x := by
  funext y; pointwise [slice, ld2]
theorem ld3_eq (x : Vec Ideal S1x128x512 .f32) : ld3 x = slice 3 x := by
  funext y; pointwise [slice, ld3]

section Reads
open Cert.Spec
variable (c : Dev nD) (t : Fin cfg0.N) (hh : Fin 4) (r l : Fin 128)

theorem read0 : slice hh (iblk m c 0 t) (ix3 0 r l)
    = (m ((c : Thread nD τ).loc main_arg0) : FVec Ideal S4x4096x1536 .f32) (ix3 (bat t) (pos 16 (grid0.coords t 1).val (128 * (grid0.coords t 2).val + r.val)) (lane 2 hh l)) := by
  have hi : (grid0.coords t 2).val < 2 := (grid0.coords t 2).isLt
  have hr : (grid0.coords t 1).val < 16 := (grid0.coords t 1).isLt
  unfold slice
  unfold iblk
  entry_read
  refine Spec.view_apply _ _ (((cfg0.win 0).blk t).view.emb _) _ _ _ ?_
  blk_simp [idx t]
  dsimp only [pos, lane, vlane, bat]
  omega

theorem read1 : slice hh (iblk m c 1 t) (ix3 0 r l)
    = (m ((c : Thread nD τ).loc main_arg1) : FVec Ideal S4x4096x1536 .f32) (ix3 (bat t) (pos 16 (grid0.coords t 1).val (128 * ((grid0.coords t 2).val - 1) + r.val)) (lane 2 hh l)) := by
  have hi : (grid0.coords t 2).val < 2 := (grid0.coords t 2).isLt
  have hr : (grid0.coords t 1).val < 16 := (grid0.coords t 1).isLt
  unfold slice
  unfold iblk
  entry_read
  refine Spec.view_apply _ _ (((cfg0.win 1).blk t).view.emb _) _ _ _ ?_
  blk_simp [idx t]
  dsimp only [pos, lane, vlane, bat]
  omega

theorem read2 : slice hh (iblk m c 2 t) (ix3 0 r l)
    = (m ((c : Thread nD τ).loc main_arg1) : FVec Ideal S4x4096x1536 .f32) (ix3 (bat t) (pos 16 (grid0.coords t 1).val (128 * (grid0.coords t 2).val + r.val)) (lane 2 hh l)) := by
  have hi : (grid0.coords t 2).val < 2 := (grid0.coords t 2).isLt
  have hr : (grid0.coords t 1).val < 16 := (grid0.coords t 1).isLt
  unfold slice
  unfold iblk
  entry_read
  refine Spec.view_apply _ _ (((cfg0.win 2).blk t).view.emb _) _ _ _ ?_
  blk_simp [idx t]
  dsimp only [pos, lane, vlane, bat]
  omega

theorem read3 : slice hh (iblk m c 3 t) (ix3 0 r l)
    = (m ((c : Thread nD τ).loc main_arg2) : FVec Ideal S4x4096x12800 .f32) (ix3 (bat t) (pos 16 (grid0.coords t 1).val (128 * ((grid0.coords t 2).val - 1) + r.val)) (vlane 2 hh l)) := by
  have hi : (grid0.coords t 2).val < 2 := (grid0.coords t 2).isLt
  have hr : (grid0.coords t 1).val < 16 := (grid0.coords t 1).isLt
  unfold slice
  unfold iblk
  entry_read
  refine Spec.view_apply _ _ (((cfg0.win 3).blk t).view.emb _) _ _ _ ?_
  blk_simp [idx t]
  dsimp only [pos, lane, vlane, bat]
  omega

theorem read4 : slice hh (iblk m c 4 t) (ix3 0 r l)
    = (m ((c : Thread nD τ).loc main_arg2) : FVec Ideal S4x4096x12800 .f32) (ix3 (bat t) (pos 16 (grid0.coords t 1).val (128 * (grid0.coords t 2).val + r.val)) (vlane 2 hh l)) := by
  have hi : (grid0.coords t 2).val < 2 := (grid0.coords t 2).isLt
  have hr : (grid0.coords t 1).val < 16 := (grid0.coords t 1).isLt
  unfold slice
  unfold iblk
  entry_read
  refine Spec.view_apply _ _ (((cfg0.win 4).blk t).view.emb _) _ _ _ ?_
  blk_simp [idx t]
  dsimp only [pos, lane, vlane, bat]
  omega

end Reads

section Point
variable (c : Dev nD) (t : Fin cfg0.N) (hh : Fin 4) (x : S1x128x128.Idx) (j : S4x256x8192.Idx)
    (hj0 : (j 0).val = (grid0.coords t 0).val) (hj1 : (j 1).val = 128 * (grid0.coords t 2).val + (x 1).val)
    (hj2 : (j 2).val = (grid0.coords t 1).val * 512 + hh.val * 128 + (x 2).val)

include hj0 hj1 hj2 in
/-- A head's output block at a point is its part of the whole array. -/
theorem pieceO : headO (at0 (grid0.coords t)) (slice hh (iblk m c 0 t)) (slice hh (iblk m c 1 t)) (slice hh (iblk m c 2 t))
      (slice hh (iblk m c 3 t)) (slice hh (iblk m c 4 t)) x
    = O (m ((c : Thread nD τ).loc main_arg0)) (m ((c : Thread nD τ).loc main_arg1)) (m ((c : Thread nD τ).loc main_arg2)) j := by
  have hx : x = ix3 0 (x 1) (x 2) := by blk_ext
  rw [hx]
  refine (headO_spec (at0 (grid0.coords t)) _ _ _ _ _ (m ((c : Thread nD τ).loc main_arg0)) (m ((c : Thread nD τ).loc main_arg1))
    (m ((c : Thread nD τ).loc main_arg2)) 2 16 (bat t) (grid0.coords t 1).val hh (x 1) (x 2) (fun r l => ?_) (fun _ r l => ?_) (fun r l => ?_)
    (fun _ r l => ?_) (fun r l => ?_)).trans ?_
  · rw [at0_two]; exact read0 m c t hh r l
  · rw [at0_two]; exact read1 m c t hh r l
  · rw [at0_two]; exact read2 m c t hh r l
  · rw [at0_two]; exact read3 m c t hh r l
  · rw [at0_two]; exact read4 m c t hh r l
  · unfold O Spec.outAt
    have x2 : (x 2).val < 128 := (x 2).isLt
    congr 1
    · exact Fin.ext hj0.symm
    · rw [at0_two]; exact hj1.symm
    · omega
    · exact Fin.ext (show hh.val = (j 2).val % 512 / 128 by omega)
    · exact Fin.ext (show (x 2).val = (j 2).val % 128 by omega)

include hj0 hj1 hj2 in
/-- A head's block of logarithms at a point is its part of the whole array. -/
theorem pieceL : headL (at0 (grid0.coords t)) (slice hh (iblk m c 0 t)) (slice hh (iblk m c 1 t)) (slice hh (iblk m c 2 t)) x
    = L (m ((c : Thread nD τ).loc main_arg0)) (m ((c : Thread nD τ).loc main_arg1)) j := by
  have hx : x = ix3 0 (x 1) (x 2) := by blk_ext
  rw [hx]
  refine (headL_spec (at0 (grid0.coords t)) _ _ _ (m ((c : Thread nD τ).loc main_arg0)) (m ((c : Thread nD τ).loc main_arg1))
    2 16 (bat t) (grid0.coords t 1).val hh (x 1) (x 2) (fun r l => ?_) (fun _ r l => ?_) (fun r l => ?_)).trans ?_
  · rw [at0_two]; exact read0 m c t hh r l
  · rw [at0_two]; exact read1 m c t hh r l
  · rw [at0_two]; exact read2 m c t hh r l
  · unfold L Spec.lseAt
    have x2 : (x 2).val < 128 := (x 2).isLt
    congr 1
    · exact Fin.ext hj0.symm
    · rw [at0_two]; exact hj1.symm
    · omega
    · exact Fin.ext (show hh.val = (j 2).val % 512 / 128 by omega)

end Point

/-- What a point stores is its block of the whole output array. -/
theorem point5 (c : Dev nD) (t : Fin cfg0.N) (y : S1x128x512.Idx) (j : S4x256x8192.Idx)
    (hj0 : (j 0).val = (grid0.coords t 0).val) (hj1 : (j 1).val = 128 * (grid0.coords t 2).val + (y 1).val)
    (hj2 : (j 2).val = (grid0.coords t 1).val * 512 + (y 2).val) :
    out0_5 (grid0.coords t) (iblk m c 0 t) (iblk m c 1 t) (iblk m c 2 t) (iblk m c 3 t) (iblk m c 4 t) y
      = O (m ((c : Thread nD τ).loc main_arg0)) (m ((c : Thread nD τ).loc main_arg1)) (m ((c : Thread nD τ).loc main_arg2)) j := by
  rw [out5_eq]
  canon_tiles x h
  · rw [ld3_eq, ld3_eq, ld3_eq, ld3_eq, ld3_eq]; exact pieceO m c t 3 x j hj0 (by omega) (by omega)
  · rw [ld2_eq, ld2_eq, ld2_eq, ld2_eq, ld2_eq]; exact pieceO m c t 2 x j hj0 (by omega) (by omega)
  · rw [ld1_eq, ld1_eq, ld1_eq, ld1_eq, ld1_eq]; exact pieceO m c t 1 x j hj0 (by omega) (by omega)
  · rw [ld0_eq, ld0_eq, ld0_eq, ld0_eq, ld0_eq]; exact pieceO m c t 0 x j hj0 (by omega) (by omega)

/-- What a point stores of logarithms is its block of the whole array. -/
theorem point6 (c : Dev nD) (t : Fin cfg0.N) (y : S1x128x512.Idx) (j : S4x256x8192.Idx)
    (hj0 : (j 0).val = (grid0.coords t 0).val) (hj1 : (j 1).val = 128 * (grid0.coords t 2).val + (y 1).val)
    (hj2 : (j 2).val = (grid0.coords t 1).val * 512 + (y 2).val) :
    out0_6 (grid0.coords t) (iblk m c 0 t) (iblk m c 1 t) (iblk m c 2 t) (iblk m c 3 t) (iblk m c 4 t) y
      = L (m ((c : Thread nD τ).loc main_arg0)) (m ((c : Thread nD τ).loc main_arg1)) j := by
  rw [out6_eq]
  canon_tiles x h
  · rw [ld3_eq, ld3_eq, ld3_eq]; exact pieceL m c t 3 x j hj0 (by omega) (by omega)
  · rw [ld2_eq, ld2_eq, ld2_eq]; exact pieceL m c t 2 x j hj0 (by omega) (by omega)
  · rw [ld1_eq, ld1_eq, ld1_eq]; exact pieceL m c t 1 x j hj0 (by omega) (by omega)
  · rw [ld0_eq, ld0_eq, ld0_eq]; exact pieceL m c t 0 x j hj0 (by omega) (by omega)

/-- The output array after the run. -/
theorem final5 (c : Dev nD) : (dats m 0 c).arrAt 5 (cfgs 0).N
    = O (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  refine point5 m c t y _ ?_ ?_ ?_
  all_goals (blk_simp [idx t] <;> try omega)

/-- The array of logarithms after the run. -/
theorem final6 (c : Dev nD) : (dats m 0 c).arrAt 6 (cfgs 0).N
    = L (m ((c : Thread nD τ).loc main_arg0)) (m ((c : Thread nD τ).loc main_arg1)) := by
  refine (dats m 0 c).arrAt_eq_of_covers 6 _ (by decide +kernel) fun t _ y => ?_
  blk_simp
  rw [after0_6]
  refine point6 m c t y _ ?_ ?_ ?_
  all_goals (blk_simp [idx t] <;> try omega)

end Cert.Swa2Ideal.Blocks

end
-- ==== Proof.Attend2.lean ====
module

public import proofs.«01_k».proof.Proof.Spec
public import proofs.«01_k».proof.Proof.Take
public import proofs.«01_k».proof.Proof.Words
public import proofs.«01_k».proof.Proof.Gen.Attend2Ideal.Read
public import Idealize.ShloMosaic.Lib.Pipeline.ValueKit

@[expose] public section

set_option maxRecDepth 16384

noncomputable section

namespace Cert.Attend2Ideal.Value

open Cert.Attend2Ideal Cert.Attend2Ideal.Gen Cert.Attend2Ideal.Read Idealize.ShloMosaic Idealize.ShloMosaic.TcCoe Idealize.SL.Sem
open Cert.Window Cert.Spec

/-! # The reference of group 2 read at an index -/

variable (A0 A1 : FVec Ideal S4x4096x1536 .f32) (A2 : FVec Ideal S4x4096x12800 .f32)

/-- The row number of the position `n` steps behind `p`, as a signed word. -/
theorem row_toInt (p : Fin 4096) (n : Fin 129) : (val_main_v18 (F := Ideal) (ix2 p n)).toInt = (p.val : ℤ) - ((16 * n.val : ℕ) : ℤ) := by
  pointwise [val_main_v18, val_main_v17, val_main_v16, val_main_v15, val_main_v14, val_main_v13, val_main_v12, val_main_v11, val_main_v10, val_main_c]
  simpa using Words.step_toInt p.val n.val 16 p.isLt n.isLt (by decide)

/-- A query's lane. -/
theorem q_apply (b : Fin 4) (p : Fin 4096) (h : Fin 4) (d : Fin 128) : val_main_v2 (F := Ideal) A0 (ix4 b p h d) = A0 (ix3 b p (lane 2 h d)) := by
  pointwise [val_main_v2, val_main_v1, val_main_v0]
  blk_ext

/-- A key's lane. -/
theorem k_apply (b : Fin 4) (p : Fin 4096) (h : Fin 4) (d : Fin 128) : val_main_v5 (F := Ideal) A1 (ix4 b p h d) = A1 (ix3 b p (lane 2 h d)) := by
  pointwise [val_main_v5, val_main_v4, val_main_v3]
  blk_ext

/-- A value's lane. -/
theorem v_apply (b : Fin 4) (p : Fin 4096) (h : Fin 4) (d : Fin 128) : val_main_v9 (F := Ideal) A2 (ix4 b p h d) = A2 (ix3 b p (vlane 2 h d)) := by
  pointwise [val_main_v9, val_main_v8, val_main_v7, val_main_v6]
  blk_ext

/-- The row number a key is taken at. -/
theorem row_k (p : Fin 4096) (n : Fin 129) : (val_main_call0_v5 (F := Ideal) (ix3 p n 0)).toInt = ((p.val - 16 * n.val : ℕ) : ℤ) := by
  have hw := row_toInt p n
  generalize 16 * n.val = k at hw ⊢
  pointwise [val_main_call0_v5, val_main_call0_v4, val_main_call0_v3, val_main_call0_v2, val_main_call0_v1, val_main_call0_v0, val_main_call0_c, val_main_call0_c_0, val_main_v22, val_main_v21, val_main_c_1]
  exact Words.held_toNat _ p.val k p.isLt hw

/-- The row number a value is taken at. -/
theorem row_v (p : Fin 4096) (n : Fin 129) : (val_main_call1_v5 (F := Ideal) (ix3 p n 0)).toInt = ((p.val - 16 * n.val : ℕ) : ℤ) := by
  have hw := row_toInt p n
  generalize 16 * n.val = k at hw ⊢
  pointwise [val_main_call1_v5, val_main_call1_v4, val_main_call1_v3, val_main_call1_v2, val_main_call1_v1, val_main_call1_v0, val_main_call1_c, val_main_call1_c_0, val_main_v22, val_main_v21, val_main_c_1]
  exact Words.held_toNat _ p.val k p.isLt hw

theorem ok_k (i : S4096x129x1.Idx) : val_main_call0_v11 (F := Ideal) i = 1#1 := by
  have hi : i = ix3 (i 0) (i 1) 0 := by blk_ext
  rw [hi]
  pointwise [val_main_call0_v11, val_main_call0_v10, val_main_call0_v9, val_main_call0_v8, val_main_call0_v7, val_main_call0_v6, val_main_call0_c_1, val_main_call0_c_2]
  refine Words.held_ok _ _ ?_ (row_k (i 0) (i 1))
  have : (i 0).val < 4096 := (i 0).isLt
  omega

theorem ok_v (i : S4096x129x1.Idx) : val_main_call1_v11 (F := Ideal) i = 1#1 := by
  have hi : i = ix3 (i 0) (i 1) 0 := by blk_ext
  rw [hi]
  pointwise [val_main_call1_v11, val_main_call1_v10, val_main_call1_v9, val_main_call1_v8, val_main_call1_v7, val_main_call1_v6, val_main_call1_c_1, val_main_call1_c_2]
  refine Words.held_ok _ _ ?_ (row_v (i 0) (i 1))
  have : (i 0).val < 4096 := (i 0).isLt
  omega

/-- The key taken `n` steps behind position `p`. -/
theorem take_k (b : Fin 4) (p : Fin 4096) (n : Fin 129) (h : Fin 4) (d : Fin 128) : val_main_v23 (F := Ideal) A1 (ix5 b p n h d)
    = A1 (ix3 b ⟨p.val - 16 * n.val, by omega⟩ (lane 2 h d)) := by
  rw [val_main_v23_apply]
  have e : val_main_call0_v14 (F := Ideal) (ix5 b p n h d) = 1#1 := by
    rw [val_main_call0_v14_apply]
    exact Host.reduce_andi_one _ _ _ _ _ rfl ok_k
  rw [e]
  show val_main_call0_v13 (F := Ideal) A1 (ix5 b p n h d) = _
  unfold val_main_call0_v13
  refine (Take.take_apply gather_S4x4096x4x128_S4096x129x1_S4x4096x129x4x128_034_1_n_n_1_2_414128_wf (val_main_v5 (F := Ideal) A1) (val_main_call0_v5 (F := Ideal)) b p n h d).trans ?_
  rw [k_apply]
  refine congrArg (fun q : Fin 4096 => A1 (ix3 b q (lane 2 h d))) (Fin.ext ?_)
  show min (val_main_call0_v5 (F := Ideal) (ix3 p n 0)).toInt.toNat 4095 = _
  rw [row_k]
  show min (p.val - 16 * n.val) 4095 = p.val - 16 * n.val
  omega

/-- The value taken `n` steps behind position `p`. -/
theorem take_v (b : Fin 4) (p : Fin 4096) (n : Fin 129) (h : Fin 4) (d : Fin 128) : val_main_v24 (F := Ideal) A2 (ix5 b p n h d)
    = A2 (ix3 b ⟨p.val - 16 * n.val, by omega⟩ (vlane 2 h d)) := by
  rw [val_main_v24_apply]
  have e : val_main_call1_v14 (F := Ideal) (ix5 b p n h d) = 1#1 := by
    rw [val_main_call1_v14_apply]
    exact Host.reduce_andi_one _ _ _ _ _ rfl ok_v
  rw [e]
  show val_main_call1_v13 (F := Ideal) A2 (ix5 b p n h d) = _
  unfold val_main_call1_v13
  refine (Take.take_apply gather_S4x4096x4x128_S4096x129x1_S4x4096x129x4x128_034_1_n_n_1_2_414128_wf (val_main_v9 (F := Ideal) A2) (val_main_call1_v5 (F := Ideal)) b p n h d).trans ?_
  rw [v_apply]
  refine congrArg (fun q : Fin 4096 => A2 (ix3 b q (vlane 2 h d))) (Fin.ext ?_)
  show min (val_main_call1_v5 (F := Ideal) (ix3 p n 0)).toInt.toNat 4095 = _
  rw [row_v]
  show min (p.val - 16 * n.val) 4095 = p.val - 16 * n.val
  omega

section At
variable (b : Fin 4) (p : Fin 4096) (h : Fin 4) (d : Fin 128) (s res : ℕ) (hres : res < 16) (hp : p.val = s * 16 + res)

include hres hp in
/-- A logit of the window behind position `p`. -/
theorem logit_apply (n : Fin 129) : val_main_v29 (F := Ideal) A0 A1 (ix4 b p h n) = logits A0 A1 2 16 b s res h n := by
  pointwise [val_main_v29, val_main_call2_v2, val_main_call2_v1, val_main_call2_v0, val_main_cst, val_main_cst_2, val_main_v28, val_main_v27, val_main_v26, val_main_v25, val_main_v20, val_main_v19, val_main_c_0]
  have hc : IntOp.cmpi .sge (val_main_v18 (F := Ideal) (ix2 p n)) 0#32 = 1#1 ↔ n.val ≤ s :=
    (Words.valid_iff _ p.val _ (row_toInt p n)).trans (by omega)
  show (if _ = 1#1 then _ else Ideal.ofBits .f32 0xFF800000#32) = _
  rw [ofBits_negInf]
  unfold logits logit
  by_cases hn : n.val ≤ s
  · rw [if_pos (hc.2 hn), if_pos hn]
    refine congrArg (· * scale) (Finset.sum_congr rfl fun x _ => ?_)
    unfold query keys
    have e1 : p = pos 16 res s := Fin.ext (show p.val = min (s * 16 + res) 4095 by omega)
    have e2 : (⟨p.val - 16 * n.val, by omega⟩ : Fin 4096) = pos 16 res (s - n.val) :=
      Fin.ext (show p.val - 16 * n.val = min ((s - n.val) * 16 + res) 4095 by omega)
    rw [q_apply, take_k, e2, ← e1]
  · rw [if_neg (fun h => hn (hc.1 h)), if_neg hn]

include hres hp in
/-- The greatest logit of the window behind position `p`. -/
theorem max_apply : val_main_v30 (F := Ideal) A0 A1 (ix3 b p h) = top (logits A0 A1 2 16 b s res h) := by
  pointwise [val_main_v30, val_main_cst_3]
  show Finset.fold max (Ideal.ofBits .f32 0xFF800000#32) _ _ = _
  rw [ofBits_negInf]
  unfold top
  exact Finset.fold_congr fun n _ => logit_apply A0 A1 b p h s res hres hp n

include hres hp in
/-- A weight. -/
theorem weight_apply (n : Fin 129) : val_main_v34 (F := Ideal) A0 A1 (ix4 b p h n) = weight (logits A0 A1 2 16 b s res h) n := by
  pointwise [val_main_v34, val_main_v33, val_main_v32, val_main_v31]
  rw [logit_apply A0 A1 b p h s res hres hp, max_apply A0 A1 b p h s res hres hp]
  rfl

include hres hp in
/-- The sum of the weights. -/
theorem mass_apply : val_main_v35 (F := Ideal) A0 A1 (ix3 b p h) = mass (logits A0 A1 2 16 b s res h) := by
  pointwise [val_main_v35, val_main_cst_4]
  exact Finset.sum_congr rfl fun n _ => weight_apply A0 A1 b p h s res hres hp n

include hres hp in
/-- The output at position `p`. -/
theorem mean_apply : val_main_v39 (F := Ideal) A0 A1 A2 (ix4 b p h d) = out A0 A1 A2 2 16 b s res h d := by
  pointwise [val_main_v39, val_main_v38, val_main_v37, val_main_v36]
  rw [mass_apply A0 A1 b p h s res hres hp]
  unfold out mean
  refine congrArg (Ideal.div · _) (Finset.sum_congr rfl fun n _ => ?_)
  rw [weight_apply A0 A1 b p h s res hres hp, take_v]
  by_cases hn : n.val ≤ s
  · unfold vals
    have e2 : (⟨p.val - 16 * n.val, by omega⟩ : Fin 4096) = pos 16 res (s - n.val) :=
      Fin.ext (show p.val - 16 * n.val = min ((s - n.val) * 16 + res) 4095 by omega)
    rw [e2]
  · rw [weight_out A0 A1 2 16 b s res h n hn, zero_mul, zero_mul]

include hres hp in
/-- The logarithm at position `p`. -/
theorem lse_apply : val_main_v44 (F := Ideal) A0 A1 (ix4 b p h d) = Spec.lse A0 A1 2 16 b s res h := by
  have e43 : idx_main_v43 (idx_main_v44 (ix4 b p h d)) = ix3 b p h := by
    funext a
    match a with
    | ⟨0, _⟩ => rfl
    | ⟨1, _⟩ => rfl
    | ⟨2, _⟩ => rfl
  have e40 : idx_main_v31 (idx_main_v40 (ix3 b p h)) = ix3 b p h := by
    funext a
    refine Fin.ext ?_
    match a with
    | ⟨0, _⟩ =>
      show ((b.val * 4096 + p.val) * 4 + h.val) / 16384 = b.val
      omega
    | ⟨1, _⟩ =>
      show ((b.val * 4096 + p.val) * 4 + h.val) / 4 % 4096 = p.val
      omega
    | ⟨2, _⟩ =>
      show ((b.val * 4096 + p.val) * 4 + h.val) / 1 % 4 = h.val
      omega
  rw [val_main_v44_apply, val_main_v43_apply, e43, val_main_v42_apply, val_main_v40_apply, val_main_v31_apply, e40,
    val_main_v41_apply, mass_apply A0 A1 b p h s res hres hp, max_apply A0 A1 b p h s res hres hp]
  rfl

end At

/-- The output at position `p`, from the column it is stored in. -/
theorem mean_at (b : Fin 4) (p : Fin 4096) (h : Fin 4) (d : Fin 128) (s c : ℕ) (hc : c / 512 < 16) (hp : p.val = s * 16 + c / 512)
    (hh : h.val = c % 512 / 128) (hd : d.val = c % 128) :
    val_main_v39 (F := Ideal) A0 A1 A2 (ix4 b p h d) = outAt A0 A1 A2 2 16 b s c := by
  rw [mean_apply A0 A1 A2 b p h d s (c / 512) hc hp]
  unfold outAt
  rw [show h = ⟨c % 512 / 128, by omega⟩ from Fin.ext hh, show d = ⟨c % 128, by omega⟩ from Fin.ext hd]

/-- The logarithm at position `p`, from the column it is stored in. -/
theorem lse_at (b : Fin 4) (p : Fin 4096) (h : Fin 4) (d : Fin 128) (s c : ℕ) (hc : c / 512 < 16) (hp : p.val = s * 16 + c / 512)
    (hh : h.val = c % 512 / 128) :
    val_main_v44 (F := Ideal) A0 A1 (ix4 b p h d) = lseAt A0 A1 2 16 b s c := by
  rw [lse_apply A0 A1 b p h d s (c / 512) hc hp]
  unfold lseAt
  rw [show h = ⟨c % 512 / 128, by omega⟩ from Fin.ext hh]

/-- The output array of the reference. -/
theorem out_eq (j : S4x256x8192.Idx) : val_main_v45 (F := Ideal) A0 A1 A2 j = outAt A0 A1 A2 2 16 (j 0) (j 1).val (j 2).val := by
  pointwise [val_main_v45]
  have h1 : (j 1).val < 256 := (j 1).isLt
  have h2 : (j 2).val < 8192 := (j 2).isLt
  refine mean_at A0 A1 A2 _ _ _ _ (j 1).val (j 2).val (by omega) ?_ ?_ ?_
  all_goals first | omega | (dsimp only; omega) | rfl

/-- The array of logarithms of the reference. -/
theorem lse_eq (j : S4x256x8192.Idx) : val_main_v46 (F := Ideal) A0 A1 j = lseAt A0 A1 2 16 (j 0) (j 1).val (j 2).val := by
  pointwise [val_main_v46]
  have h1 : (j 1).val < 256 := (j 1).isLt
  have h2 : (j 2).val < 8192 := (j 2).isLt
  refine lse_at A0 A1 _ _ _ _ (j 1).val (j 2).val (by omega) ?_ ?_
  all_goals first | omega | (dsimp only; omega) | rfl

end Cert.Attend2Ideal.Value

end
-- ==== Proof.Claims2.lean ====
/- The claims about the attention call of group 2. -/
module

public import proofs.«01_k».proof.Defs
public import proofs.«01_k».proof.Proof.Gen.Swa2.Frame
public import proofs.«01_k».proof.Proof.Gen.Swa2Ideal.Frame
public import proofs.«01_k».proof.Proof.Gen.Attend2Ideal.Run
public import proofs.«01_k».proof.Proof.Blocks2
public import proofs.«01_k».proof.Proof.Attend2
public import Idealize.ShloMosaic.Lib.Claim
public import Idealize.ShloMosaic.Lib.Quiescent

@[expose] public section

set_option maxRecDepth 16384

noncomputable section

namespace Cert.Proof

open Idealize.ShloMosaic Idealize.SL.Sem

/-- The attention call of group 2 runs, leaves its arguments as they were and every semaphore at zero. -/
theorem quiescent_Swa2 : Cert.quiescent_Swa2 := fun m g _ => Cert.Swa2.Gen.frame m g

/-- So does its idealization. -/
theorem quiescent_Swa2Ideal : Cert.quiescent_Swa2Ideal := fun m g _ => Cert.Swa2Ideal.Gen.frame m g

/-- So does the reference. -/
theorem quiescent_Attend2Ideal : Cert.quiescent_Attend2Ideal := fun m g _ =>
  (θ_run Cert.Attend2Ideal.defs _ _).mono
    (fun r h => ⟨fun c => ⟨(h c).2.2.1, (h c).2.2.2.1, (h c).2.2.2.2⟩, Idealize.ShloMosaic.sem_eq_zero_of_no_sems (by decide) r.2⟩)
    (Cert.Attend2Ideal.Value.run m g)

/-- The mask's finite stand-in is named for the value minus infinity. -/
theorem preserves_Swa2 : Cert.preserves_Swa2_Swa2Ideal :=
  IdealRules.named_const.statement Cert.Swa2Ideal.κ "mask" .f32 0xF149F2CA#32 ⊥ rfl

/-- The reference's first array over the kernel's arguments. -/
theorem out_Attend2 (m' : (ℓ : Loc Cert.Attend2Ideal.nD Cert.Attend2Ideal.τ Cert.Attend2Ideal.sig) → Buf (Elt Ideal) ℓ) (c : Dev Cert.Attend2Ideal.nD) :
    Cert.Attend2Ideal.Value.res_main_v45 m' c = Cert.Swa2Ideal.Blocks.O (m' ((c.tc : Thread Cert.Attend2Ideal.nD Cert.Attend2Ideal.τ).loc Cert.Attend2Ideal.main_arg0))
      (m' ((c.tc : Thread Cert.Attend2Ideal.nD Cert.Attend2Ideal.τ).loc Cert.Attend2Ideal.main_arg1))
      (m' ((c.tc : Thread Cert.Attend2Ideal.nD Cert.Attend2Ideal.τ).loc Cert.Attend2Ideal.main_arg2)) :=
  (Cert.Attend2Ideal.Read.val_main_v45_eq m' c).trans (funext fun j => Cert.Attend2Ideal.Value.out_eq _ _ _ j)

/-- The reference's second array over the kernel's arguments. -/
theorem lse_Attend2 (m' : (ℓ : Loc Cert.Attend2Ideal.nD Cert.Attend2Ideal.τ Cert.Attend2Ideal.sig) → Buf (Elt Ideal) ℓ) (c : Dev Cert.Attend2Ideal.nD) :
    Cert.Attend2Ideal.Value.res_main_v46 m' c = Cert.Swa2Ideal.Blocks.L (m' ((c.tc : Thread Cert.Attend2Ideal.nD Cert.Attend2Ideal.τ).loc Cert.Attend2Ideal.main_arg0))
      (m' ((c.tc : Thread Cert.Attend2Ideal.nD Cert.Attend2Ideal.τ).loc Cert.Attend2Ideal.main_arg1)) :=
  (Cert.Attend2Ideal.Read.val_main_v46_eq m' c).trans (funext fun j => Cert.Attend2Ideal.Value.lse_eq _ _ j)

/-- Over the extended reals the call's two arrays are the reference's two arrays. -/
theorem algebraic_Swa2 : Cert.algebraic_Swa2Ideal_Attend2Ideal := by
  pair_intro
  · run_from Cert.Swa2Ideal.Gen.run_main m g
  · refine (θ_run Cert.Attend2Ideal.defs _ _).mono (fun r h c => ⟨(h c).1.trans ?_, (h c).2.1.trans ?_, (h c).2.2⟩) (Cert.Attend2Ideal.Value.run m' g')
    · rw [out_Attend2 m' c, (hagree c).1, (hagree c).2.1, (hagree c).2.2]
      exact (Cert.Swa2Ideal.Blocks.final5 m c).symm
    · rw [lse_Attend2 m' c, (hagree c).1, (hagree c).2.1]
      exact (Cert.Swa2Ideal.Blocks.final6 m c).symm

end Cert.Proof

end
-- ==== Proof.ProjEnds.lean ====
/- What the buffers of the projection chain hold when @main has ended. -/
module

public import proofs.«01_k».proof.Proof.Gen.ProjIdeal.Frame

@[expose] public section

set_option maxRecDepth 16384

noncomputable section

namespace Cert.ProjIdeal.Ends

open Cert.ProjIdeal Cert.ProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of @main ends, and then every buffer the regions do not own privately holds the last boundary's contents. -/
theorem ends : θ_run defs (onTc (τ := τ) (main (F := F))) ⟨m, fun _ => 0, ρ⟩ (fun r => ∀ c : Dev nD, ∀ b ∈ Pipeline.ucRefs τ sig,
      r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hbufs, Hreg, Howed⟩
      isplitl [Hbufs Hreg]
      · isplitl [Hbufs]
        · iexact Hbufs
        iexact Hreg
      iexact Howed⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hreg, -⟩, -⟩
      imodintro
      isplitl [Hbufs]
      · iexact Hbufs
      isplitl [Hreg]
      · iexists _
        iexact Hreg
      iexists ∅
      iexact Howed)
    (QY := fun c s => ∀ b ∈ Pipeline.ucRefs τ sig, s.mem (((c : Thread nD τ)).1, b) = W7 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W7 m ρ c) s')
      isplitl [Hbufs] <;> iassumption)
    (hQ := fun s h _ c b hb => h c b hb)

end Cert.ProjIdeal.Ends

end
-- ==== Proof.Layer.lean ====
/- The projection of a layer written once, over plain functions: a normalized token against the columns of the input
   projection, and the rotation of a head's first thirty-two coordinates by the token's position. -/
module

public import Idealize.ShloMosaic.PureOps.Ideal.Laws
public import Idealize.ShloMosaic.Lib.ValueIdx

@[expose] public section

noncomputable section

namespace Cert.Layer

open Idealize.ShloMosaic

/-- A token's coordinate over the root of the token's mean square, times the coordinate's weight. -/
def norm (x w : Fin 2048 → EReal) (k : Fin 2048) : EReal :=
  x k * Ideal.rsqrt (Ideal.div (∑ i : Fin 2048, x i * x i) (Ideal.ofBits FTy.f32 0x45000000#32) + Ideal.ofBits FTy.f32 0x358637BD#32) * w k

/-- Where column `n` of the attention's and the recurrence's columns, the two gates first, stands in the input projection. -/
def column (n : Fin 12800) : Fin 12816 :=
  ⟨if n.val < 4096 then 8720 + n.val else if n.val < 8192 then n.val - 4096 else 4112 + (n.val - 8192), by
    have := n.isLt
    split
    · omega
    · split <;> omega⟩

/-- A normalized token against a column of the projection. -/
def proj (x w : Fin 2048 → EReal) (W : Fin 2048 → Fin 12816 → EReal) (n : Fin 12816) : EReal :=
  ∑ k : Fin 2048, norm x w k * W k n

/-- The angle a position turns the `d`-th pair of coordinates by. -/
def angle (p d : ℕ) : EReal :=
  FloatOps.sitofp (F := Ideal) FTy.f32 (BitVec.ofNat 32 p) *
    Ideal.pow (Ideal.ofBits FTy.f32 1223959552#32)
      (Ideal.div (-FloatOps.sitofp (F := Ideal) FTy.f32 (BitVec.ofNat 32 d) * Ideal.ofBits FTy.f32 1073741824#32) (Ideal.ofBits FTy.f32 1107296256#32))

/-- Coordinate `n` of a token's heads turned by its position: the first sixteen of a head with the next sixteen, the rest as they are. -/
def turn (x : Fin 1536 → EReal) (p : ℕ) (n : Fin 1536) : EReal :=
  if h : n.val % 128 < 16 then
    x n * Ideal.cos (angle p (n.val % 128)) - x ⟨n.val + 16, by have := n.isLt; omega⟩ * Ideal.sin (angle p (n.val % 128))
  else if h : n.val % 128 < 32 then
    x n * Ideal.cos (angle p (n.val % 128 - 16)) + x ⟨n.val - 16, by have := n.isLt; omega⟩ * Ideal.sin (angle p (n.val % 128 - 16))
  else x n

/-- A token's columns in the order the kernels keep them. -/
def main (x w : Fin 2048 → EReal) (W : Fin 2048 → Fin 12816 → EReal) (n : Fin 12800) : EReal := proj x w W (column n)

/-- A token's turned queries. -/
def query (x w : Fin 2048 → EReal) (W : Fin 2048 → Fin 12816 → EReal) (p : ℕ) (n : Fin 1536) : EReal :=
  turn (fun i => proj x w W ⟨4112 + i.val, by have := i.isLt; omega⟩) p n

/-- A token's turned keys. -/
def key (x w : Fin 2048 → EReal) (W : Fin 2048 → Fin 12816 → EReal) (p : ℕ) (n : Fin 1536) : EReal :=
  turn (fun i => proj x w W ⟨5648 + i.val, by have := i.isLt; omega⟩) p n

/-- A token's values. -/
def value (x w : Fin 2048 → EReal) (W : Fin 2048 → Fin 12816 → EReal) (n : Fin 1536) : EReal :=
  proj x w W ⟨7184 + n.val, by have := n.isLt; omega⟩

/-- What a position of the cache of group `g` keeps: its turned keys and then its values, head by head. -/
def cache (x w : Fin 2048 → EReal) (W : Fin 2048 → Fin 12816 → EReal) (p : ℕ) (g : Fin 3) (z : Fin 2) (n : Fin 512) : EReal :=
  if z.val < 1 then key x w W p ⟨g.val * 512 + n.val, by have := g.isLt; have := n.isLt; omega⟩
  else value x w W ⟨g.val * 512 + n.val, by have := g.isLt; have := n.isLt; omega⟩

/-- The turn at a coordinate of the first half. -/
theorem turn_lo (x : Fin 1536 → EReal) (p : ℕ) (n : Fin 1536) (d : ℕ) (e : n.val % 128 = d) (h : d < 16) (a b : EReal) (ha : a = x n)
    (hb : ∀ i : Fin 1536, i.val = n.val + 16 → b = x i) : a * Ideal.cos (angle p d) - b * Ideal.sin (angle p d) = turn x p n := by
  subst e
  unfold turn
  rw [dif_pos h, ha, hb ⟨n.val + 16, by have := n.isLt; omega⟩ rfl]

/-- The turn at a coordinate of the second half. -/
theorem turn_hi (x : Fin 1536 → EReal) (p : ℕ) (n : Fin 1536) (d : ℕ) (e : n.val % 128 = d) (h : ¬ d < 16) (h' : d < 32) (a b : EReal) (ha : a = x n)
    (hb : ∀ i : Fin 1536, i.val = n.val - 16 → b = x i) : a * Ideal.cos (angle p (d - 16)) + b * Ideal.sin (angle p (d - 16)) = turn x p n := by
  subst e
  unfold turn
  rw [dif_neg h, dif_pos h', ha, hb ⟨n.val - 16, by have := n.isLt; omega⟩ rfl]

/-- The turn past both. -/
theorem turn_past (x : Fin 1536 → EReal) (p : ℕ) (n : Fin 1536) (h : ¬ n.val % 128 < 32) : x n = turn x p n := by
  unfold turn
  rw [dif_neg (by omega), dif_neg h]

/-- The normalization of equal tokens. -/
theorem norm_congr {x x' w w' : Fin 2048 → EReal} {k k' : Fin 2048} (hx : ∀ i, x i = x' i) (hw : ∀ i, w i = w' i) (hk : k = k') :
    norm x w k = norm x' w' k' := by
  rw [show x = x' from funext hx, show w = w' from funext hw, hk]

/-- The projection at two names of one column. -/
theorem proj_congr (x w : Fin 2048 → EReal) (W : Fin 2048 → Fin 12816 → EReal) {n n' : Fin 12816} (e : n.val = n'.val) :
    proj x w W n = proj x w W n' := congrArg (proj x w W) (Fin.ext e)

/-- The turn written with both tables a head wide: the first holds cosines and then ones, the second sines, negated for the first
    sixteen lanes, and then noughts; each lane's partner is sixteen lanes on or back. -/
theorem turn_of_tables (x : Fin 1536 → EReal) (p : ℕ) (n : Fin 1536) (c s y : EReal)
    (hc : c = if n.val % 128 < 16 then Ideal.cos (angle p (n.val % 128)) else if n.val % 128 < 32 then Ideal.cos (angle p (n.val % 128 - 16)) else 1)
    (hs : s = if n.val % 128 < 16 then -Ideal.sin (angle p (n.val % 128)) else if n.val % 128 < 32 then Ideal.sin (angle p (n.val % 128 - 16)) else 0)
    (hlo : n.val % 128 < 16 → ∀ i : Fin 1536, i.val = n.val + 16 → y = x i)
    (hhi : ¬ n.val % 128 < 16 → ∀ i : Fin 1536, i.val = n.val - 16 → y = x i) :
    x n * c + y * s = turn x p n := by
  unfold turn
  by_cases h₁ : n.val % 128 < 16
  · rw [dif_pos h₁, hc, hs, if_pos h₁, if_pos h₁, hlo h₁ ⟨n.val + 16, by have := n.isLt; omega⟩ rfl, mul_neg, sub_eq_add_neg]
  · rw [dif_neg h₁, hc, hs, if_neg h₁, if_neg h₁, hhi h₁ ⟨n.val - 16, by have := n.isLt; omega⟩ rfl]
    by_cases h₂ : n.val % 128 < 32
    · rw [dif_pos h₂, if_pos h₂, if_pos h₂]
    · rw [dif_neg h₂, if_neg h₂, if_neg h₂, mul_one, mul_zero, add_zero]

end Cert.Layer

end
-- ==== Proof.ProjBlocks.lean ====
/- What the three regions of the projection chain leave in their arrays, at any contents they are entered with. -/
module

public import proofs.«01_k».proof.Proof.Gen.ProjIdeal.Frame
public import proofs.«01_k».proof.Proof.Layer
public import Idealize.ShloMosaic.Lib.Pipeline.ValueKit
public import Idealize.ShloMosaic.Lib.Claim

@[expose] public section

set_option maxRecDepth 16384

noncomputable section

namespace Cert.ProjIdeal.Blocks

open Cert.ProjIdeal Cert.ProjIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N,
    win0_0.index t = ![(grid0.coords t 0).val, 0] ∧ win0_1.index t = ![0, 0] ∧ win0_2.index t = ![(grid0.coords t 0).val, 0] :=
  (by decide +kernel : ∀ t : Fin grid0.N, _)

theorem idx1 : ∀ t : Fin cfg1.N,
    win1_0.index t = ![(grid1.coords t 1).val, 0] ∧ win1_1.index t = ![0, (grid1.coords t 0).val]
    ∧ win1_2.index t = ![(grid1.coords t 1).val, (grid1.coords t 0).val] :=
  (by decide +kernel : ∀ t : Fin grid1.N, _)

theorem idx2 : ∀ t : Fin cfg2.N,
    win2_0.index t = ![(grid2.coords t 0).val, 16 + (grid2.coords t 1).val] ∧ win2_1.index t = ![(grid2.coords t 0).val, 19 + (grid2.coords t 1).val]
    ∧ win2_2.index t = ![(grid2.coords t 0).val % 8, 0] ∧ win2_3.index t = ![(grid2.coords t 0).val % 8, 0]
    ∧ win2_4.index t = ![(grid2.coords t 0).val, (grid2.coords t 1).val] ∧ win2_5.index t = ![(grid2.coords t 0).val, (grid2.coords t 1).val] :=
  (by decide +kernel : ∀ t : Fin grid2.N, _)

/-- Every row normalized. -/
def NORM (x : FVec Ideal S16384x2048 .f32) (w : FVec Ideal S1x2048 .f32) : FVec Ideal S16384x2048 .bf16 :=
  fun j => Layer.norm (fun k => x (ix2 (j 0) k)) (fun k => w (ix2 0 k)) (j 1)

/-- The matrix product. -/
def PROD (a : FVec Ideal S16384x2048 .bf16) (b : FVec Ideal S2048x12800 .bf16) : FVec Ideal S16384x12800 .f32 :=
  fun j => ∑ k : Fin 2048, a (ix2 (j 0) k) * b (ix2 k (j 1))

/-- The three groups of heads from column `off` on, turned by the two tables. -/
def TURN (off : ℕ) (hoff : off + 1536 ≤ 12800) (a : FVec Ideal S16384x12800 .f32) (cs sn : FVec Ideal S4096x128 .f32) : FVec Ideal S16384x1536 .f32 :=
  fun j => a (ix2 (j 0) ⟨off + (j 1).val, by have : (j 1).val < 1536 := (j 1).isLt; omega⟩)
      * cs (ix2 ⟨(j 0).val % 4096, by omega⟩ ⟨(j 1).val % 128, by omega⟩)
    + a (ix2 (j 0) ⟨off + (if (j 1).val % 128 < 16 then (j 1).val + 16 else (j 1).val - 16), by have : (j 1).val < 1536 := (j 1).isLt; split <;> omega⟩)
      * sn (ix2 ⟨(j 0).val % 4096, by omega⟩ ⟨(j 1).val % 128, by omega⟩)

theorem pay0 (x : FVec Ideal S512x2048 .f32) (w : FVec Ideal S1x2048 .f32) (r : Fin 512) (l : Fin 2048) :
    (k0_pay1 (F := Ideal) x w : FVec Ideal S512x2048 .bf16) (ix2 r l) = Layer.norm (fun k => x (ix2 r k)) (fun k => w (ix2 0 k)) l := by
  pointwise [k0_pay1, Layer.norm]

/-- The normalized array. -/
theorem final0 (c : Dev nD) : (dat0 V c).arrAt 2 cfg0.N = NORM (V c main_v0) (V c main_v1) := by
  refine (dat0 V c).arrAt_eq_of_covers 2 _ (by decide +kernel) fun t _ y => ?_
  blk_simp
  rw [after0_2]
  frame_out
  obtain ⟨r, l, rfl⟩ : ∃ (r : Fin 512) (l : Fin 2048), y = ix2 r l := ⟨y 0, y 1, by blk_ext⟩
  refine (pay0 _ _ r l).trans ?_
  unfold NORM
  refine Layer.norm_congr (fun k => ?_) (fun k => ?_) ?_
  · unfold iblk0
    blk_ext [idx0 t]
  · unfold iblk0
    blk_ext [idx0 t]
  · refine Fin.ext ?_
    blk_simp [idx0 t] <;> try omega

/-- The product. -/
theorem final1 (c : Dev nD) : (dat1 V c).arrAt 2 cfg1.N = PROD (V c main_v2) (V c main_v7) := by
  refine (dat1 V c).arrAt_eq_of_covers 2 _ (by decide +kernel) fun t _ y => ?_
  blk_simp
  rw [after1_2]
  frame_out
  pointwise [k1_pay1, PROD]
  blk_point [iblk1, idx1 t]

/-- A head's turn at a row and a lane. -/
theorem pay6 (x c s : FVec Ideal S512x128 .f32) (r : Fin 512) (l : Fin 128) (p : Fin 128)
    (hp : p.val = if l.val < 16 then l.val + 16 else l.val - 16) :
    (k2_pay6 (F := Ideal) c s x : FVec Ideal S512x128 .f32) (ix2 r l) = x (ix2 r l) * c (ix2 r l) + x (ix2 r p) * s (ix2 r l) := by
  pointwise [k2_pay6, k2_pay3, k2_pay4, k2_pay5]
  have hl : l.val < 128 := l.isLt
  have hsel : IntOp.cmpi CmpIPredicate.slt (BitVec.ofNat 32 l.val) 16#32 = if l.val < 16 then 1#1 else 0#1 := by
    clear hp p hl
    revert l
    decide
  rw [hsel]
  congr 2
  show (if (if l.val < 16 then 1#1 else 0#1) = 1#1 then _ else _) = _
  by_cases h : l.val < 16
  · rw [if_pos h, if_pos rfl]
    rw [if_pos h] at hp
    exact congrArg (fun q => x (ix2 r q)) (Fin.ext (show (l.val + 128 - 112) % 128 = p.val by omega))
  · rw [if_neg h, if_neg (by decide)]
    rw [if_neg h] at hp
    exact congrArg (fun q => x (ix2 r q)) (Fin.ext (show (l.val + 128 - 16) % 128 = p.val by omega))

/-- A table's block, read whole. -/
abbrev tb (x : Vec Ideal S512x128 .f32) : Vec Ideal S512x128 .f32 := View.ld x r2_0
/-- Head 0's columns of a block. -/
abbrev hd0 (x : Vec Ideal S512x512 .f32) : Vec Ideal S512x128 .f32 := View.ld x r2_1
/-- Head 1's columns of a block. -/
abbrev hd1 (x : Vec Ideal S512x512 .f32) : Vec Ideal S512x128 .f32 := View.ld x r2_2
/-- Head 2's columns of a block. -/
abbrev hd2 (x : Vec Ideal S512x512 .f32) : Vec Ideal S512x128 .f32 := View.ld x r2_3
/-- Head 3's columns of a block. -/
abbrev hd3 (x : Vec Ideal S512x512 .f32) : Vec Ideal S512x128 .f32 := View.ld x r2_4

/-- The four stores of queries are one formula over the four heads' columns. -/
theorem out4_eq (x0 x1 : FVec Ideal S512x512 .f32) (x2 x3 : FVec Ideal S512x128 .f32) :
    out2_4 (F := Ideal) x0 x1 x2 x3 = View.canon [
      ⟨r2_4, k2_pay6 (F := Ideal) (tb x2) (tb x3) (hd3 x0)⟩, ⟨r2_3, k2_pay6 (F := Ideal) (tb x2) (tb x3) (hd2 x0)⟩,
      ⟨r2_2, k2_pay6 (F := Ideal) (tb x2) (tb x3) (hd1 x0)⟩, ⟨r2_1, k2_pay6 (F := Ideal) (tb x2) (tb x3) (hd0 x0)⟩] := rfl

/-- So are the four stores of keys. -/
theorem out5_eq (x0 x1 : FVec Ideal S512x512 .f32) (x2 x3 : FVec Ideal S512x128 .f32) :
    out2_5 (F := Ideal) x0 x1 x2 x3 = View.canon [
      ⟨r2_4, k2_pay6 (F := Ideal) (tb x2) (tb x3) (hd3 x1)⟩, ⟨r2_3, k2_pay6 (F := Ideal) (tb x2) (tb x3) (hd2 x1)⟩,
      ⟨r2_2, k2_pay6 (F := Ideal) (tb x2) (tb x3) (hd1 x1)⟩, ⟨r2_1, k2_pay6 (F := Ideal) (tb x2) (tb x3) (hd0 x1)⟩] := rfl

/-- Head `q`'s slice of a block. -/
def slice (q : Fin 4) (x : Vec Ideal S512x512 .f32) : Vec Ideal S512x128 .f32 :=
  fun y => x (ix2 (y 0) ⟨q.val * 128 + (y 1).val, by have : (y 1).val < 128 := (y 1).isLt; omega⟩)
theorem hd0_eq (x : Vec Ideal S512x512 .f32) : hd0 x = slice 0 x := by
  funext y; pointwise [slice, hd0]
theorem hd1_eq (x : Vec Ideal S512x512 .f32) : hd1 x = slice 1 x := by
  funext y; pointwise [slice, hd1]
theorem hd2_eq (x : Vec Ideal S512x512 .f32) : hd2 x = slice 2 x := by
  funext y; pointwise [slice, hd2]
theorem hd3_eq (x : Vec Ideal S512x512 .f32) : hd3 x = slice 3 x := by
  funext y; pointwise [slice, hd3]
theorem tb_eq (x : Vec Ideal S512x128 .f32) : tb x = x := by
  funext y; pointwise [tb]

section Point
variable (c : Dev nD) (t : Fin cfg2.N) (q : Fin 4) (x : S512x128.Idx) (j : S16384x1536.Idx)
    (hj0 : (j 0).val = (grid2.coords t 0).val * 512 + (x 0).val) (hj1 : (j 1).val = (grid2.coords t 1).val * 512 + q.val * 128 + (x 1).val)

include hj0 hj1 in
/-- A head's turn at a point, over a block of the columns from `off` on, is its part of the whole array. -/
theorem piece (off : ℕ) (hoff : off + 1536 ≤ 12800) (b : FVec Ideal S512x512 .f32)
    (hb : ∀ (r l : Fin 512) (i : S16384x12800.Idx), (i 0).val = (grid2.coords t 0).val * 512 + r.val → (i 1).val = off + (grid2.coords t 1).val * 512 + l.val →
      b (ix2 r l) = (V c main_v8 : FVec Ideal S16384x12800 .f32) i) :
    (k2_pay6 (F := Ideal) (iblk2 V c 2 t) (iblk2 V c 3 t) (slice q b) : FVec Ideal S512x128 .f32) x
      = TURN off hoff (V c main_v8) (V c main_v27) (V c main_v30) j := by
  obtain ⟨r, l, rfl⟩ : ∃ (r : Fin 512) (l : Fin 128), x = ix2 r l := ⟨x 0, x 1, by blk_ext⟩
  have hl : l.val < 128 := l.isLt
  have hr : r.val < 512 := r.isLt
  have hq : q.val < 4 := q.isLt
  have hi : (grid2.coords t 0).val < 32 := (grid2.coords t 0).isLt
  have hg : (grid2.coords t 1).val < 3 := (grid2.coords t 1).isLt
  have hj0' : (j 0).val = (grid2.coords t 0).val * 512 + r.val := hj0
  have hj1' : (j 1).val = (grid2.coords t 1).val * 512 + q.val * 128 + l.val := hj1
  have hm : (j 1).val % 128 = l.val := by omega
  refine (pay6 _ _ _ r l ⟨if l.val < 16 then l.val + 16 else l.val - 16, by split <;> omega⟩ rfl).trans ?_
  unfold TURN slice
  have e : (if (j 1).val % 128 < 16 then (j 1).val + 16 else (j 1).val - 16)
      = (grid2.coords t 1).val * 512 + q.val * 128 + (if l.val < 16 then l.val + 16 else l.val - 16) := by
    rw [hm]; split <;> omega
  congr 2
  · refine hb _ _ _ hj0' ?_
    show off + (j 1).val = off + (grid2.coords t 1).val * 512 + (q.val * 128 + l.val)
    omega
  · unfold iblk2
    blk_ext [idx2 t]
  · refine hb _ _ _ hj0' ?_
    show off + (if (j 1).val % 128 < 16 then (j 1).val + 16 else (j 1).val - 16)
      = off + (grid2.coords t 1).val * 512 + (q.val * 128 + (if l.val < 16 then l.val + 16 else l.val - 16))
    rw [e]; omega
  · unfold iblk2
    blk_ext [idx2 t]

end Point

theorem read0 (c : Dev nD) (t : Fin cfg2.N) (r l : Fin 512) (i : S16384x12800.Idx) (h0 : (i 0).val = (grid2.coords t 0).val * 512 + r.val)
    (h1 : (i 1).val = 8192 + (grid2.coords t 1).val * 512 + l.val) :
    (iblk2 V c 0 t : FVec Ideal S512x512 .f32) (ix2 r l) = (V c main_v8 : FVec Ideal S16384x12800 .f32) i := by
  unfold iblk2
  blk_ext [idx2 t]

theorem read1 (c : Dev nD) (t : Fin cfg2.N) (r l : Fin 512) (i : S16384x12800.Idx) (h0 : (i 0).val = (grid2.coords t 0).val * 512 + r.val)
    (h1 : (i 1).val = 9728 + (grid2.coords t 1).val * 512 + l.val) :
    (iblk2 V c 1 t : FVec Ideal S512x512 .f32) (ix2 r l) = (V c main_v8 : FVec Ideal S16384x12800 .f32) i := by
  unfold iblk2
  blk_ext [idx2 t]

/-- What a point stores of queries is its block of the whole array. -/
theorem point4 (c : Dev nD) (t : Fin cfg2.N) (y : S512x512.Idx) (j : S16384x1536.Idx)
    (hj0 : (j 0).val = (grid2.coords t 0).val * 512 + (y 0).val) (hj1 : (j 1).val = (grid2.coords t 1).val * 512 + (y 1).val) :
    out2_4 (iblk2 V c 0 t) (iblk2 V c 1 t) (iblk2 V c 2 t) (iblk2 V c 3 t) y
      = TURN 8192 (by decide) (V c main_v8) (V c main_v27) (V c main_v30) j := by
  rw [out4_eq, tb_eq, tb_eq, hd0_eq, hd1_eq, hd2_eq, hd3_eq]
  canon_tiles x h
  · exact piece V c t 3 x j (by omega) (by omega) 8192 _ _ (read0 V c t)
  · exact piece V c t 2 x j (by omega) (by omega) 8192 _ _ (read0 V c t)
  · exact piece V c t 1 x j (by omega) (by omega) 8192 _ _ (read0 V c t)
  · exact piece V c t 0 x j (by omega) (by omega) 8192 _ _ (read0 V c t)

/-- What a point stores of keys is its block of the whole array. -/
theorem point5 (c : Dev nD) (t : Fin cfg2.N) (y : S512x512.Idx) (j : S16384x1536.Idx)
    (hj0 : (j 0).val = (grid2.coords t 0).val * 512 + (y 0).val) (hj1 : (j 1).val = (grid2.coords t 1).val * 512 + (y 1).val) :
    out2_5 (iblk2 V c 0 t) (iblk2 V c 1 t) (iblk2 V c 2 t) (iblk2 V c 3 t) y
      = TURN 9728 (by decide) (V c main_v8) (V c main_v27) (V c main_v30) j := by
  rw [out5_eq, tb_eq, tb_eq, hd0_eq, hd1_eq, hd2_eq, hd3_eq]
  canon_tiles x h
  · exact piece V c t 3 x j (by omega) (by omega) 9728 _ _ (read1 V c t)
  · exact piece V c t 2 x j (by omega) (by omega) 9728 _ _ (read1 V c t)
  · exact piece V c t 1 x j (by omega) (by omega) 9728 _ _ (read1 V c t)
  · exact piece V c t 0 x j (by omega) (by omega) 9728 _ _ (read1 V c t)

/-- The turned queries. -/
theorem final4 (c : Dev nD) : (dat2 V c).arrAt 4 cfg2.N = TURN 8192 (by decide) (V c main_v8) (V c main_v27) (V c main_v30) := by
  refine (dat2 V c).arrAt_eq_of_covers 4 _ (by decide +kernel) fun t _ y => ?_
  blk_simp
  rw [after2_4]
  refine point4 V c t y _ ?_ ?_
  all_goals (blk_simp [idx2 t] <;> try omega)

/-- The turned keys. -/
theorem final5 (c : Dev nD) : (dat2 V c).arrAt 5 cfg2.N = TURN 9728 (by decide) (V c main_v8) (V c main_v27) (V c main_v30) := by
  refine (dat2 V c).arrAt_eq_of_covers 5 _ (by decide +kernel) fun t _ y => ?_
  blk_simp
  rw [after2_5]
  refine point5 V c t y _ ?_ ?_
  all_goals (blk_simp [idx2 t] <;> try omega)

end Cert.ProjIdeal.Blocks

end
-- ==== Proof.ProjTail.lean ====
/- What the buffers of the projection chain hold at the end, over the arguments. -/
module

public import proofs.«01_k».proof.Proof.ProjBlocks

@[expose] public section

set_option maxRecDepth 16384

noncomputable section

namespace Cert.ProjIdeal.Tail

open Cert.ProjIdeal Cert.ProjIdeal.Gen Cert.ProjIdeal.Blocks Idealize.ShloMosaic Idealize.ShloMosaic.TcCoe Idealize.SL.Sem

variable (m : (ℓ : Loc nD τ sig) → Buf (Elt Ideal) ℓ) (ρ : Dev nD → PrngReg) (c : Dev nD)

/-- The tokens. -/
abbrev argX : FVec Ideal S4x4096x2048 .f32 := m ((c : Thread nD τ).loc main_arg0)
/-- The norm's weights. -/
abbrev argN : FVec Ideal S2048 .f32 := m ((c : Thread nD τ).loc main_arg1)
/-- The projection's weights. -/
abbrev argW : FVec Ideal S2048x12816 .f32 := m ((c : Thread nD τ).loc main_arg2)

/-- Token `t` of batch `b`. -/
abbrev tok (X : FVec Ideal S4x4096x2048 .f32) (b : Fin 4) (t : Fin 4096) : Fin 2048 → EReal := fun k => X (ix3 b t k)
/-- The weights of the norm by coordinate. -/
abbrev wn (N : FVec Ideal S2048 .f32) : Fin 2048 → EReal := fun k => N (ix1 k)
/-- The weights of the projection by coordinate and column. -/
abbrev wp (W : FVec Ideal S2048x12816 .f32) : Fin 2048 → Fin 12816 → EReal := fun k n => W (ix2 k n)
/-- The batch of a row. -/
abbrev bat (r : Fin 16384) : Fin 4 := ⟨r.val / 4096, by omega⟩
/-- The position of a row. -/
abbrev pos (r : Fin 16384) : Fin 4096 := ⟨r.val % 4096, by omega⟩

/-- The projected columns, row by row. -/
def MAIN (X : FVec Ideal S4x4096x2048 .f32) (N : FVec Ideal S2048 .f32) (W : FVec Ideal S2048x12816 .f32) : FVec Ideal S16384x12800 .f32 :=
  fun j => Layer.main (tok X (bat (j 0)) (pos (j 0))) (wn N) (wp W) (j 1)
/-- The turned queries, row by row. -/
def QUERY (X : FVec Ideal S4x4096x2048 .f32) (N : FVec Ideal S2048 .f32) (W : FVec Ideal S2048x12816 .f32) : FVec Ideal S16384x1536 .f32 :=
  fun j => Layer.query (tok X (bat (j 0)) (pos (j 0))) (wn N) (wp W) ((j 0).val % 4096) (j 1)
/-- The turned keys, row by row. -/
def KEY (X : FVec Ideal S4x4096x2048 .f32) (N : FVec Ideal S2048 .f32) (W : FVec Ideal S2048x12816 .f32) : FVec Ideal S16384x1536 .f32 :=
  fun j => Layer.key (tok X (bat (j 0)) (pos (j 0))) (wn N) (wp W) ((j 0).val % 4096) (j 1)

theorem x_at (r : Fin 16384) (k : Fin 2048) : (V1 m ρ c main_v0 : FVec Ideal S16384x2048 .f32) (ix2 r k) = tok (argX m c) (bat r) (pos r) k := by
  show StableHlo.after hostOps0 (W0 m ρ c) (Proc.devRef .tc main_v0) _ = _
  after_results
  pointwise

theorem n_at (k : Fin 2048) : (V1 m ρ c main_v1 : FVec Ideal S1x2048 .f32) (ix2 0 k) = wn (argN m c) k := by
  show StableHlo.after hostOps0 (W0 m ρ c) (Proc.devRef .tc main_v1) _ = _
  after_results
  pointwise

theorem w_at (k : Fin 2048) (n : Fin 12800) : (V3 m ρ c main_v7 : FVec Ideal S2048x12800 .bf16) (ix2 k n) = wp (argW m c) k (Layer.column n) := by
  have hW : W2 m ρ c (Proc.devRef .tc main_arg2) = argW m c := W2_args m ρ c main_arg2 (by decide)
  show StableHlo.after hostOps1 (W2 m ρ c) (Proc.devRef .tc main_v7) _ = _
  generalize W2 m ρ c = Y at hW ⊢
  after_results
  pointwise
  simp only [↓ StableHlo.readResult, ↓ StableHlo.readPieces, -eq_self]
  pointwise
  rw [hW]
  have hn : n.val < 12800 := n.isLt
  have e : ∀ i : Fin 12816, i.val = (Layer.column n).val → argW m c (ix2 k i) = wp (argW m c) k (Layer.column n) :=
    fun i hi => congrArg (fun q => argW m c (ix2 k q)) (Fin.ext hi)
  by_cases h₁ : n.val < 4096
  · rw [dif_pos h₁]
    refine e _ ?_
    show 8720 + n.val = if n.val < 4096 then 8720 + n.val else if n.val < 8192 then n.val - 4096 else 4112 + (n.val - 8192)
    rw [if_pos h₁]
  · rw [dif_neg h₁]
    by_cases h₂ : n.val - 4096 < 4096
    · rw [dif_pos h₂]
      refine e _ ?_
      show n.val - 4096 = if n.val < 4096 then 8720 + n.val else if n.val < 8192 then n.val - 4096 else 4112 + (n.val - 8192)
      rw [if_neg h₁, if_pos (by omega)]
    · rw [dif_neg h₂]
      refine e _ ?_
      show 4112 + (n.val - 4096 - 4096) = if n.val < 4096 then 8720 + n.val else if n.val < 8192 then n.val - 4096 else 4112 + (n.val - 8192)
      rw [if_neg h₁, if_neg (by omega)]
      omega

/-- The projected columns as the second region leaves them. -/
theorem main_exit : (V4 m ρ c main_v8 : FVec Ideal S16384x12800 .f32) = MAIN (argX m c) (argN m c) (argW m c) := by
  refine ((W4_arr m ρ c 2).trans (final1 (V3 m ρ) c)).trans ?_
  have hx : V3 m ρ c main_v2 = NORM (V1 m ρ c main_v0) (V1 m ρ c main_v1) :=
    (W3_of m ρ c main_v2 (by decide)).trans ((W2_arr m ρ c 2).trans (final0 (V1 m ρ) c))
  rw [hx]
  funext j
  obtain ⟨r, n, rfl⟩ : ∃ (r : Fin 16384) (n : Fin 12800), j = ix2 r n := ⟨j 0, j 1, by blk_ext⟩
  show ∑ k : Fin 2048, Layer.norm (fun i => (V1 m ρ c main_v0 : FVec Ideal S16384x2048 .f32) (ix2 r i)) (fun i => (V1 m ρ c main_v1 : FVec Ideal S1x2048 .f32) (ix2 0 i)) k
      * (V3 m ρ c main_v7 : FVec Ideal S2048x12800 .bf16) (ix2 k n) = ∑ k : Fin 2048, Layer.norm (tok (argX m c) (bat r) (pos r)) (wn (argN m c)) k * wp (argW m c) k (Layer.column n)
  refine Finset.sum_congr rfl fun k _ => ?_
  rw [w_at m ρ c k n]
  exact congrArg (· * _) (Layer.norm_congr (fun i => x_at m ρ c r i) (fun i => n_at m ρ c i) rfl)

/-- They are still there when the third region starts. -/
theorem main_mid : (V5 m ρ c main_v8 : FVec Ideal S16384x12800 .f32) = MAIN (argX m c) (argN m c) (argW m c) :=
  (W5_of m ρ c main_v8 (by decide)).trans (main_exit m ρ c)

/-- And when it has ended. -/
theorem main_last : (V6 m ρ c main_v8 : FVec Ideal S16384x12800 .f32) = MAIN (argX m c) (argN m c) (argW m c) :=
  (W6_of m ρ c main_v8 (by decide)).trans (main_mid m ρ c)

/-- The operations up to the cosines and sines. -/
abbrev tables : List (HloOp τ sig (Elt Ideal)) := (hostOps2 (F := Ideal)).take 20
/-- The operations that lay the tables out. -/
abbrev layout : List (HloOp τ sig (Elt Ideal)) := (hostOps2 (F := Ideal)).drop 20
theorem cut (Y : Valuation τ sig (Elt Ideal)) (b : DevRef τ sig) :
    StableHlo.after (hostOps2 (F := Ideal)) Y b = StableHlo.after layout (StableHlo.after tables Y) b := rfl

theorem cos_at (Y : Valuation τ sig (Elt Ideal)) (t : Fin 4096) (d : Fin 16) :
    (StableHlo.after tables Y (Proc.devRef .tc main_v24) : FVec Ideal S4096x16 .f32) (ix2 t d) = Ideal.cos (Layer.angle t.val d.val) := by
  dsimp only [tables, List.take]
  after_results
  pointwise [Layer.angle]

theorem sin_at (Y : Valuation τ sig (Elt Ideal)) (t : Fin 4096) (d : Fin 16) :
    (StableHlo.after tables Y (Proc.devRef .tc main_v25) : FVec Ideal S4096x16 .f32) (ix2 t d) = Ideal.sin (Layer.angle t.val d.val) := by
  dsimp only [tables, List.take]
  after_results
  pointwise [Layer.angle]

theorem costab (t : Fin 4096) (l : Fin 128) : (V5 m ρ c main_v27 : FVec Ideal S4096x128 .f32) (ix2 t l)
    = if l.val < 16 then Ideal.cos (Layer.angle t.val l.val) else if l.val < 32 then Ideal.cos (Layer.angle t.val (l.val - 16)) else 1 := by
  show StableHlo.after hostOps2 (W4 m ρ c) (Proc.devRef .tc main_v27) _ = _
  rw [cut]
  have h := cos_at (W4 m ρ c) t
  generalize StableHlo.after tables (W4 m ρ c) = Y at h ⊢
  dsimp only [layout, List.drop]
  after_results
  pointwise
  simp only [↓ StableHlo.readResult, ↓ StableHlo.readPieces, -eq_self]
  pointwise
  by_cases h₁ : l.val < 16
  · refine (dif_pos h₁).trans ?_
    rw [if_pos h₁, h]
  · refine (dif_neg h₁).trans ?_
    rw [if_neg h₁]
    by_cases h₂ : l.val - 16 < 16
    · refine (dif_pos h₂).trans ?_
      rw [if_pos (show l.val < 32 by omega), h]
    · refine (dif_neg h₂).trans ?_
      rw [if_neg (show ¬ l.val < 32 by omega)]

theorem sintab (t : Fin 4096) (l : Fin 128) : (V5 m ρ c main_v30 : FVec Ideal S4096x128 .f32) (ix2 t l)
    = if l.val < 16 then -Ideal.sin (Layer.angle t.val l.val) else if l.val < 32 then Ideal.sin (Layer.angle t.val (l.val - 16)) else 0 := by
  show StableHlo.after hostOps2 (W4 m ρ c) (Proc.devRef .tc main_v30) _ = _
  rw [cut]
  have h := sin_at (W4 m ρ c) t
  generalize StableHlo.after tables (W4 m ρ c) = Y at h ⊢
  dsimp only [layout, List.drop]
  after_results
  pointwise
  simp only [↓ StableHlo.readResult, ↓ StableHlo.readPieces, -eq_self]
  pointwise
  by_cases h₁ : l.val < 16
  · refine (dif_pos h₁).trans ?_
    rw [if_pos h₁, h]
  · refine (dif_neg h₁).trans ?_
    rw [if_neg h₁]
    by_cases h₂ : l.val - 16 < 16
    · refine (dif_pos h₂).trans ?_
      rw [if_pos (show l.val < 32 by omega), h]
    · refine (dif_neg h₂).trans ?_
      rw [if_neg (show ¬ l.val < 32 by omega)]

/-- The columns from `8192` on are the input projection's from `4112` on. -/
theorem main_query (X : FVec Ideal S4x4096x2048 .f32) (N : FVec Ideal S2048 .f32) (W : FVec Ideal S2048x12816 .f32) (r : Fin 16384) (n : Fin 12800)
    (i : Fin 12816) (h₀ : 8192 ≤ n.val) (h : i.val + 4080 = n.val) : MAIN X N W (ix2 r n) = Layer.proj (tok X (bat r) (pos r)) (wn N) (wp W) i := by
  refine Layer.proj_congr _ _ _ ?_
  show (if n.val < 4096 then 8720 + n.val else if n.val < 8192 then n.val - 4096 else 4112 + (n.val - 8192)) = i.val
  rw [if_neg (by omega), if_neg (by omega)]
  omega

/-- The turned columns over the arguments. -/
theorem turned (off : ℕ) (hoff : off + 1536 ≤ 12800) (h₀ : 8192 ≤ off) (r : Fin 16384) (n : Fin 1536) :
    TURN off hoff (V5 m ρ c main_v8) (V5 m ρ c main_v27) (V5 m ρ c main_v30) (ix2 r n)
      = Layer.turn (fun i => Layer.proj (tok (argX m c) (bat r) (pos r)) (wn (argN m c)) (wp (argW m c)) ⟨off - 4080 + i.val, by omega⟩) (r.val % 4096) n := by
  have hn : n.val < 1536 := n.isLt
  rw [main_mid m ρ c]
  unfold TURN
  refine Eq.trans (congrArg₂ (· + ·) (congrArg (· * _) (main_query _ _ _ r ⟨off + n.val, by omega⟩ ⟨off - 4080 + n.val, by omega⟩
    (show 8192 ≤ off + n.val by omega) (show off - 4080 + n.val + 4080 = off + n.val by omega))) rfl) ?_
  refine Layer.turn_of_tables (fun i => Layer.proj (tok (argX m c) (bat r) (pos r)) (wn (argN m c)) (wp (argW m c)) ⟨off - 4080 + i.val, by omega⟩)
    (r.val % 4096) n _ _ _ (costab m ρ c (pos r) ⟨n.val % 128, by omega⟩) (sintab m ρ c (pos r) ⟨n.val % 128, by omega⟩) (fun h i hi => ?_) (fun h i hi => ?_)
  · refine main_query _ _ _ r _ _ ?_ ?_
    · show 8192 ≤ off + (if n.val % 128 < 16 then n.val + 16 else n.val - 16)
      omega
    · show off - 4080 + i.val + 4080 = off + (if n.val % 128 < 16 then n.val + 16 else n.val - 16)
      rw [if_pos h]; omega
  · refine main_query _ _ _ r _ _ ?_ ?_
    · show 8192 ≤ off + (if n.val % 128 < 16 then n.val + 16 else n.val - 16)
      omega
    · show off - 4080 + i.val + 4080 = off + (if n.val % 128 < 16 then n.val + 16 else n.val - 16)
      rw [if_neg h]; omega

theorem query_last : (V6 m ρ c main_v31_0 : FVec Ideal S16384x1536 .f32) = QUERY (argX m c) (argN m c) (argW m c) := by
  refine ((W6_arr m ρ c 4).trans (final4 (V5 m ρ) c)).trans (funext fun j => ?_)
  obtain ⟨r, n, rfl⟩ : ∃ (r : Fin 16384) (n : Fin 1536), j = ix2 r n := ⟨j 0, j 1, by blk_ext⟩
  exact turned m ρ c 8192 (by decide) (by decide) r n

theorem key_last : (V6 m ρ c main_v31_1 : FVec Ideal S16384x1536 .f32) = KEY (argX m c) (argN m c) (argW m c) := by
  refine ((W6_arr m ρ c 5).trans (final5 (V5 m ρ) c)).trans (funext fun j => ?_)
  obtain ⟨r, n, rfl⟩ : ∃ (r : Fin 16384) (n : Fin 1536), j = ix2 r n := ⟨j 0, j 1, by blk_ext⟩
  exact turned m ρ c 9728 (by decide) (by decide) r n

theorem MAIN_at (X : FVec Ideal S4x4096x2048 .f32) (N : FVec Ideal S2048 .f32) (W : FVec Ideal S2048x12816 .f32) (r : Fin 16384) (n : Fin 12800)
    (b : Fin 4) (t : Fin 4096) (e : r.val = b.val * 4096 + t.val) : MAIN X N W (ix2 r n) = Layer.main (tok X b t) (wn N) (wp W) n := by
  have hb : bat r = b := Fin.ext (by show r.val / 4096 = b.val; omega)
  have ht : pos r = t := Fin.ext (by show r.val % 4096 = t.val; omega)
  show Layer.main (tok X (bat r) (pos r)) (wn N) (wp W) n = _
  rw [hb, ht]

theorem KEY_at (X : FVec Ideal S4x4096x2048 .f32) (N : FVec Ideal S2048 .f32) (W : FVec Ideal S2048x12816 .f32) (r : Fin 16384) (n : Fin 1536)
    (b : Fin 4) (t : Fin 4096) (e : r.val = b.val * 4096 + t.val) : KEY X N W (ix2 r n) = Layer.key (tok X b t) (wn N) (wp W) t.val n := by
  have hb : bat r = b := Fin.ext (by show r.val / 4096 = b.val; omega)
  have ht : pos r = t := Fin.ext (by show r.val % 4096 = t.val; omega)
  have hm : r.val % 4096 = t.val := by omega
  show Layer.key (tok X (bat r) (pos r)) (wn N) (wp W) (r.val % 4096) n = _
  rw [hb, ht, hm]

/-- A cache's entry from the keys or the values, whichever the coordinate says. -/
theorem cache_at (X : FVec Ideal S4x4096x2048 .f32) (N : FVec Ideal S2048 .f32) (W : FVec Ideal S2048x12816 .f32) (r : Fin 16384) (n : Fin 1536) (n' : Fin 12800)
    (b : Fin 4) (t : Fin 4096) (g : Fin 3) (z : Fin 2) (i : Fin 512) (e : r.val = b.val * 4096 + t.val) (hn : n.val = g.val * 512 + i.val)
    (hn' : n'.val = 11264 + n.val) :
    (if z.val < 1 then KEY X N W (ix2 r n) else MAIN X N W (ix2 r n')) = Layer.cache (tok X b t) (wn N) (wp W) t.val g z i := by
  unfold Layer.cache
  by_cases hz : z.val < 1
  · rw [if_pos hz, if_pos hz, KEY_at X N W r n b t e]
    exact congrArg (Layer.key (tok X b t) (wn N) (wp W) t.val) (Fin.ext hn)
  · rw [if_neg hz, if_neg hz, MAIN_at X N W r n' b t e]
    refine Layer.proj_congr _ _ _ ?_
    show (if n'.val < 4096 then 8720 + n'.val else if n'.val < 8192 then n'.val - 4096 else 4112 + (n'.val - 8192)) = 7184 + (g.val * 512 + i.val)
    rw [if_neg (by omega), if_neg (by omega)]
    omega

set_option maxHeartbeats 1000000 in
theorem conv_end (b : Fin 4) (r : Fin 3) (n : Fin 3072) : (W7 m ρ c (Proc.devRef .tc main_v34) : FVec Ideal S4x3x3072 .f32) (ix3 b r n)
    = Layer.proj (tok (argX m c) b ⟨4093 + r.val, by omega⟩) (wn (argN m c)) (wp (argW m c)) ⟨n.val, by omega⟩ := by
  have hm : W6 m ρ c (Proc.devRef .tc main_v8) = MAIN (argX m c) (argN m c) (argW m c) := main_last m ρ c
  show StableHlo.after hostOps3 (W6 m ρ c) (Proc.devRef .tc main_v34) _ = _
  generalize W6 m ρ c = Y at hm ⊢
  after_results
  pointwise
  rw [hm]
  refine (MAIN_at _ _ _ _ _ b ⟨4093 + r.val, by omega⟩ (by blk_simp <;> omega)).trans (Layer.proj_congr _ _ _ ?_)
  have hn : n.val < 3072 := n.isLt
  show (if 4096 + n.val < 4096 then 8720 + (4096 + n.val) else if 4096 + n.val < 8192 then 4096 + n.val - 4096 else 4112 + (4096 + n.val - 8192)) = n.val
  rw [if_neg (by omega), if_pos (by omega)]
  omega

end Cert.ProjIdeal.Tail

end
-- ==== Proof.ProjCache.lean ====
/- What the chain leaves in the caches, over the arguments. -/
module

public import proofs.«01_k».proof.Proof.ProjTail

@[expose] public section

set_option maxRecDepth 16384

noncomputable section

namespace Cert.ProjIdeal.Tail

open Cert.ProjIdeal Cert.ProjIdeal.Gen Cert.ProjIdeal.Blocks Idealize.ShloMosaic Idealize.ShloMosaic.TcCoe Idealize.SL.Sem

variable (m : (ℓ : Loc nD τ sig) → Buf (Elt Ideal) ℓ) (ρ : Dev nD → PrngReg) (c : Dev nD)

/-- A key of the cache. -/
theorem key_of (X : FVec Ideal S4x4096x2048 .f32) (N : FVec Ideal S2048 .f32) (W : FVec Ideal S2048x12816 .f32) (r : Fin 16384) (n n' : Fin 1536)
    (b : Fin 4) (t : Fin 4096) (e : r.val = b.val * 4096 + t.val) (hn : n.val = n'.val) :
    KEY X N W (ix2 r n) = Layer.key (tok X b t) (wn N) (wp W) t.val n' :=
  (KEY_at X N W r n b t e).trans (congrArg (Layer.key (tok X b t) (wn N) (wp W) t.val) (Fin.ext hn))

/-- A value of the cache. -/
theorem value_of (X : FVec Ideal S4x4096x2048 .f32) (N : FVec Ideal S2048 .f32) (W : FVec Ideal S2048x12816 .f32) (r : Fin 16384) (n : Fin 12800) (n' : Fin 1536)
    (b : Fin 4) (t : Fin 4096) (e : r.val = b.val * 4096 + t.val) (hn : n.val = 11264 + n'.val) :
    MAIN X N W (ix2 r n) = Layer.value (tok X b t) (wn N) (wp W) n' := by
  refine (MAIN_at X N W r n b t e).trans (Layer.proj_congr _ _ _ ?_)
  show (if n.val < 4096 then 8720 + n.val else if n.val < 8192 then n.val - 4096 else 4112 + (n.val - 8192)) = 7184 + n'.val
  rw [if_neg (by omega), if_neg (by omega)]
  omega

theorem spread0 (x : FVec Ideal S4x128x4x128 .f32) (b : Fin 4) (r : Fin 128) (z : Fin 1) (q : Fin 4) (d : Fin 128) :
    broadcastInDim S4x128x1x4x128 ![0, 1, 3, 4] bcast_S4x128x4x128_S4x128x1x4x128_0_1_3_4 x (ix5 b r z q d) = x (ix4 b r q d) :=
  broadcastInDim_apply _ bcast_S4x128x4x128_S4x128x1x4x128_0_1_3_4 x (ix5 b r z q d) (ix4 b r q d) (fun a => match a with
    | ⟨0, _⟩ => by show b.val = if (4 : Nat) = 1 then 0 else b.val; rw [if_neg (by decide)]
    | ⟨1, _⟩ => by show r.val = if (128 : Nat) = 1 then 0 else r.val; rw [if_neg (by decide)]
    | ⟨2, _⟩ => by show q.val = if (4 : Nat) = 1 then 0 else q.val; rw [if_neg (by decide)]
    | ⟨3, _⟩ => by show d.val = if (128 : Nat) = 1 then 0 else d.val; rw [if_neg (by decide)])

/-- Keys and values stacked. -/
theorem pair0 (x y : FVec Ideal S4x128x4x128 .f32) (b : Fin 4) (r : Fin 128) (z : Fin 2) (q : Fin 4) (d : Fin 128) :
    (concatenate S4x128x2x4x128 2 [⟨S4x128x1x4x128, (broadcastInDim S4x128x1x4x128 ![0, 1, 3, 4] bcast_S4x128x4x128_S4x128x1x4x128_0_1_3_4 x : FVec Ideal S4x128x1x4x128 .f32)⟩,
      ⟨S4x128x1x4x128, (broadcastInDim S4x128x1x4x128 ![0, 1, 3, 4] bcast_S4x128x4x128_S4x128x1x4x128_0_1_3_4 y : FVec Ideal S4x128x1x4x128 .f32)⟩]
      concatenates_S4x128x1x4x128_S4x128x1x4x128_S4x128x2x4x128_d2 : FVec Ideal S4x128x2x4x128 .f32) (ix5 b r z q d) = if z.val < 1 then x (ix4 b r q d) else y (ix4 b r q d) := by
  have hx := fun z => spread0 x b r z q d
  have hy := fun z => spread0 y b r z q d
  generalize broadcastInDim S4x128x1x4x128 ![0, 1, 3, 4] bcast_S4x128x4x128_S4x128x1x4x128_0_1_3_4 x = P at hx ⊢
  generalize broadcastInDim S4x128x1x4x128 ![0, 1, 3, 4] bcast_S4x128x4x128_S4x128x1x4x128_0_1_3_4 y = Q at hy ⊢
  pointwise
  by_cases hz : z.val < 1
  · rw [if_pos hz]
    exact (dif_pos hz).trans (hx _)
  · rw [if_neg hz]
    exact (dif_neg hz).trans (hy _)

set_option maxHeartbeats 1000000 in
theorem cache0_end (b : Fin 4) (r : Fin 128) (z : Fin 2) (q : Fin 4) (d : Fin 128) : (W7 m ρ c (Proc.devRef .tc main_v41) : FVec Ideal S4x128x2x4x128 .f32) (ix5 b r z q d)
    = Layer.cache (tok (argX m c) b ⟨3968 + r.val, by omega⟩) (wn (argN m c)) (wp (argW m c)) (3968 + r.val) 0 z ⟨q.val * 128 + d.val, by omega⟩ := by
  have hm : W6 m ρ c (Proc.devRef .tc main_v8) = MAIN (argX m c) (argN m c) (argW m c) := main_last m ρ c
  have hk : W6 m ρ c (Proc.devRef .tc main_v31_1) = KEY (argX m c) (argN m c) (argW m c) := key_last m ρ c
  show StableHlo.after hostOps3 (W6 m ρ c) (Proc.devRef .tc main_v41) _ = _
  generalize W6 m ρ c = Y at hm hk ⊢
  generalize hR : Layer.cache _ _ _ _ _ _ _ = R
  after_results
  rw [hm, hk]
  refine (pair0 _ _ b r z q d).trans ?_
  subst hR
  unfold Layer.cache
  by_cases hz : z.val < 1
  · rw [if_pos hz, if_pos hz]
    generalize hR : Layer.key _ _ _ _ _ = R
    pointwise
    subst hR
    refine key_of _ _ _ _ _ _ b ⟨3968 + r.val, by omega⟩ ?_ ?_
    · show b.val * 4096 + (3968 + r.val) = b.val * 4096 + (3968 + r.val)
      rfl
    · show q.val * 128 + d.val = 0 * 512 + (q.val * 128 + d.val)
      omega
  · rw [if_neg hz, if_neg hz]
    generalize hR : Layer.value _ _ _ _ = R
    pointwise
    subst hR
    refine value_of _ _ _ _ _ _ b ⟨3968 + r.val, by omega⟩ ?_ ?_
    · show b.val * 4096 + (3968 + r.val) = b.val * 4096 + (3968 + r.val)
      rfl
    · show 11264 + (q.val * 128 + d.val) = 11264 + (0 * 512 + (q.val * 128 + d.val))
      omega

theorem spread1 (x : FVec Ideal S4x512x4x128 .f32) (b : Fin 4) (r : Fin 512) (z : Fin 1) (q : Fin 4) (d : Fin 128) :
    broadcastInDim S4x512x1x4x128 ![0, 1, 3, 4] bcast_S4x512x4x128_S4x512x1x4x128_0_1_3_4 x (ix5 b r z q d) = x (ix4 b r q d) :=
  broadcastInDim_apply _ bcast_S4x512x4x128_S4x512x1x4x128_0_1_3_4 x (ix5 b r z q d) (ix4 b r q d) (fun a => match a with
    | ⟨0, _⟩ => by show b.val = if (4 : Nat) = 1 then 0 else b.val; rw [if_neg (by decide)]
    | ⟨1, _⟩ => by show r.val = if (512 : Nat) = 1 then 0 else r.val; rw [if_neg (by decide)]
    | ⟨2, _⟩ => by show q.val = if (4 : Nat) = 1 then 0 else q.val; rw [if_neg (by decide)]
    | ⟨3, _⟩ => by show d.val = if (128 : Nat) = 1 then 0 else d.val; rw [if_neg (by decide)])

/-- Keys and values stacked. -/
theorem pair1 (x y : FVec Ideal S4x512x4x128 .f32) (b : Fin 4) (r : Fin 512) (z : Fin 2) (q : Fin 4) (d : Fin 128) :
    (concatenate S4x512x2x4x128 2 [⟨S4x512x1x4x128, (broadcastInDim S4x512x1x4x128 ![0, 1, 3, 4] bcast_S4x512x4x128_S4x512x1x4x128_0_1_3_4 x : FVec Ideal S4x512x1x4x128 .f32)⟩,
      ⟨S4x512x1x4x128, (broadcastInDim S4x512x1x4x128 ![0, 1, 3, 4] bcast_S4x512x4x128_S4x512x1x4x128_0_1_3_4 y : FVec Ideal S4x512x1x4x128 .f32)⟩]
      concatenates_S4x512x1x4x128_S4x512x1x4x128_S4x512x2x4x128_d2 : FVec Ideal S4x512x2x4x128 .f32) (ix5 b r z q d) = if z.val < 1 then x (ix4 b r q d) else y (ix4 b r q d) := by
  have hx := fun z => spread1 x b r z q d
  have hy := fun z => spread1 y b r z q d
  generalize broadcastInDim S4x512x1x4x128 ![0, 1, 3, 4] bcast_S4x512x4x128_S4x512x1x4x128_0_1_3_4 x = P at hx ⊢
  generalize broadcastInDim S4x512x1x4x128 ![0, 1, 3, 4] bcast_S4x512x4x128_S4x512x1x4x128_0_1_3_4 y = Q at hy ⊢
  pointwise
  by_cases hz : z.val < 1
  · rw [if_pos hz]
    exact (dif_pos hz).trans (hx _)
  · rw [if_neg hz]
    exact (dif_neg hz).trans (hy _)

set_option maxHeartbeats 1000000 in
theorem cache1_end (b : Fin 4) (r : Fin 512) (z : Fin 2) (q : Fin 4) (d : Fin 128) : (W7 m ρ c (Proc.devRef .tc main_v48) : FVec Ideal S4x512x2x4x128 .f32) (ix5 b r z q d)
    = Layer.cache (tok (argX m c) b ⟨3584 + r.val, by omega⟩) (wn (argN m c)) (wp (argW m c)) (3584 + r.val) 1 z ⟨q.val * 128 + d.val, by omega⟩ := by
  have hm : W6 m ρ c (Proc.devRef .tc main_v8) = MAIN (argX m c) (argN m c) (argW m c) := main_last m ρ c
  have hk : W6 m ρ c (Proc.devRef .tc main_v31_1) = KEY (argX m c) (argN m c) (argW m c) := key_last m ρ c
  show StableHlo.after hostOps3 (W6 m ρ c) (Proc.devRef .tc main_v48) _ = _
  generalize W6 m ρ c = Y at hm hk ⊢
  generalize hR : Layer.cache _ _ _ _ _ _ _ = R
  after_results
  rw [hm, hk]
  refine (pair1 _ _ b r z q d).trans ?_
  subst hR
  unfold Layer.cache
  by_cases hz : z.val < 1
  · rw [if_pos hz, if_pos hz]
    generalize hR : Layer.key _ _ _ _ _ = R
    pointwise
    subst hR
    refine key_of _ _ _ _ _ _ b ⟨3584 + r.val, by omega⟩ ?_ ?_
    · show b.val * 4096 + (3584 + r.val) = b.val * 4096 + (3584 + r.val)
      rfl
    · show 512 + (q.val * 128 + d.val) = 1 * 512 + (q.val * 128 + d.val)
      omega
  · rw [if_neg hz, if_neg hz]
    generalize hR : Layer.value _ _ _ _ = R
    pointwise
    subst hR
    refine value_of _ _ _ _ _ _ b ⟨3584 + r.val, by omega⟩ ?_ ?_
    · show b.val * 4096 + (3584 + r.val) = b.val * 4096 + (3584 + r.val)
      rfl
    · show 11776 + (q.val * 128 + d.val) = 11264 + (1 * 512 + (q.val * 128 + d.val))
      omega

theorem spread2 (x : FVec Ideal S4x2048x4x128 .f32) (b : Fin 4) (r : Fin 2048) (z : Fin 1) (q : Fin 4) (d : Fin 128) :
    broadcastInDim S4x2048x1x4x128 ![0, 1, 3, 4] bcast_S4x2048x4x128_S4x2048x1x4x128_0_1_3_4 x (ix5 b r z q d) = x (ix4 b r q d) :=
  broadcastInDim_apply _ bcast_S4x2048x4x128_S4x2048x1x4x128_0_1_3_4 x (ix5 b r z q d) (ix4 b r q d) (fun a => match a with
    | ⟨0, _⟩ => by show b.val = if (4 : Nat) = 1 then 0 else b.val; rw [if_neg (by decide)]
    | ⟨1, _⟩ => by show r.val = if (2048 : Nat) = 1 then 0 else r.val; rw [if_neg (by decide)]
    | ⟨2, _⟩ => by show q.val = if (4 : Nat) = 1 then 0 else q.val; rw [if_neg (by decide)]
    | ⟨3, _⟩ => by show d.val = if (128 : Nat) = 1 then 0 else d.val; rw [if_neg (by decide)])

/-- Keys and values stacked. -/
theorem pair2 (x y : FVec Ideal S4x2048x4x128 .f32) (b : Fin 4) (r : Fin 2048) (z : Fin 2) (q : Fin 4) (d : Fin 128) :
    (concatenate S4x2048x2x4x128 2 [⟨S4x2048x1x4x128, (broadcastInDim S4x2048x1x4x128 ![0, 1, 3, 4] bcast_S4x2048x4x128_S4x2048x1x4x128_0_1_3_4 x : FVec Ideal S4x2048x1x4x128 .f32)⟩,
      ⟨S4x2048x1x4x128, (broadcastInDim S4x2048x1x4x128 ![0, 1, 3, 4] bcast_S4x2048x4x128_S4x2048x1x4x128_0_1_3_4 y : FVec Ideal S4x2048x1x4x128 .f32)⟩]
      concatenates_S4x2048x1x4x128_S4x2048x1x4x128_S4x2048x2x4x128_d2 : FVec Ideal S4x2048x2x4x128 .f32) (ix5 b r z q d) = if z.val < 1 then x (ix4 b r q d) else y (ix4 b r q d) := by
  have hx := fun z => spread2 x b r z q d
  have hy := fun z => spread2 y b r z q d
  generalize broadcastInDim S4x2048x1x4x128 ![0, 1, 3, 4] bcast_S4x2048x4x128_S4x2048x1x4x128_0_1_3_4 x = P at hx ⊢
  generalize broadcastInDim S4x2048x1x4x128 ![0, 1, 3, 4] bcast_S4x2048x4x128_S4x2048x1x4x128_0_1_3_4 y = Q at hy ⊢
  pointwise
  by_cases hz : z.val < 1
  · rw [if_pos hz]
    exact (dif_pos hz).trans (hx _)
  · rw [if_neg hz]
    exact (dif_neg hz).trans (hy _)

set_option maxHeartbeats 1000000 in
theorem cache2_end (b : Fin 4) (r : Fin 2048) (z : Fin 2) (q : Fin 4) (d : Fin 128) : (W7 m ρ c (Proc.devRef .tc main_v55) : FVec Ideal S4x2048x2x4x128 .f32) (ix5 b r z q d)
    = Layer.cache (tok (argX m c) b ⟨2048 + r.val, by omega⟩) (wn (argN m c)) (wp (argW m c)) (2048 + r.val) 2 z ⟨q.val * 128 + d.val, by omega⟩ := by
  have hm : W6 m ρ c (Proc.devRef .tc main_v8) = MAIN (argX m c) (argN m c) (argW m c) := main_last m ρ c
  have hk : W6 m ρ c (Proc.devRef .tc main_v31_1) = KEY (argX m c) (argN m c) (argW m c) := key_last m ρ c
  show StableHlo.after hostOps3 (W6 m ρ c) (Proc.devRef .tc main_v55) _ = _
  generalize W6 m ρ c = Y at hm hk ⊢
  generalize hR : Layer.cache _ _ _ _ _ _ _ = R
  after_results
  rw [hm, hk]
  refine (pair2 _ _ b r z q d).trans ?_
  subst hR
  unfold Layer.cache
  by_cases hz : z.val < 1
  · rw [if_pos hz, if_pos hz]
    generalize hR : Layer.key _ _ _ _ _ = R
    pointwise
    subst hR
    refine key_of _ _ _ _ _ _ b ⟨2048 + r.val, by omega⟩ ?_ ?_
    · show b.val * 4096 + (2048 + r.val) = b.val * 4096 + (2048 + r.val)
      rfl
    · show 1024 + (q.val * 128 + d.val) = 2 * 512 + (q.val * 128 + d.val)
      omega
  · rw [if_neg hz, if_neg hz]
    generalize hR : Layer.value _ _ _ _ = R
    pointwise
    subst hR
    refine value_of _ _ _ _ _ _ b ⟨2048 + r.val, by omega⟩ ?_ ?_
    · show b.val * 4096 + (2048 + r.val) = b.val * 4096 + (2048 + r.val)
      rfl
    · show 12288 + (q.val * 128 + d.val) = 11264 + (2 * 512 + (q.val * 128 + d.val))
      omega

end Cert.ProjIdeal.Tail

end
-- ==== Proof.ProjRead.lean ====
module

public import proofs.«01_k».proof.Proof.Gen.ProjRefIdeal.Read
public import proofs.«01_k».proof.Proof.Layer
public import Idealize.ShloMosaic.Lib.Pointwise
public import Idealize.ShloMosaic.Lib.Pipeline.ValueKit

@[expose] public section

set_option maxRecDepth 16384

noncomputable section

namespace Cert.ProjRefIdeal.Value

open Cert.ProjRefIdeal Cert.ProjRefIdeal.Gen Cert.ProjRefIdeal.Read Idealize.ShloMosaic Idealize.ShloMosaic.TcCoe Idealize.SL.Sem

variable (X : FVec Ideal S4x4096x2048 .f32) (N : FVec Ideal S2048 .f32) (W : FVec Ideal S2048x12816 .f32)

theorem dite_cases {p : Prop} [Decidable p] {a : p → EReal} {b : ¬ p → EReal} {e : EReal} (h₁ : ∀ h, a h = e) (h₂ : ∀ h, b h = e) : dite p a b = e := by
  by_cases hp : p
  · rw [dif_pos hp, h₁ hp]
  · rw [dif_neg hp, h₂ hp]

/-- The projection of token `t` of batch `b` at a column. -/
abbrev h (b : Fin 4) (t : Fin 4096) (n : Fin 12816) : EReal :=
  Layer.proj (fun k => X (ix3 b t k)) (fun k => N (ix1 k)) (fun k n => W (ix2 k n)) n

theorem v13 (b : Fin 4) (t : Fin 4096) (n : Fin 12816) : (val_main_v13 (F := Ideal) X N W : FVec Ideal S4x4096x12816 .f32) (ix3 b t n) = h X N W b t n := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, h, Layer.proj, Layer.norm]

theorem v94 (b : Fin 4) (t : Fin 4096) (g : Fin 3) (q : Fin 4) (d : Fin 128) (n : Fin 1536) (e : n.val = g.val * 512 + q.val * 128 + d.val) :
    (val_main_v94 (F := Ideal) X N W : FVec Ideal S4x4096x3x4x128 .f32) (ix5 b t g q d)
      = Layer.value (fun k => X (ix3 b t k)) (fun k => N (ix1 k)) (fun k n => W (ix2 k n)) n := by
  pointwise [val_main_v94, val_main_v22]
  rw [v13]
  refine Layer.proj_congr _ _ _ ?_
  show 7184 + (g.val * 512 + q.val * 128 + d.val) = 7184 + n.val
  omega

end Cert.ProjRefIdeal.Value

end
-- ==== Proof.ProjTurnQ.lean ====
module

public import proofs.«01_k».proof.Proof.Gen.ProjRefIdeal.Read
public import proofs.«01_k».proof.Proof.ProjRead
public import Idealize.ShloMosaic.Lib.Pointwise
public import Idealize.ShloMosaic.Lib.Pipeline.ValueKit

@[expose] public section

set_option maxRecDepth 16384

noncomputable section

namespace Cert.ProjRefIdeal.Value

open Cert.ProjRefIdeal Cert.ProjRefIdeal.Gen Cert.ProjRefIdeal.Read Idealize.ShloMosaic Idealize.ShloMosaic.TcCoe Idealize.SL.Sem

variable (X : FVec Ideal S4x4096x2048 .f32) (N : FVec Ideal S2048 .f32) (W : FVec Ideal S2048x12816 .f32)

theorem v59 (b : Fin 4) (t : Fin 4096) (g : Fin 3) (q : Fin 4) (d : Fin 128) (n : Fin 1536) (e : n.val = g.val * 512 + q.val * 128 + d.val) :
    (val_main_v59 (F := Ideal) X N W : FVec Ideal S4x4096x3x4x128 .f32) (ix5 b t g q d)
      = Layer.query (fun k => X (ix3 b t k)) (fun k => N (ix1 k)) (fun k n => W (ix2 k n)) t.val n := by
  have hd : d.val < 128 := d.isLt
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v20, val_main_cst_2, val_main_cst_3, val_main_cst_4]
  simp only [v13]
  have ed : n.val % 128 = d.val := by omega
  by_cases h₂ : d.val < 32
  · refine (dif_pos h₂).trans ?_
    by_cases h₁ : d.val < 16
    · refine (dif_pos h₁).trans (Layer.turn_lo (fun i => h X N W b t ⟨4112 + i.val, by omega⟩) t.val n d.val ed h₁ _ _ (Layer.proj_congr _ _ _ ?_) fun i hi => Layer.proj_congr _ _ _ ?_)
      · show 4112 + (g.val * 512 + q.val * 128 + d.val) = 4112 + n.val
        omega
      · show 4112 + (g.val * 512 + q.val * 128 + (16 + d.val)) = 4112 + i.val
        omega
    · refine (dif_neg h₁).trans (Layer.turn_hi (fun i => h X N W b t ⟨4112 + i.val, by omega⟩) t.val n d.val ed h₁ h₂ _ _ (Layer.proj_congr _ _ _ ?_) fun i hi => Layer.proj_congr _ _ _ ?_)
      · show 4112 + (g.val * 512 + q.val * 128 + (16 + (d.val - 16))) = 4112 + n.val
        omega
      · show 4112 + (g.val * 512 + q.val * 128 + (d.val - 16)) = 4112 + i.val
        omega
  · refine (dif_neg h₂).trans (Eq.trans (Layer.proj_congr _ _ _ ?_) (Layer.turn_past (fun i => h X N W b t ⟨4112 + i.val, by omega⟩) t.val n (by omega)))
    show 4112 + (g.val * 512 + q.val * 128 + (32 + (d.val - 32))) = 4112 + n.val
    omega

end Cert.ProjRefIdeal.Value

end
-- ==== Proof.ProjTurnK.lean ====
module

public import proofs.«01_k».proof.Proof.Gen.ProjRefIdeal.Read
public import proofs.«01_k».proof.Proof.ProjRead
public import Idealize.ShloMosaic.Lib.Pointwise
public import Idealize.ShloMosaic.Lib.Pipeline.ValueKit

@[expose] public section

set_option maxRecDepth 16384

noncomputable section

namespace Cert.ProjRefIdeal.Value

open Cert.ProjRefIdeal Cert.ProjRefIdeal.Gen Cert.ProjRefIdeal.Read Idealize.ShloMosaic Idealize.ShloMosaic.TcCoe Idealize.SL.Sem

variable (X : FVec Ideal S4x4096x2048 .f32) (N : FVec Ideal S2048 .f32) (W : FVec Ideal S2048x12816 .f32)

theorem v93 (b : Fin 4) (t : Fin 4096) (g : Fin 3) (q : Fin 4) (d : Fin 128) (n : Fin 1536) (e : n.val = g.val * 512 + q.val * 128 + d.val) :
    (val_main_v93 (F := Ideal) X N W : FVec Ideal S4x4096x3x4x128 .f32) (ix5 b t g q d)
      = Layer.key (fun k => X (ix3 b t k)) (fun k => N (ix1 k)) (fun k n => W (ix2 k n)) t.val n := by
  have hd : d.val < 128 := d.isLt
  pointwise [val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v25, val_main_v21, val_main_cst_5, val_main_cst_6, val_main_cst_7]
  simp only [v13]
  have ed : n.val % 128 = d.val := by omega
  by_cases h₂ : d.val < 32
  · refine (dif_pos h₂).trans ?_
    by_cases h₁ : d.val < 16
    · refine (dif_pos h₁).trans (Layer.turn_lo (fun i => h X N W b t ⟨5648 + i.val, by omega⟩) t.val n d.val ed h₁ _ _ (Layer.proj_congr _ _ _ ?_) fun i hi => Layer.proj_congr _ _ _ ?_)
      · show 5648 + (g.val * 512 + q.val * 128 + d.val) = 5648 + n.val
        omega
      · show 5648 + (g.val * 512 + q.val * 128 + (16 + d.val)) = 5648 + i.val
        omega
    · refine (dif_neg h₁).trans (Layer.turn_hi (fun i => h X N W b t ⟨5648 + i.val, by omega⟩) t.val n d.val ed h₁ h₂ _ _ (Layer.proj_congr _ _ _ ?_) fun i hi => Layer.proj_congr _ _ _ ?_)
      · show 5648 + (g.val * 512 + q.val * 128 + (16 + (d.val - 16))) = 5648 + n.val
        omega
      · show 5648 + (g.val * 512 + q.val * 128 + (d.val - 16)) = 5648 + i.val
        omega
  · refine (dif_neg h₂).trans (Eq.trans (Layer.proj_congr _ _ _ ?_) (Layer.turn_past (fun i => h X N W b t ⟨5648 + i.val, by omega⟩) t.val n (by omega)))
    show 5648 + (g.val * 512 + q.val * 128 + (32 + (d.val - 32))) = 5648 + n.val
    omega

end Cert.ProjRefIdeal.Value

end
-- ==== Proof.ProjCols.lean ====
module

public import proofs.«01_k».proof.Proof.Gen.ProjRefIdeal.Read
public import proofs.«01_k».proof.Proof.ProjRead
public import Idealize.ShloMosaic.Lib.Pointwise
public import Idealize.ShloMosaic.Lib.Pipeline.ValueKit

@[expose] public section

set_option maxRecDepth 16384

noncomputable section

namespace Cert.ProjRefIdeal.Value

open Cert.ProjRefIdeal Cert.ProjRefIdeal.Gen Cert.ProjRefIdeal.Read Idealize.ShloMosaic Idealize.ShloMosaic.TcCoe Idealize.SL.Sem

variable (X : FVec Ideal S4x4096x2048 .f32) (N : FVec Ideal S2048 .f32) (W : FVec Ideal S2048x12816 .f32)

theorem v121 (b : Fin 4) (t : Fin 4096) (n : Fin 12800) :
    (val_main_v121 (F := Ideal) X N W : FVec Ideal S4x4096x12800 .f32) (ix3 b t n) = Layer.main (fun k => X (ix3 b t k)) (fun k => N (ix1 k)) (fun k n => W (ix2 k n)) n := by
  have hn : n.val < 12800 := n.isLt
  pointwise [val_main_v121, val_main_v14, val_main_v15, val_main_v16, val_main_v17, val_main_v20, val_main_v21, val_main_v22, val_main_v23, val_main_v24]
  simp only [v13]
  have key : ∀ i : Fin 12816, i.val = (if n.val < 4096 then 8720 + n.val else if n.val < 8192 then n.val - 4096 else 4112 + (n.val - 8192)) →
      h X N W b t i = Layer.main (fun k => X (ix3 b t k)) (fun k => N (ix1 k)) (fun k n => W (ix2 k n)) n := fun i hi => Layer.proj_congr _ _ _ hi
  refine dite_cases (fun h₁ => ?_) (fun h₁ => dite_cases (fun h₂ => ?_) (fun h₂ => dite_cases (fun h₃ => ?_) (fun h₃ => dite_cases (fun h₄ => ?_)
    (fun h₄ => dite_cases (fun h₅ => ?_) (fun h₅ => dite_cases (fun h₆ => ?_) (fun h₆ => dite_cases (fun h₇ => ?_) (fun h₇ => dite_cases (fun h₈ => ?_) (fun h₈ => ?_))))))))
  all_goals
    refine key _ ?_
    dsimp only
    split
    · omega
    · split <;> omega

theorem v96 (b : Fin 4) (r : Fin 3) (n : Fin 3072) : (val_main_v96 (F := Ideal) X N W : FVec Ideal S4x3x3072 .f32) (ix3 b r n)
    = Layer.proj (fun k => X (ix3 b ⟨4093 + r.val, by omega⟩ k)) (fun k => N (ix1 k)) (fun k n => W (ix2 k n)) ⟨n.val, by omega⟩ := by
  have hn : n.val < 3072 := n.isLt
  pointwise [val_main_v96, val_main_v95, val_main_v14, val_main_v15, val_main_v16]
  simp only [v13]
  refine dite_cases (fun h₁ => ?_) (fun h₁ => dite_cases (fun h₂ => ?_) (fun h₂ => ?_))
  all_goals
    refine Layer.proj_congr _ _ _ ?_
    first
      | (dsimp only; done)
      | (dsimp only; omega)

end Cert.ProjRefIdeal.Value

end
-- ==== Proof.ProjRes.lean ====
module

public import proofs.«01_k».proof.Proof.Gen.ProjRefIdeal.Read
public import proofs.«01_k».proof.Proof.ProjTurnQ
public import proofs.«01_k».proof.Proof.ProjTurnK
public import proofs.«01_k».proof.Proof.ProjCols
public import Idealize.ShloMosaic.Lib.Pointwise
public import Idealize.ShloMosaic.Lib.Pipeline.ValueKit

@[expose] public section

set_option maxRecDepth 16384

noncomputable section

namespace Cert.ProjRefIdeal.Value

open Cert.ProjRefIdeal Cert.ProjRefIdeal.Gen Cert.ProjRefIdeal.Read Idealize.ShloMosaic Idealize.ShloMosaic.TcCoe Idealize.SL.Sem

variable (X : FVec Ideal S4x4096x2048 .f32) (N : FVec Ideal S2048 .f32) (W : FVec Ideal S2048x12816 .f32)

theorem v122 (r : Fin 16384) (n : Fin 12800) : (val_main_v122 (F := Ideal) X N W : FVec Ideal S16384x12800 .f32) (ix2 r n)
    = Layer.main (fun k => X (ix3 ⟨r.val / 4096, by omega⟩ ⟨r.val % 4096, by omega⟩ k)) (fun k => N (ix1 k)) (fun k n => W (ix2 k n)) n := by
  generalize hR : Layer.main _ _ _ _ = R
  pointwise [val_main_v122]
  rw [← hR]
  exact v121 X N W _ _ n

theorem v123 (r : Fin 16384) (n : Fin 1536) : (val_main_v123 (F := Ideal) X N W : FVec Ideal S16384x1536 .f32) (ix2 r n)
    = Layer.query (fun k => X (ix3 ⟨r.val / 4096, by omega⟩ ⟨r.val % 4096, by omega⟩ k)) (fun k => N (ix1 k)) (fun k n => W (ix2 k n)) (r.val % 4096) n := by
  generalize hR : Layer.query _ _ _ _ _ = R
  pointwise [val_main_v123]
  rw [← hR]
  refine v59 X N W _ _ _ _ _ n ?_
  show n.val = n.val / 512 * 512 + n.val / 128 % 4 * 128 + n.val % 128
  omega

theorem v124 (r : Fin 16384) (n : Fin 1536) : (val_main_v124 (F := Ideal) X N W : FVec Ideal S16384x1536 .f32) (ix2 r n)
    = Layer.key (fun k => X (ix3 ⟨r.val / 4096, by omega⟩ ⟨r.val % 4096, by omega⟩ k)) (fun k => N (ix1 k)) (fun k n => W (ix2 k n)) (r.val % 4096) n := by
  generalize hR : Layer.key _ _ _ _ _ = R
  pointwise [val_main_v124]
  rw [← hR]
  refine v93 X N W _ _ _ _ _ n ?_
  show n.val = n.val / 512 * 512 + n.val / 128 % 4 * 128 + n.val % 128
  omega

theorem i101 (b : Fin 4) (t : Fin 4096) (z : Fin 1) (q : Fin 4) (d : Fin 128) : idx_main_v101 (ix5 b t z q d) = ix4 b t q d := by
  funext a
  match a with
  | ⟨0, _⟩ => rfl
  | ⟨1, _⟩ => rfl
  | ⟨2, _⟩ => rfl
  | ⟨3, _⟩ => rfl

theorem v101 (b : Fin 4) (t : Fin 4096) (z : Fin 1) (q : Fin 4) (d : Fin 128) :
    val_main_v101 (F := Ideal) X N W (ix5 b t z q d) = val_main_v98 (F := Ideal) X N W (ix4 b t q d) := by
  rw [val_main_v101_apply, i101]

theorem i102 (b : Fin 4) (t : Fin 4096) (z : Fin 1) (q : Fin 4) (d : Fin 128) : idx_main_v102 (ix5 b t z q d) = ix4 b t q d := by
  funext a
  match a with
  | ⟨0, _⟩ => rfl
  | ⟨1, _⟩ => rfl
  | ⟨2, _⟩ => rfl
  | ⟨3, _⟩ => rfl

theorem v102 (b : Fin 4) (t : Fin 4096) (z : Fin 1) (q : Fin 4) (d : Fin 128) :
    val_main_v102 (F := Ideal) X N W (ix5 b t z q d) = val_main_v100 (F := Ideal) X N W (ix4 b t q d) := by
  rw [val_main_v102_apply, i102]

theorem v104 (b : Fin 4) (r : Fin 128) (z : Fin 2) (q : Fin 4) (d : Fin 128) : (val_main_v104 (F := Ideal) X N W : FVec Ideal S4x128x2x4x128 .f32) (ix5 b r z q d)
    = Layer.cache (fun k => X (ix3 b ⟨3968 + r.val, by omega⟩ k)) (fun k => N (ix1 k)) (fun k n => W (ix2 k n)) (3968 + r.val) 0 z ⟨q.val * 128 + d.val, by omega⟩ := by
  generalize hR : Layer.cache _ _ _ _ _ _ _ = R
  pointwise [val_main_v104, val_main_v103]
  subst hR
  unfold Layer.cache
  by_cases hz : z.val < 1
  · refine (dif_pos hz).trans ?_
    rw [if_pos hz, v101]
    generalize hR : Layer.key _ _ _ _ _ = R
    pointwise [val_main_v98, val_main_v97]
    subst hR
    refine v93 X N W _ _ _ _ _ _ ?_
    show 0 * 512 + (q.val * 128 + d.val) = 0 * 512 + q.val * 128 + d.val
    omega
  · refine (dif_neg hz).trans ?_
    rw [if_neg hz, v102]
    generalize hR : Layer.value _ _ _ _ = R
    pointwise [val_main_v100, val_main_v99]
    subst hR
    refine v94 X N W _ _ _ _ _ _ ?_
    show 0 * 512 + (q.val * 128 + d.val) = 0 * 512 + q.val * 128 + d.val
    omega

theorem i109 (b : Fin 4) (t : Fin 4096) (z : Fin 1) (q : Fin 4) (d : Fin 128) : idx_main_v109 (ix5 b t z q d) = ix4 b t q d := by
  funext a
  match a with
  | ⟨0, _⟩ => rfl
  | ⟨1, _⟩ => rfl
  | ⟨2, _⟩ => rfl
  | ⟨3, _⟩ => rfl

theorem v109 (b : Fin 4) (t : Fin 4096) (z : Fin 1) (q : Fin 4) (d : Fin 128) :
    val_main_v109 (F := Ideal) X N W (ix5 b t z q d) = val_main_v106 (F := Ideal) X N W (ix4 b t q d) := by
  rw [val_main_v109_apply, i109]

theorem i110 (b : Fin 4) (t : Fin 4096) (z : Fin 1) (q : Fin 4) (d : Fin 128) : idx_main_v110 (ix5 b t z q d) = ix4 b t q d := by
  funext a
  match a with
  | ⟨0, _⟩ => rfl
  | ⟨1, _⟩ => rfl
  | ⟨2, _⟩ => rfl
  | ⟨3, _⟩ => rfl

theorem v110 (b : Fin 4) (t : Fin 4096) (z : Fin 1) (q : Fin 4) (d : Fin 128) :
    val_main_v110 (F := Ideal) X N W (ix5 b t z q d) = val_main_v108 (F := Ideal) X N W (ix4 b t q d) := by
  rw [val_main_v110_apply, i110]

theorem v112 (b : Fin 4) (r : Fin 512) (z : Fin 2) (q : Fin 4) (d : Fin 128) : (val_main_v112 (F := Ideal) X N W : FVec Ideal S4x512x2x4x128 .f32) (ix5 b r z q d)
    = Layer.cache (fun k => X (ix3 b ⟨3584 + r.val, by omega⟩ k)) (fun k => N (ix1 k)) (fun k n => W (ix2 k n)) (3584 + r.val) 1 z ⟨q.val * 128 + d.val, by omega⟩ := by
  generalize hR : Layer.cache _ _ _ _ _ _ _ = R
  pointwise [val_main_v112, val_main_v111]
  subst hR
  unfold Layer.cache
  by_cases hz : z.val < 1
  · refine (dif_pos hz).trans ?_
    rw [if_pos hz, v109]
    generalize hR : Layer.key _ _ _ _ _ = R
    pointwise [val_main_v106, val_main_v105]
    subst hR
    refine v93 X N W _ _ _ _ _ _ ?_
    show 1 * 512 + (q.val * 128 + d.val) = 1 * 512 + q.val * 128 + d.val
    omega
  · refine (dif_neg hz).trans ?_
    rw [if_neg hz, v110]
    generalize hR : Layer.value _ _ _ _ = R
    pointwise [val_main_v108, val_main_v107]
    subst hR
    refine v94 X N W _ _ _ _ _ _ ?_
    show 1 * 512 + (q.val * 128 + d.val) = 1 * 512 + q.val * 128 + d.val
    omega

theorem i117 (b : Fin 4) (t : Fin 4096) (z : Fin 1) (q : Fin 4) (d : Fin 128) : idx_main_v117 (ix5 b t z q d) = ix4 b t q d := by
  funext a
  match a with
  | ⟨0, _⟩ => rfl
  | ⟨1, _⟩ => rfl
  | ⟨2, _⟩ => rfl
  | ⟨3, _⟩ => rfl

theorem v117 (b : Fin 4) (t : Fin 4096) (z : Fin 1) (q : Fin 4) (d : Fin 128) :
    val_main_v117 (F := Ideal) X N W (ix5 b t z q d) = val_main_v114 (F := Ideal) X N W (ix4 b t q d) := by
  rw [val_main_v117_apply, i117]

theorem i118 (b : Fin 4) (t : Fin 4096) (z : Fin 1) (q : Fin 4) (d : Fin 128) : idx_main_v118 (ix5 b t z q d) = ix4 b t q d := by
  funext a
  match a with
  | ⟨0, _⟩ => rfl
  | ⟨1, _⟩ => rfl
  | ⟨2, _⟩ => rfl
  | ⟨3, _⟩ => rfl

theorem v118 (b : Fin 4) (t : Fin 4096) (z : Fin 1) (q : Fin 4) (d : Fin 128) :
    val_main_v118 (F := Ideal) X N W (ix5 b t z q d) = val_main_v116 (F := Ideal) X N W (ix4 b t q d) := by
  rw [val_main_v118_apply, i118]

theorem v120 (b : Fin 4) (r : Fin 2048) (z : Fin 2) (q : Fin 4) (d : Fin 128) : (val_main_v120 (F := Ideal) X N W : FVec Ideal S4x2048x2x4x128 .f32) (ix5 b r z q d)
    = Layer.cache (fun k => X (ix3 b ⟨2048 + r.val, by omega⟩ k)) (fun k => N (ix1 k)) (fun k n => W (ix2 k n)) (2048 + r.val) 2 z ⟨q.val * 128 + d.val, by omega⟩ := by
  generalize hR : Layer.cache _ _ _ _ _ _ _ = R
  pointwise [val_main_v120, val_main_v119]
  subst hR
  unfold Layer.cache
  by_cases hz : z.val < 1
  · refine (dif_pos hz).trans ?_
    rw [if_pos hz, v117]
    generalize hR : Layer.key _ _ _ _ _ = R
    pointwise [val_main_v114, val_main_v113]
    subst hR
    refine v93 X N W _ _ _ _ _ _ ?_
    show 2 * 512 + (q.val * 128 + d.val) = 2 * 512 + q.val * 128 + d.val
    omega
  · refine (dif_neg hz).trans ?_
    rw [if_neg hz, v118]
    generalize hR : Layer.value _ _ _ _ = R
    pointwise [val_main_v116, val_main_v115]
    subst hR
    refine v94 X N W _ _ _ _ _ _ ?_
    show 2 * 512 + (q.val * 128 + d.val) = 2 * 512 + q.val * 128 + d.val
    omega

end Cert.ProjRefIdeal.Value

end
-- ==== Proof.Claims3.lean ====
/- The claims about the projection of the prompt. -/
module

public import proofs.«01_k».proof.Defs
public import proofs.«01_k».proof.Proof.Gen.Proj.Frame
public import proofs.«01_k».proof.Proof.Gen.ProjIdeal.Frame
public import proofs.«01_k».proof.Proof.Gen.ProjRefIdeal.Run
public import proofs.«01_k».proof.Proof.ProjEnds
public import proofs.«01_k».proof.Proof.ProjCache
public import proofs.«01_k».proof.Proof.ProjRes
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The projection of the prompt runs, leaves its arguments as they were and every semaphore at zero. -/
theorem quiescent_Proj : Cert.quiescent_Proj := fun m g _ => Cert.Proj.Gen.frame m g

/-- So does its idealization. -/
theorem quiescent_ProjIdeal : Cert.quiescent_ProjIdeal := fun m g _ => Cert.ProjIdeal.Gen.frame m g

/-- So does the reference. -/
theorem quiescent_ProjRefIdeal : Cert.quiescent_ProjRefIdeal := fun m g _ =>
  (θ_run Cert.ProjRefIdeal.defs _ _).mono
    (fun r h => ⟨fun c => (h c).2.2.2.2.2.2.2, Idealize.ShloMosaic.sem_eq_zero_of_no_sems (by decide) r.2⟩)
    (Cert.ProjRefIdeal.Value.run m g)

/-- The idealization changes no operation. -/
theorem preserves_Proj : Cert.preserves_Proj_ProjIdeal := trivial

section Values

open Cert.ProjIdeal Cert.ProjIdeal.Gen Cert.ProjIdeal.Tail

variable (m' : (ℓ : Loc Cert.ProjRefIdeal.nD Cert.ProjRefIdeal.τ Cert.ProjRefIdeal.sig) → Buf (Elt Ideal) ℓ)
  (m : (ℓ : Loc Cert.ProjIdeal.nD Cert.ProjIdeal.τ Cert.ProjIdeal.sig) → Buf (Elt Ideal) ℓ) (ρ : Dev Cert.ProjIdeal.nD → PrngReg) (c : Dev Cert.ProjIdeal.nD)
  (h₀ : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
  (h₁ : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
  (h₂ : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))

include h₀ h₁ h₂

/-- The reference's columns are the chain's. -/
theorem columns_Proj : Cert.ProjRefIdeal.Value.res_main_v122 m' c = W7 m ρ c (Proc.devRef .tc Cert.ProjIdeal.main_v8) := by
  refine (Cert.ProjRefIdeal.Read.val_main_v122_eq m' c).trans ?_
  rw [h₀, h₁, h₂]
  funext j
  obtain ⟨r, n, rfl⟩ : ∃ (r : Fin 16384) (n : Fin 12800), j = ix2 r n := ⟨j 0, j 1, by blk_ext⟩
  refine (Cert.ProjRefIdeal.Value.v122 _ _ _ r n).trans ?_
  exact ((congrFun ((W7_of m ρ c main_v8 (by decide)).trans (main_last m ρ c)) (ix2 r n)).trans rfl).symm

/-- The reference's queries are the chain's. -/
theorem queries_Proj : Cert.ProjRefIdeal.Value.res_main_v123 m' c = W7 m ρ c (Proc.devRef .tc Cert.ProjIdeal.main_v31_0) := by
  refine (Cert.ProjRefIdeal.Read.val_main_v123_eq m' c).trans ?_
  rw [h₀, h₁, h₂]
  funext j
  obtain ⟨r, n, rfl⟩ : ∃ (r : Fin 16384) (n : Fin 1536), j = ix2 r n := ⟨j 0, j 1, by blk_ext⟩
  refine (Cert.ProjRefIdeal.Value.v123 _ _ _ r n).trans ?_
  exact ((congrFun ((W7_of m ρ c main_v31_0 (by decide)).trans (query_last m ρ c)) (ix2 r n)).trans rfl).symm

/-- The reference's keys are the chain's. -/
theorem keys_Proj : Cert.ProjRefIdeal.Value.res_main_v124 m' c = W7 m ρ c (Proc.devRef .tc Cert.ProjIdeal.main_v31_1) := by
  refine (Cert.ProjRefIdeal.Read.val_main_v124_eq m' c).trans ?_
  rw [h₀, h₁, h₂]
  funext j
  obtain ⟨r, n, rfl⟩ : ∃ (r : Fin 16384) (n : Fin 1536), j = ix2 r n := ⟨j 0, j 1, by blk_ext⟩
  refine (Cert.ProjRefIdeal.Value.v124 _ _ _ r n).trans ?_
  exact ((congrFun ((W7_of m ρ c main_v31_1 (by decide)).trans (key_last m ρ c)) (ix2 r n)).trans rfl).symm

/-- The reference's conv are the chain's. -/
theorem conv_Proj : Cert.ProjRefIdeal.Read.val_main_v96 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) = W7 m ρ c (Proc.devRef .tc Cert.ProjIdeal.main_v34) := by
  rw [h₀, h₁, h₂]
  funext j
  obtain ⟨b, r, n, rfl⟩ : ∃ (b : Fin 4) (r : Fin 3) (n : Fin 3072), j = ix3 b r n := ⟨j 0, j 1, j 2, by blk_ext⟩
  refine (Cert.ProjRefIdeal.Value.v96 _ _ _ b r n).trans ?_
  exact (conv_end m ρ c b r n).symm

/-- The reference's cache0 are the chain's. -/
theorem cache0_Proj : Cert.ProjRefIdeal.Value.res_main_v104 m' c = W7 m ρ c (Proc.devRef .tc Cert.ProjIdeal.main_v41) := by
  refine (Cert.ProjRefIdeal.Read.val_main_v104_eq m' c).trans ?_
  rw [h₀, h₁, h₂]
  funext j
  obtain ⟨b, r, z, q, d, rfl⟩ : ∃ (b : Fin 4) (r : Fin 128) (z : Fin 2) (q : Fin 4) (d : Fin 128), j = ix5 b r z q d := ⟨j 0, j 1, j 2, j 3, j 4, by blk_ext⟩
  refine (Cert.ProjRefIdeal.Value.v104 _ _ _ b r z q d).trans ?_
  exact (cache0_end m ρ c b r z q d).symm

/-- The reference's cache1 are the chain's. -/
theorem cache1_Proj : Cert.ProjRefIdeal.Value.res_main_v112 m' c = W7 m ρ c (Proc.devRef .tc Cert.ProjIdeal.main_v48) := by
  refine (Cert.ProjRefIdeal.Read.val_main_v112_eq m' c).trans ?_
  rw [h₀, h₁, h₂]
  funext j
  obtain ⟨b, r, z, q, d, rfl⟩ : ∃ (b : Fin 4) (r : Fin 512) (z : Fin 2) (q : Fin 4) (d : Fin 128), j = ix5 b r z q d := ⟨j 0, j 1, j 2, j 3, j 4, by blk_ext⟩
  refine (Cert.ProjRefIdeal.Value.v112 _ _ _ b r z q d).trans ?_
  exact (cache1_end m ρ c b r z q d).symm

/-- The reference's cache2 are the chain's. -/
theorem cache2_Proj : Cert.ProjRefIdeal.Value.res_main_v120 m' c = W7 m ρ c (Proc.devRef .tc Cert.ProjIdeal.main_v55) := by
  refine (Cert.ProjRefIdeal.Read.val_main_v120_eq m' c).trans ?_
  rw [h₀, h₁, h₂]
  funext j
  obtain ⟨b, r, z, q, d, rfl⟩ : ∃ (b : Fin 4) (r : Fin 2048) (z : Fin 2) (q : Fin 4) (d : Fin 128), j = ix5 b r z q d := ⟨j 0, j 1, j 2, j 3, j 4, by blk_ext⟩
  refine (Cert.ProjRefIdeal.Value.v120 _ _ _ b r z q d).trans ?_
  exact (cache2_end m ρ c b r z q d).symm

end Values

/-- Over the extended reals the chain's seven arrays are the reference's. -/
theorem algebraic_Proj : Cert.algebraic_ProjIdeal_ProjRefIdeal := by
  intro m g m' g' _ hagree
  refine ⟨fun c => Cert.ProjIdeal.Gen.W7 m g c (Proc.devRef .tc Cert.ProjIdeal.main_v8), fun c => Cert.ProjIdeal.Gen.W7 m g c (Proc.devRef .tc Cert.ProjIdeal.main_v31_0), fun c => Cert.ProjIdeal.Gen.W7 m g c (Proc.devRef .tc Cert.ProjIdeal.main_v31_1), fun c => Cert.ProjIdeal.Gen.W7 m g c (Proc.devRef .tc Cert.ProjIdeal.main_v34), fun c => Cert.ProjIdeal.Gen.W7 m g c (Proc.devRef .tc Cert.ProjIdeal.main_v41), fun c => Cert.ProjIdeal.Gen.W7 m g c (Proc.devRef .tc Cert.ProjIdeal.main_v48), fun c => Cert.ProjIdeal.Gen.W7 m g c (Proc.devRef .tc Cert.ProjIdeal.main_v55), ?_, ?_⟩
  · refine (θ_run Cert.ProjIdeal.defs _ _).mono (fun r h c => ⟨h c _ (Cert.ProjIdeal.Gen.mem_uc Cert.ProjIdeal.main_v8 (by decide)), h c _ (Cert.ProjIdeal.Gen.mem_uc Cert.ProjIdeal.main_v31_0 (by decide)), h c _ (Cert.ProjIdeal.Gen.mem_uc Cert.ProjIdeal.main_v31_1 (by decide)), h c _ (Cert.ProjIdeal.Gen.mem_uc Cert.ProjIdeal.main_v34 (by decide)), h c _ (Cert.ProjIdeal.Gen.mem_uc Cert.ProjIdeal.main_v41 (by decide)), h c _ (Cert.ProjIdeal.Gen.mem_uc Cert.ProjIdeal.main_v48 (by decide)), h c _ (Cert.ProjIdeal.Gen.mem_uc Cert.ProjIdeal.main_v55 (by decide)),
      (h c _ (Cert.ProjIdeal.Gen.mem_uc Cert.ProjIdeal.main_arg0 (by decide))).trans (Cert.ProjIdeal.Gen.W7_main_arg0 m g c),
      (h c _ (Cert.ProjIdeal.Gen.mem_uc Cert.ProjIdeal.main_arg1 (by decide))).trans (Cert.ProjIdeal.Gen.W7_main_arg1 m g c),
      (h c _ (Cert.ProjIdeal.Gen.mem_uc Cert.ProjIdeal.main_arg2 (by decide))).trans (Cert.ProjIdeal.Gen.W7_main_arg2 m g c)⟩) (Cert.ProjIdeal.Ends.ends m g)
  · refine (θ_run Cert.ProjRefIdeal.defs _ _).mono (fun r h c => ?_) (Cert.ProjRefIdeal.Value.run m' g')
    obtain ⟨e₀, e₁, e₂⟩ := hagree c
    obtain ⟨f₀, f₁, f₂, f₃, f₄, f₅, f₆, f₇⟩ := h c
    exact ⟨f₀.trans (columns_Proj m' m g c e₀ e₁ e₂), f₁.trans (queries_Proj m' m g c e₀ e₁ e₂), f₂.trans (keys_Proj m' m g c e₀ e₁ e₂), f₃.trans ((Cert.ProjRefIdeal.Read.val_main_v96_eq _ _ _).trans (conv_Proj m' m g c e₀ e₁ e₂)), f₄.trans (cache0_Proj m' m g c e₀ e₁ e₂), f₅.trans (cache1_Proj m' m g c e₀ e₁ e₂), f₆.trans (cache2_Proj m' m g c e₀ e₁ e₂), f₇⟩

end Cert.Proof

end
-- ==== Proof.PeerBlocks.lean ====
/- What the query projection of the expert lookup leaves in its array. -/
module

public import proofs.«01_k».proof.Proof.Gen.PeerIdeal.Frame
public import proofs.«01_k».proof.Proof.Gen.PeerIdeal.Value
public import Idealize.ShloMosaic.Lib.Pipeline.ValueKit
public import Idealize.ShloMosaic.Lib.Claim

@[expose] public section

set_option maxRecDepth 16384

noncomputable section

namespace Cert.PeerIdeal.Blocks

open Cert.PeerIdeal Cert.PeerIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    win0_0.index t = ![(grid0.coords t 1).val, 0] ∧ win0_1.index t = ![0, (grid0.coords t 0).val]
    ∧ win0_2.index t = ![(grid0.coords t 1).val, (grid0.coords t 0).val] :=
  (by decide +kernel : ∀ t : Fin grid0.N, _)

/-- The tokens' queries: every token against every column of the weights. -/
def QUERY (a : FVec Ideal S16384x2048 .f32) (b : FVec Ideal S2048x2048 .f32) : FVec Ideal S16384x2048 .f32 :=
  fun j => ∑ k : Fin 2048, a (ix2 (j 0) k) * b (ix2 k (j 1))

/-- The weights as the region is entered: the argument, its rounding being the identity on values. -/
theorem weights (c : Dev nD) (i : S2048x2048.Idx) :
    (V m c main_v0 : FVec Ideal S2048x2048 .bf16) i = (m ((c : Thread nD τ).loc main_arg1) : FVec Ideal S2048x2048 .f32) i := by
  entry_read
  rfl

/-- The product over the arrays the region is entered with. -/
def PROD (a : FVec Ideal S16384x2048 .f32) (b : FVec Ideal S2048x2048 .bf16) : FVec Ideal S16384x2048 .f32 :=
  fun j => ∑ k : Fin 2048, a (ix2 (j 0) k) * b (ix2 k (j 1))

theorem final (c : Dev nD) : (dats m 0 c).arrAt 2 (cfgs 0).N = PROD (V m c main_arg0) (V m c main_v0) := by
  refine (dats m 0 c).arrAt_eq_of_covers 2 _ (by decide +kernel) fun t _ y => ?_
  blk_simp
  rw [after0_2]
  frame_out
  pointwise [k0_pay1, PROD]
  blk_point [iblk, idx t]

/-- The product after the run. -/
theorem final2 (c : Dev nD) : (dats m 0 c).arrAt 2 (cfgs 0).N
    = QUERY (m ((c : Thread nD τ).loc main_arg0)) (m ((c : Thread nD τ).loc main_arg1)) := by
  refine (final m c).trans (funext fun j => ?_)
  unfold PROD QUERY
  refine Finset.sum_congr rfl fun k _ => ?_
  rw [weights m c, V_main_arg0 m c]

end Cert.PeerIdeal.Blocks

end
-- ==== Proof.Claims4.lean ====
/- The claims about the query projection of the expert lookup. -/
module

public import proofs.«01_k».proof.Defs
public import proofs.«01_k».proof.Proof.Gen.Peer.Frame
public import proofs.«01_k».proof.Proof.Gen.PeerIdeal.Frame
public import proofs.«01_k».proof.Proof.Gen.PeerRefIdeal.Run
public import proofs.«01_k».proof.Proof.Gen.PeerRefIdeal.Read
public import proofs.«01_k».proof.Proof.PeerBlocks
public import Idealize.ShloMosaic.Lib.Claim
public import Idealize.ShloMosaic.Lib.Quiescent

@[expose] public section

set_option maxRecDepth 16384

noncomputable section

namespace Cert.Proof

open Idealize.ShloMosaic Idealize.SL.Sem

/-- The query projection runs, leaves its arguments as they were and every semaphore at zero. -/
theorem quiescent_Peer : Cert.quiescent_Peer := fun m g _ => Cert.Peer.Gen.frame m g

/-- So does its idealization. -/
theorem quiescent_PeerIdeal : Cert.quiescent_PeerIdeal := fun m g _ => Cert.PeerIdeal.Gen.frame m g

/-- So does the reference. -/
theorem quiescent_PeerRefIdeal : Cert.quiescent_PeerRefIdeal := fun m g _ =>
  (θ_run Cert.PeerRefIdeal.defs _ _).mono
    (fun r h => ⟨fun c => (h c).2, Idealize.ShloMosaic.sem_eq_zero_of_no_sems (by decide) r.2⟩)
    (Cert.PeerRefIdeal.Value.run m g)

/-- No operation is named by a rule here. -/
theorem preserves_Peer : Cert.preserves_Peer_PeerIdeal := trivial

/-- The reference's product, entry by entry. -/
theorem query_eq (x : FVec Ideal Cert.PeerRefIdeal.S16384x2048 .f32) (w : FVec Ideal Cert.PeerRefIdeal.S2048x2048 .f32) :
    Cert.PeerRefIdeal.Read.val_main_v0 (F := Ideal) x w = Cert.PeerIdeal.Blocks.QUERY x w := by
  funext i
  refine (Cert.PeerRefIdeal.Read.val_main_v0_apply x w i).trans ?_
  unfold Cert.PeerIdeal.Blocks.QUERY
  refine Finset.sum_congr rfl fun k _ => ?_
  congr 2
  · exact funext fun a => by fin_cases a <;> rfl
  · exact funext fun a => by fin_cases a <;> rfl

/-- Over the extended reals the call's array is the reference's. -/
theorem algebraic_Peer : Cert.algebraic_PeerIdeal_PeerRefIdeal := by
  pair_intro
  · run_from Cert.PeerIdeal.Gen.run_main m g
  · refine (θ_run Cert.PeerRefIdeal.defs _ _).mono (fun r h c => ⟨(h c).1.trans ?_, (h c).2⟩) (Cert.PeerRefIdeal.Value.run m' g')
    rw [(hagree c).1, (hagree c).2]
    refine ((Cert.PeerRefIdeal.Read.val_main_v0_eq _ _).trans (query_eq _ _)).trans ?_
    exact (Cert.PeerIdeal.Blocks.final2 m c).symm

end Cert.Proof

end
-- ==== Proof.Merge.lean ====
/- Mixing a token's branches written once, over plain numbers: the three groups' outputs weighed by the exponentials of their
   logarithms, the two gates, and the output projection added to the token. -/
module

public import Idealize.ShloMosaic.PureOps.Ideal.Laws
public import Idealize.ShloMosaic.Lib.ValueIdx

@[expose] public section

noncomputable section

namespace Cert.Merge

open Idealize.ShloMosaic

/-- The greatest of three logarithms. -/
def top (a b c : EReal) : EReal := max (max a b) c

/-- The sum of the three exponentials over the greatest. -/
def total (a b c : EReal) : EReal := Ideal.exp (a - top a b c) + Ideal.exp (b - top a b c) + Ideal.exp (c - top a b c)

/-- Three outputs weighed by the exponentials, divided once at the end. -/
def once (a b c x y z : EReal) : EReal :=
  Ideal.div (Ideal.exp (a - top a b c) * x + Ideal.exp (b - top a b c) * y + Ideal.exp (c - top a b c) * z) (total a b c)

/-- Three outputs weighed by the quotients. -/
def each (a b c x y z : EReal) : EReal :=
  Ideal.div (Ideal.exp (a - top a b c)) (total a b c) * x + Ideal.div (Ideal.exp (b - top a b c)) (total a b c) * y
    + Ideal.div (Ideal.exp (c - top a b c)) (total a b c) * z

/-- A logarithm that is a number. -/
def Finite (a : EReal) : Prop := a < ⊤ ∧ ⊥ < a

/-- The exponential of a number less a number is a positive number. -/
theorem exp_sub_real (a b : ℝ) : ∃ e : ℝ, 0 < e ∧ Ideal.exp ((a : EReal) - (b : EReal)) = (e : EReal) :=
  ⟨Real.exp (a - b), Real.exp_pos _, by rw [← EReal.coe_sub]; rfl⟩

/-- The greatest of three numbers is a number. -/
theorem top_real (a b c : ℝ) : ∃ t : ℝ, top (a : EReal) (b : EReal) (c : EReal) = (t : EReal) := by
  refine ⟨max (max a b) c, ?_⟩
  unfold top
  rw [show ((max (max a b) c : ℝ) : EReal) = max ((max a b : ℝ) : EReal) (c : EReal) from EReal.coe_strictMono.monotone.map_max,
    show ((max a b : ℝ) : EReal) = max (a : EReal) (b : EReal) from EReal.coe_strictMono.monotone.map_max]

/-- Where the three logarithms are numbers, dividing once is dividing every weight, whatever the outputs are. -/
theorem once_eq_each (a b c x y z : EReal) (ha : Finite a) (hb : Finite b) (hc : Finite c) : once a b c x y z = each a b c x y z := by
  lift a to ℝ using ⟨ha.1.ne, ha.2.ne'⟩
  lift b to ℝ using ⟨hb.1.ne, hb.2.ne'⟩
  lift c to ℝ using ⟨hc.1.ne, hc.2.ne'⟩
  obtain ⟨t, ht⟩ := top_real a b c
  obtain ⟨p, hp, ep⟩ := exp_sub_real a t
  obtain ⟨q, hq, eq⟩ := exp_sub_real b t
  obtain ⟨r, hr, er⟩ := exp_sub_real c t
  unfold once each total
  rw [ht, ep, eq, er, ← EReal.coe_add, ← EReal.coe_add]
  have hs : 0 < p + q + r := by positivity
  have hne : ((p + q + r : ℝ) : EReal) ≠ 0 := by exact_mod_cast hs.ne'
  unfold Ideal.div
  simp only [if_neg hne]
  rw [← EReal.coe_inv]
  have h0 : (0 : EReal) ≤ (((p + q + r)⁻¹ : ℝ) : EReal) := by exact_mod_cast (inv_pos.2 hs).le
  rw [EReal.right_distrib_of_nonneg_of_ne_top h0 (EReal.coe_ne_top _), EReal.right_distrib_of_nonneg_of_ne_top h0 (EReal.coe_ne_top _),
    mul_right_comm, mul_right_comm _ y, mul_right_comm _ z]

/-- A gate. -/
def gate (g : EReal) : EReal := Ideal.div 1 (1 + Ideal.exp (0 - g))

/-- A token's gated branches, both projected. -/
def merged (oa : Fin 1024 → EReal) (ob : Fin 512 → EReal) (ga gb : Fin 2048 → EReal) (wa : Fin 1024 → Fin 2048 → EReal)
    (wb : Fin 512 → Fin 2048 → EReal) (k : Fin 2048) : EReal :=
  gate (ga k) * (∑ i : Fin 1024, oa i * wa i k) + gate (gb k) * (∑ i : Fin 512, ob i * wb i k)

/-- The token with its merged branches projected and added. -/
def out (oa : Fin 1024 → EReal) (ob : Fin 512 → EReal) (ga gb x : Fin 2048 → EReal) (wa : Fin 1024 → Fin 2048 → EReal)
    (wb : Fin 512 → Fin 2048 → EReal) (wo : Fin 2048 → Fin 2048 → EReal) (n : Fin 2048) : EReal :=
  x n + ∑ k : Fin 2048, merged oa ob ga gb wa wb k * wo k n

/-- Equal parts give equal tokens. -/
theorem out_congr {oa oa' : Fin 1024 → EReal} {ob ob' : Fin 512 → EReal} {ga ga' gb gb' x x' : Fin 2048 → EReal} {wa wa' : Fin 1024 → Fin 2048 → EReal}
    {wb wb' : Fin 512 → Fin 2048 → EReal} {wo wo' : Fin 2048 → Fin 2048 → EReal} {n n' : Fin 2048}
    (h₁ : ∀ i, oa i = oa' i) (h₂ : ∀ i, ob i = ob' i) (h₃ : ∀ i, ga i = ga' i) (h₄ : ∀ i, gb i = gb' i) (h₅ : ∀ i, x i = x' i)
    (h₆ : ∀ i k, wa i k = wa' i k) (h₇ : ∀ i k, wb i k = wb' i k) (h₈ : ∀ i k, wo i k = wo' i k) (h₉ : n = n') :
    out oa ob ga gb x wa wb wo n = out oa' ob' ga' gb' x' wa' wb' wo' n' := by
  rw [show oa = oa' from funext h₁, show ob = ob' from funext h₂, show ga = ga' from funext h₃, show gb = gb' from funext h₄,
    show x = x' from funext h₅, show wa = wa' from funext fun i => funext (h₆ i), show wb = wb' from funext fun i => funext (h₇ i),
    show wo = wo' from funext fun i => funext (h₈ i), h₉]

end Cert.Merge

end
-- ==== Proof.MixBlocks.lean ====
/- What the mixing call leaves in its two arrays. -/
module

public import proofs.«01_k».proof.Proof.Gen.MixIdeal.Frame
public import proofs.«01_k».proof.Proof.Layer
public import proofs.«01_k».proof.Proof.Merge
public import Idealize.ShloMosaic.Lib.Pipeline.ValueKit
public import Idealize.ShloMosaic.Lib.Claim

@[expose] public section

set_option maxRecDepth 16384

noncomputable section

namespace Cert.MixIdeal.Blocks

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    win0_0.index t = ![(grid0.coords t 0).val, 0] ∧ win0_1.index t = ![(grid0.coords t 0).val, 0] ∧ win0_2.index t = ![(grid0.coords t 0).val, 0]
    ∧ win0_3.index t = ![(grid0.coords t 0).val, 0] ∧ win0_4.index t = ![(grid0.coords t 0).val, 0] ∧ win0_5.index t = ![(grid0.coords t 0).val, 0]
    ∧ win0_6.index t = ![(grid0.coords t 0).val, 0] ∧ win0_7.index t = ![(grid0.coords t 0).val, 0] ∧ win0_8.index t = ![(grid0.coords t 0).val, 1]
    ∧ win0_9.index t = ![(grid0.coords t 0).val, 0] ∧ win0_10.index t = ![0, 0] ∧ win0_11.index t = ![0, 0] ∧ win0_12.index t = ![0, 0]
    ∧ win0_13.index t = ![0, 0] ∧ win0_14.index t = ![(grid0.coords t 0).val, 0] ∧ win0_15.index t = ![(grid0.coords t 0).val, 0] :=
  (by decide +kernel : ∀ t : Fin grid0.N, _)

/-- A block's combined outputs against the second branch's weights. -/
theorem pay2 (a b c x y z : FVec Ideal S256x512 .f32) (w : FVec Ideal S512x2048 .bf16) (r : Fin 256) (l : Fin 2048) :
    (k0_pay2 (F := Ideal) a b c x y z w : FVec Ideal S256x2048 .f32) (ix2 r l)
      = ∑ i : Fin 512, Merge.once (a (ix2 r i)) (b (ix2 r i)) (c (ix2 r i)) (x (ix2 r i)) (y (ix2 r i)) (z (ix2 r i)) * w (ix2 i l) := by
  pointwise [k0_pay2, Merge.once, Merge.total, Merge.top]

/-- A block's first branch against its weights. -/
theorem pay1 (a : FVec Ideal S256x1024 .f32) (w : FVec Ideal S1024x2048 .bf16) (r : Fin 256) (l : Fin 2048) :
    (k0_pay1 (F := Ideal) a w : FVec Ideal S256x2048 .f32) (ix2 r l) = ∑ i : Fin 1024, a (ix2 r i) * w (ix2 i l) := by
  pointwise [k0_pay1]

/-- The block of tokens a point adds the merged branches to. -/
abbrev tile (oa : FVec Ideal S256x1024 .f32) (x1 x2 x3 x4 x5 x6 : FVec Ideal S256x512 .f32) (ga gb x : FVec Ideal S256x2048 .f32)
    (wa : FVec Ideal S1024x2048 .bf16) (wb : FVec Ideal S512x2048 .bf16) (wo : FVec Ideal S2048x2048 .bf16) : FVec Ideal S256x2048 .f32 :=
  k0_pay4 (F := Ideal) (k0_pay1 (F := Ideal) oa wa) (k0_pay2 (F := Ideal) x2 x4 x6 x1 x3 x5 wb) (k0_pay3 (F := Ideal) ga)
    (FloatOps.ofBits .f32 1065353216#32) gb x wo

/-- The same block normalized. -/
abbrev ntile (oa : FVec Ideal S256x1024 .f32) (x1 x2 x3 x4 x5 x6 : FVec Ideal S256x512 .f32) (ga gb x : FVec Ideal S256x2048 .f32)
    (wa : FVec Ideal S1024x2048 .bf16) (wb : FVec Ideal S512x2048 .bf16) (wo : FVec Ideal S2048x2048 .bf16) (nf : FVec Ideal S1x2048 .f32) :
    FVec Ideal S256x2048 .f32 :=
  k0_pay5 (F := Ideal) (k0_pay1 (F := Ideal) oa wa) (k0_pay2 (F := Ideal) x2 x4 x6 x1 x3 x5 wb) (k0_pay3 (F := Ideal) ga)
    (FloatOps.ofBits .f32 1065353216#32) gb x wo nf

theorem pay4 (A B g h x : FVec Ideal S256x2048 .f32) (w : FVec Ideal S2048x2048 .bf16) (r : Fin 256) (l : Fin 2048) :
    (k0_pay4 (F := Ideal) A B (k0_pay3 (F := Ideal) g) (FloatOps.ofBits .f32 1065353216#32) h x w : FVec Ideal S256x2048 .f32) (ix2 r l)
      = x (ix2 r l) + ∑ k : Fin 2048, (Merge.gate (g (ix2 r k)) * A (ix2 r k) + Merge.gate (h (ix2 r k)) * B (ix2 r k)) * w (ix2 k l) := by
  pointwise [k0_pay4, k0_pay3, Merge.gate]

theorem tile_apply (oa : FVec Ideal S256x1024 .f32) (x1 x2 x3 x4 x5 x6 : FVec Ideal S256x512 .f32) (ga gb x : FVec Ideal S256x2048 .f32)
    (wa : FVec Ideal S1024x2048 .bf16) (wb : FVec Ideal S512x2048 .bf16) (wo : FVec Ideal S2048x2048 .bf16) (r : Fin 256) (l : Fin 2048) :
    tile oa x1 x2 x3 x4 x5 x6 ga gb x wa wb wo (ix2 r l)
      = Merge.out (fun i => oa (ix2 r i))
          (fun i => Merge.once (x2 (ix2 r i)) (x4 (ix2 r i)) (x6 (ix2 r i)) (x1 (ix2 r i)) (x3 (ix2 r i)) (x5 (ix2 r i)))
          (fun k => ga (ix2 r k)) (fun k => gb (ix2 r k)) (fun k => x (ix2 r k)) (fun i k => wa (ix2 i k)) (fun i k => wb (ix2 i k))
          (fun i k => wo (ix2 i k)) l := by
  refine (pay4 _ _ ga gb x wo r l).trans ?_
  unfold Merge.out Merge.merged
  refine congrArg (x (ix2 r l) + ·) (Finset.sum_congr rfl fun k _ => ?_)
  rw [pay1, pay2]

theorem ntile_apply (oa : FVec Ideal S256x1024 .f32) (x1 x2 x3 x4 x5 x6 : FVec Ideal S256x512 .f32) (ga gb x : FVec Ideal S256x2048 .f32)
    (wa : FVec Ideal S1024x2048 .bf16) (wb : FVec Ideal S512x2048 .bf16) (wo : FVec Ideal S2048x2048 .bf16) (nf : FVec Ideal S1x2048 .f32)
    (r : Fin 256) (l : Fin 2048) :
    ntile oa x1 x2 x3 x4 x5 x6 ga gb x wa wb wo nf (ix2 r l)
      = Layer.norm (fun k => tile oa x1 x2 x3 x4 x5 x6 ga gb x wa wb wo (ix2 r k)) (fun k => nf (ix2 0 k)) l := by
  unfold ntile tile k0_pay5
  generalize k0_pay4 (F := Ideal) _ _ _ _ _ _ _ = T
  pointwise [Layer.norm]

/-- The tokens with their merged branches added. -/
def MIX (oa : FVec Ideal S16384x1024 .f32) (x1 x2 x3 x4 x5 x6 : FVec Ideal S16384x512 .f32) (h : FVec Ideal S16384x12800 .f32)
    (x : FVec Ideal S16384x2048 .f32) (wa : FVec Ideal S1024x2048 .f32) (wb : FVec Ideal S512x2048 .f32) (wo : FVec Ideal S2048x2048 .f32)
    (n : Fin 16384) : Fin 2048 → EReal :=
  Merge.out (fun i => oa (ix2 n i))
    (fun i => Merge.once (x2 (ix2 n i)) (x4 (ix2 n i)) (x6 (ix2 n i)) (x1 (ix2 n i)) (x3 (ix2 n i)) (x5 (ix2 n i)))
    (fun k => h (ix2 n ⟨k.val, by have := k.isLt; omega⟩)) (fun k => h (ix2 n ⟨2048 + k.val, by have := k.isLt; omega⟩))
    (fun k => x (ix2 n k)) (fun i k => wa (ix2 i k)) (fun i k => wb (ix2 i k)) (fun i k => wo (ix2 i k))

section Entry
variable (c : Dev nD)

theorem entry0 (i : S1024x2048.Idx) : (V m c main_v0 : FVec Ideal S1024x2048 .bf16) i = (m ((c : Thread nD τ).loc main_arg9) : FVec Ideal S1024x2048 .f32) i := by
  entry_read
  rfl
theorem entry1 (i : S512x2048.Idx) : (V m c main_v1 : FVec Ideal S512x2048 .bf16) i = (m ((c : Thread nD τ).loc main_arg10) : FVec Ideal S512x2048 .f32) i := by
  entry_read
  rfl
theorem entry2 (i : S2048x2048.Idx) : (V m c main_v2 : FVec Ideal S2048x2048 .bf16) i = (m ((c : Thread nD τ).loc main_arg11) : FVec Ideal S2048x2048 .f32) i := by
  entry_read
  rfl
theorem entry3 (k : Fin 2048) : (V m c main_v3 : FVec Ideal S1x2048 .f32) (ix2 0 k) = (m ((c : Thread nD τ).loc main_arg12) : FVec Ideal S2048 .f32) (ix1 k) := by
  entry_read
  pointwise []
end Entry

section Point
variable (c : Dev nD) (t : Fin cfg0.N) (n : Fin 16384) (r : Fin 256) (hn : n.val = (grid0.coords t 0).val * 256 + r.val)

include hn in
/-- The first gate's block, which the fetch fills whole. -/
theorem read7 (k : Fin 2048) (q : Fin 12800) (hq : q.val = k.val) :
    (X0_7 m c t : FVec Ideal S256x2048 .f32) (ix2 r k) = (V m c main_arg7 : FVec Ideal S16384x12800 .f32) (ix2 n q) := by
  unfold X0_7 Pipeline.Window.fill
  refine (dif_pos (moved0_7 t _)).trans ?_
  unfold iblk
  blk_ext [idx t]

include hn in
/-- The second gate's block. -/
theorem read8 (k : Fin 2048) (q : Fin 12800) (hq : q.val = 2048 + k.val) :
    (X0_8 m c t : FVec Ideal S256x2048 .f32) (ix2 r k) = (V m c main_arg7 : FVec Ideal S16384x12800 .f32) (ix2 n q) := by
  unfold X0_8 Pipeline.Window.fill
  refine (dif_pos (moved0_8 t _)).trans ?_
  unfold iblk
  blk_ext [idx t]

include hn in
theorem point14 (l : Fin 2048) :
    tile (iblk m c 0 t) (iblk m c 1 t) (iblk m c 2 t) (iblk m c 3 t) (iblk m c 4 t) (iblk m c 5 t) (iblk m c 6 t) (X0_7 m c t) (X0_8 m c t)
        (iblk m c 9 t) (iblk m c 10 t) (iblk m c 11 t) (iblk m c 12 t) (ix2 r l)
      = MIX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) n l := by
  refine (tile_apply _ _ _ _ _ _ _ _ _ _ _ _ _ r l).trans ?_
  unfold MIX
  rw [← V_main_arg0 m c, ← V_main_arg1 m c, ← V_main_arg2 m c, ← V_main_arg3 m c, ← V_main_arg4 m c, ← V_main_arg5 m c, ← V_main_arg6 m c,
    ← V_main_arg7 m c, ← V_main_arg8 m c]
  refine Merge.out_congr (fun i => ?_) (fun i => ?_) (fun k => ?_) (fun k => ?_) (fun k => ?_) (fun i k => ?_) (fun i k => ?_) (fun i k => ?_) rfl
  · unfold iblk; blk_ext [idx t]
  · congr 1 <;> (unfold iblk; blk_ext [idx t])
  · exact read7 m c t n r hn k _ rfl
  · exact read8 m c t n r hn k _ rfl
  · unfold iblk; blk_ext [idx t]
  · refine Eq.trans ?_ (entry0 m c (ix2 i k)); unfold iblk; blk_ext [idx t]
  · refine Eq.trans ?_ (entry1 m c (ix2 i k)); unfold iblk; blk_ext [idx t]
  · refine Eq.trans ?_ (entry2 m c (ix2 i k)); unfold iblk; blk_ext [idx t]

end Point

/-- The tokens after the run. -/
theorem final14 (c : Dev nD) : (dats m 0 c).arrAt 14 (cfgs 0).N
    = (fun j => MIX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (j 0) (j 1) : FVec Ideal S16384x2048 .f32) := by
  refine (dats m 0 c).arrAt_eq_of_covers 14 _ (by decide +kernel) fun t _ y => ?_
  blk_simp
  rw [after0_14]
  unfold outsAt0
  frame_out
  obtain ⟨r, l, rfl⟩ : ∃ (r : Fin 256) (l : Fin 2048), y = ix2 r l := ⟨y 0, y 1, by blk_ext⟩
  have e : (((View.whole main_v4_0).slice (win0_14.rect t)).emb (ix2 r l) : S16384x2048.Idx)
      = ix2 ⟨(grid0.coords t 0).val * 256 + r.val, by have : (grid0.coords t 0).val < 64 := (grid0.coords t 0).isLt; omega⟩ l := by
    blk_ext [idx t]
  rw [e]
  exact point14 m c t _ r rfl l

/-- The normalized tokens after the run. -/
theorem final15 (c : Dev nD) : (dats m 0 c).arrAt 15 (cfgs 0).N
    = (fun j => Layer.norm (MIX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (j 0))
          (fun k => (m ((c : Thread nD τ).loc main_arg12) : FVec Ideal S2048 .f32) (ix1 k)) (j 1) : FVec Ideal S16384x2048 .f32) := by
  refine (dats m 0 c).arrAt_eq_of_covers 15 _ (by decide +kernel) fun t _ y => ?_
  blk_simp
  rw [after0_15]
  unfold outsAt0
  frame_out
  obtain ⟨r, l, rfl⟩ : ∃ (r : Fin 256) (l : Fin 2048), y = ix2 r l := ⟨y 0, y 1, by blk_ext⟩
  have e : (((View.whole main_v4_1).slice (win0_15.rect t)).emb (ix2 r l) : S16384x2048.Idx)
      = ix2 ⟨(grid0.coords t 0).val * 256 + r.val, by have : (grid0.coords t 0).val < 64 := (grid0.coords t 0).isLt; omega⟩ l := by
    blk_ext [idx t]
  rw [e]
  refine (ntile_apply _ _ _ _ _ _ _ _ _ _ _ _ _ _ r l).trans ?_
  refine Layer.norm_congr (fun k => ?_) (fun k => ?_) rfl
  · exact point14 m c t _ r rfl k
  · refine Eq.trans ?_ (entry3 m c k); unfold iblk; blk_ext [idx t]

end Cert.MixIdeal.Blocks

end
-- ==== Proof.MixRead.lean ====
/- The mixing reference read entry by entry: the softmax over the three groups, the gates, the projections and the norm. -/
module

public import proofs.«01_k».proof.Proof.Gen.MixRefIdeal.Read
public import proofs.«01_k».proof.Proof.Layer
public import proofs.«01_k».proof.Proof.Window
public import proofs.«01_k».proof.Proof.Merge
public import Idealize.ShloMosaic.Lib.Pipeline.ValueKit
public import Idealize.ShloMosaic.Lib.Claim

@[expose] public section

set_option maxRecDepth 16384

noncomputable section

namespace Cert.MixRefIdeal.Turn

open Cert.MixRefIdeal Cert.MixRefIdeal.Read Idealize.ShloMosaic Idealize.ShloMosaic.TcCoe Idealize.SL.Sem

/-- The fold of three. -/
theorem fold3 (f : Fin 3 → EReal) : Finset.fold max ⊥ f Finset.univ = max (max (f 0) (f 1)) (f 2) := by
  rw [show (Finset.univ : Finset (Fin 3)) = insert 0 (insert 1 {2}) from by decide]
  rw [Finset.fold_insert (by decide), Finset.fold_insert (by decide), Finset.fold_singleton, max_bot_right, max_assoc]

/-- The three groups' logarithms, stacked. -/
theorem stack_apply (x2 x4 x6 : FVec Ideal S16384x512 .f32) (k : Fin 3) (r : Fin 16384) (l : Fin 512) :
    (val_main_v7 (F := Ideal) x2 x4 x6 : FVec Ideal S3x16384x512 .f32) (ix3 k r l) = ![x2 (ix2 r l), x4 (ix2 r l), x6 (ix2 r l)] k := by
  pointwise [val_main_v7, val_main_v4, val_main_v5, val_main_v6]
  fin_cases k <;> rfl

/-- So are the outputs. -/
theorem outs_apply (x2 x4 x6 : FVec Ideal S16384x512 .f32) (k : Fin 3) (r : Fin 16384) (l : Fin 512) :
    (val_main_v3 (F := Ideal) x2 x4 x6 : FVec Ideal S3x16384x512 .f32) (ix3 k r l) = ![x2 (ix2 r l), x4 (ix2 r l), x6 (ix2 r l)] k := by
  pointwise [val_main_v3, val_main_v0, val_main_v1, val_main_v2]
  fin_cases k <;> rfl

/-- The greatest of the three. -/
theorem v8_apply (x2 x4 x6 : FVec Ideal S16384x512 .f32) (r : Fin 16384) (l : Fin 512) :
    (val_main_v8 (F := Ideal) x2 x4 x6 : FVec Ideal S16384x512 .f32) (ix2 r l) = Merge.top (x2 (ix2 r l)) (x4 (ix2 r l)) (x6 (ix2 r l)) := by
  have h0 : (val_main_v7 (F := Ideal) x2 x4 x6 : FVec Ideal S3x16384x512 .f32) (ix3 0 r l) = x2 (ix2 r l) := stack_apply x2 x4 x6 0 r l
  have h1 : (val_main_v7 (F := Ideal) x2 x4 x6 : FVec Ideal S3x16384x512 .f32) (ix3 1 r l) = x4 (ix2 r l) := stack_apply x2 x4 x6 1 r l
  have h2 : (val_main_v7 (F := Ideal) x2 x4 x6 : FVec Ideal S3x16384x512 .f32) (ix3 2 r l) = x6 (ix2 r l) := stack_apply x2 x4 x6 2 r l
  rw [← h0, ← h1, ← h2]
  unfold val_main_v8
  generalize val_main_v7 (F := Ideal) x2 x4 x6 = y
  pointwise [val_main_cst]
  rw [Window.ofBits_negInf, fold3]
  unfold Merge.top
  with_reducible rfl

variable (x0 : FVec Ideal S16384x1024 .f32) (x1 x2 x3 x4 x5 x6 : FVec Ideal S16384x512 .f32) (x7 : FVec Ideal S16384x12800 .f32)
  (x8 : FVec Ideal S16384x2048 .f32) (x9 : FVec Ideal S1024x2048 .f32) (x10 : FVec Ideal S512x2048 .f32) (x11 : FVec Ideal S2048x2048 .f32)
  (x12 : FVec Ideal S2048 .f32) (r : Fin 16384)

/-- The maximum of two arrays at an index. -/
theorem max_read (z y : FVec Ideal S16384x512 .f32) (i : S16384x512.Idx) : maximumf z y i = max (z i : EReal) (y i : EReal) := rfl

/-- A maximum with the least. -/
theorem max_bot' (a b c : EReal) (h : a = ⊥) (h' : b = c) : max a b = c := by rw [h, h', max_bot_left]

/-- Minus infinity joins no greater. -/
theorem v10_apply (l : Fin 512) : (val_main_v10 (F := Ideal) x2 x4 x6 : FVec Ideal S16384x512 .f32) (ix2 r l)
    = Merge.top (x2 (ix2 r l)) (x4 (ix2 r l)) (x6 (ix2 r l)) := by
  have e : (val_main_v9 (F := Ideal) : FVec Ideal S16384x512 .f32) (ix2 r l) = ⊥ := by
    pointwise [val_main_v9, val_main_cst_0]
    rw [Window.ofBits_negInf]
  have h := v8_apply x2 x4 x6 r l
  unfold val_main_v10
  exact (max_read _ _ _).trans (max_bot' _ _ _ e h)

/-- The greatest logarithm, spread over the three groups. -/
theorem top_apply (k : Fin 3) (l : Fin 512) : (val_main_v12 (F := Ideal) x2 x4 x6 : FVec Ideal S3x16384x512 .f32) (ix3 k r l)
    = Merge.top (x2 (ix2 r l)) (x4 (ix2 r l)) (x6 (ix2 r l)) := by
  refine Eq.trans ?_ (v10_apply x2 x4 x6 r l)
  unfold val_main_v12 val_main_v11
  generalize val_main_v10 (F := Ideal) x2 x4 x6 = y
  pointwise []

theorem exp_apply (k : Fin 3) (l : Fin 512) : (val_main_v14 (F := Ideal) x2 x4 x6 : FVec Ideal S3x16384x512 .f32) (ix3 k r l)
    = Ideal.exp (![x2 (ix2 r l), x4 (ix2 r l), x6 (ix2 r l)] k - Merge.top (x2 (ix2 r l)) (x4 (ix2 r l)) (x6 (ix2 r l))) := by
  have h := top_apply x2 x4 x6 r k l
  have h' := stack_apply x2 x4 x6 k r l
  unfold val_main_v14 val_main_v13
  revert h h'
  generalize val_main_v12 (F := Ideal) x2 x4 x6 = y
  generalize val_main_v7 (F := Ideal) x2 x4 x6 = z
  intro h h'
  pointwise []
  rw [h, h']

theorem total_apply (k : Fin 3) (l : Fin 512) : (val_main_v17 (F := Ideal) x2 x4 x6 : FVec Ideal S3x16384x512 .f32) (ix3 k r l)
    = Merge.total (x2 (ix2 r l)) (x4 (ix2 r l)) (x6 (ix2 r l)) := by
  have h := fun k => exp_apply x2 x4 x6 r k l
  unfold val_main_v17 val_main_v16 val_main_v15
  revert h
  generalize val_main_v14 (F := Ideal) x2 x4 x6 = y
  intro h
  pointwise [val_main_cst_1]
  rw [Fin.sum_univ_three, h 0, h 1, h 2]
  rfl

/-- The groups' outputs weighed by the softmax of their logarithms. -/
theorem combined_apply (l : Fin 512) : (val_main_v20 (F := Ideal) x1 x2 x3 x4 x5 x6 : FVec Ideal S16384x512 .f32) (ix2 r l)
    = Merge.each (x2 (ix2 r l)) (x4 (ix2 r l)) (x6 (ix2 r l)) (x1 (ix2 r l)) (x3 (ix2 r l)) (x5 (ix2 r l)) := by
  have h := fun k => exp_apply x2 x4 x6 r k l
  have h' := fun k => total_apply x2 x4 x6 r k l
  have h'' := fun k => outs_apply x1 x3 x5 k r l
  unfold val_main_v20 val_main_v19 val_main_v18
  revert h h' h''
  generalize val_main_v14 (F := Ideal) x2 x4 x6 = y
  generalize val_main_v17 (F := Ideal) x2 x4 x6 = z
  generalize val_main_v3 (F := Ideal) x1 x3 x5 = w
  intro h h' h''
  pointwise [val_main_cst_2]
  rw [Fin.sum_univ_three, h 0, h 1, h 2, h' 0, h' 1, h' 2, h'' 0, h'' 1, h'' 2]
  rfl

theorem gate_a (k : Fin 2048) : (val_main_v28 (F := Ideal) x7 : FVec Ideal S16384x2048 .f32) (ix2 r k)
    = Merge.gate (x7 (ix2 r ⟨k.val, by have := k.isLt; omega⟩)) := by
  unfold Merge.gate
  rw [show (0 : EReal) - x7 (ix2 r ⟨k.val, by have := k.isLt; omega⟩) = -x7 (ix2 r ⟨k.val, by have := k.isLt; omega⟩) from zero_sub _]
  pointwise [val_main_v28, val_main_v27, val_main_v26, val_main_v25, val_main_v24, val_main_v23, val_main_v21, val_main_cst_3, val_main_cst_4]

theorem gate_b (k : Fin 2048) : (val_main_v36 (F := Ideal) x7 : FVec Ideal S16384x2048 .f32) (ix2 r k)
    = Merge.gate (x7 (ix2 r ⟨2048 + k.val, by have := k.isLt; omega⟩)) := by
  unfold Merge.gate
  rw [show (0 : EReal) - x7 (ix2 r ⟨2048 + k.val, by have := k.isLt; omega⟩) = -x7 (ix2 r ⟨2048 + k.val, by have := k.isLt; omega⟩) from zero_sub _]
  pointwise [val_main_v36, val_main_v35, val_main_v34, val_main_v33, val_main_v32, val_main_v31, val_main_v22, val_main_cst_5, val_main_cst_6]

theorem branch_a (k : Fin 2048) : (val_main_v29 (F := Ideal) x0 x9 : FVec Ideal S16384x2048 .f32) (ix2 r k)
    = ∑ i : Fin 1024, x0 (ix2 r i) * x9 (ix2 i k) := by
  pointwise [val_main_v29]

theorem branch_b (k : Fin 2048) : (val_main_v37 (F := Ideal) x1 x2 x3 x4 x5 x6 x10 : FVec Ideal S16384x2048 .f32) (ix2 r k)
    = ∑ i : Fin 512, Merge.each (x2 (ix2 r i)) (x4 (ix2 r i)) (x6 (ix2 r i)) (x1 (ix2 r i)) (x3 (ix2 r i)) (x5 (ix2 r i)) * x10 (ix2 i k) := by
  have h := fun i => combined_apply x1 x2 x3 x4 x5 x6 r i
  unfold val_main_v37
  revert h
  generalize val_main_v20 (F := Ideal) x1 x2 x3 x4 x5 x6 = y
  intro h
  pointwise []
  exact Finset.sum_congr rfl fun i _ => by rw [h i]

theorem merged_apply (k : Fin 2048) : (val_main_v39 (F := Ideal) x0 x1 x2 x3 x4 x5 x6 x7 x9 x10 : FVec Ideal S16384x2048 .f32) (ix2 r k)
    = Merge.merged (fun i => x0 (ix2 r i))
        (fun i => Merge.each (x2 (ix2 r i)) (x4 (ix2 r i)) (x6 (ix2 r i)) (x1 (ix2 r i)) (x3 (ix2 r i)) (x5 (ix2 r i)))
        (fun k => x7 (ix2 r ⟨k.val, by have := k.isLt; omega⟩)) (fun k => x7 (ix2 r ⟨2048 + k.val, by have := k.isLt; omega⟩))
        (fun i k => x9 (ix2 i k)) (fun i k => x10 (ix2 i k)) k := by
  have h1 := gate_a x7 r k
  have h2 := gate_b x7 r k
  have h3 := branch_a x0 x9 r k
  have h4 := branch_b x1 x2 x3 x4 x5 x6 x10 r k
  unfold Merge.merged val_main_v39 val_main_v30 val_main_v38
  rw [← h1, ← h2, ← h3, ← h4]
  rfl

/-- The reference's tokens. -/
theorem out_apply (l : Fin 2048) : (val_main_v41 (F := Ideal) x0 x1 x2 x3 x4 x5 x6 x7 x8 x9 x10 x11 : FVec Ideal S16384x2048 .f32) (ix2 r l)
    = Merge.out (fun i => x0 (ix2 r i))
        (fun i => Merge.each (x2 (ix2 r i)) (x4 (ix2 r i)) (x6 (ix2 r i)) (x1 (ix2 r i)) (x3 (ix2 r i)) (x5 (ix2 r i)))
        (fun k => x7 (ix2 r ⟨k.val, by have := k.isLt; omega⟩)) (fun k => x7 (ix2 r ⟨2048 + k.val, by have := k.isLt; omega⟩))
        (fun k => x8 (ix2 r k)) (fun i k => x9 (ix2 i k)) (fun i k => x10 (ix2 i k)) (fun i k => x11 (ix2 i k)) l := by
  have h := fun k => merged_apply x0 x1 x2 x3 x4 x5 x6 x7 x9 x10 r k
  unfold Merge.out
  simp only [← h]
  unfold val_main_v41 val_main_v40
  generalize val_main_v39 (F := Ideal) x0 x1 x2 x3 x4 x5 x6 x7 x9 x10 = y
  pointwise []

/-- The reference's normalized tokens. -/
theorem norm_apply (l : Fin 2048) : (val_main_v54 (F := Ideal) x0 x1 x2 x3 x4 x5 x6 x7 x8 x9 x10 x11 x12 : FVec Ideal S16384x2048 .f32) (ix2 r l)
    = Layer.norm (fun k => (val_main_v41 (F := Ideal) x0 x1 x2 x3 x4 x5 x6 x7 x8 x9 x10 x11 : FVec Ideal S16384x2048 .f32) (ix2 r k))
        (fun k => x12 (ix1 k)) l := by
  unfold val_main_v54 val_main_v51 val_main_v50 val_main_v49 val_main_v48 val_main_v46 val_main_v44 val_main_v43 val_main_v42
  generalize val_main_v41 (F := Ideal) x0 x1 x2 x3 x4 x5 x6 x7 x8 x9 x10 x11 = y
  pointwise [val_main_v53, val_main_v52, val_main_v47, val_main_v45, val_main_cst_7, val_main_cst_8, val_main_cst_9, Layer.norm]

end Cert.MixRefIdeal.Turn

end
-- ==== Proof.Claims5.lean ====
/- The claims about the mixing call. -/
module

public import proofs.«01_k».proof.Defs
public import proofs.«01_k».proof.Proof.Gen.Mix.Frame
public import proofs.«01_k».proof.Proof.Gen.MixIdeal.Frame
public import proofs.«01_k».proof.Proof.Gen.MixRefIdeal.Run
public import proofs.«01_k».proof.Proof.Gen.MixIdeal.Value
public import proofs.«01_k».proof.Proof.MixBlocks
public import proofs.«01_k».proof.Proof.MixRead
public import Idealize.ShloMosaic.Lib.Claim
public import Idealize.ShloMosaic.Lib.Quiescent

@[expose] public section

set_option maxRecDepth 16384

noncomputable section

namespace Cert.Proof

open Idealize.ShloMosaic Idealize.SL.Sem

/-- The precondition's one shape relation. -/
theorem facts_finite : Cert.Pre_finite_lse.Facts := ⟨by decide⟩

/-- The mixing call runs, leaves its arguments as they were and every semaphore at zero. -/
theorem quiescent_Mix : Cert.quiescent_Mix := fun m g _ => Cert.Mix.Gen.frame m g

/-- So does its idealization. -/
theorem quiescent_MixIdeal : Cert.quiescent_MixIdeal := fun m g _ => Cert.MixIdeal.Gen.frame m g

/-- The same where the precondition is stated. -/
theorem quiescent_MixIdeal_finite : Cert.quiescent_MixIdeal_pre_finite_lse (hPre_finite_lse := facts_finite) := fun m g _ => Cert.MixIdeal.Gen.frame m g

/-- So does the reference. -/
theorem quiescent_MixRefIdeal : Cert.quiescent_MixRefIdeal := fun m g _ =>
  (θ_run Cert.MixRefIdeal.defs _ _).mono
    (fun r h => ⟨fun c => (h c).2.2, Idealize.ShloMosaic.sem_eq_zero_of_no_sems (by decide) r.2⟩)
    (Cert.MixRefIdeal.Value.run m g)

/-- The same where the precondition is stated. -/
theorem quiescent_MixRefIdeal_finite : Cert.quiescent_MixRefIdeal_pre_finite_lse (hPre_finite_lse := facts_finite) := fun m g _ => quiescent_MixRefIdeal m g trivial

/-- No operation is named by a rule here. -/
theorem preserves_Mix : Cert.preserves_Mix_MixIdeal := trivial

/-- The word of infinity. -/
theorem ofBits_posInf : Ideal.ofBits .f32 0x7F800000#32 = ⊤ := by
  simp [Ideal.ofBits, Ideal.ieee]

/-- Two comparisons that hold. -/
theorem and_one {a b : BitVec 1} (h : a &&& b = 1#1) : a = 1#1 ∧ b = 1#1 := by
  revert a b; decide

/-- An array's entry compared with both infinities. -/
theorem finite_of (x : EReal) (h : Ideal.cmp .olt x (Ideal.ofBits .f32 0x7F800000#32)
    &&& Ideal.cmp .ogt x (Ideal.ofBits .f32 0xFF800000#32) = 1#1) : Merge.Finite x := by
  rw [ofBits_posInf, Window.ofBits_negInf] at h
  obtain ⟨h1, h2⟩ := and_one h
  constructor
  · by_contra hx
    simp [Ideal.cmp, hx] at h1
  · by_contra hx
    simp [Ideal.cmp, hx] at h2

/-- The precondition entry by entry: the three groups' logarithms are numbers. -/
theorem finite_apply (m : (ℓ : Loc Cert.MixIdeal.nD Cert.MixIdeal.τ Cert.MixIdeal.sig) → Buf (Elt Ideal) ℓ)
    (h : Cert.Pre_MixIdeal_finite_lse (hPre_finite_lse := facts_finite) m) (c : Dev Cert.MixIdeal.nD) (i : Cert.MixIdeal.S16384x512.Idx) :
    Merge.Finite ((m ((c.tc : Thread Cert.MixIdeal.nD Cert.MixIdeal.τ).loc Cert.MixIdeal.main_arg2) : FVec Ideal Cert.MixIdeal.S16384x512 .f32) i)
    ∧ Merge.Finite ((m ((c.tc : Thread Cert.MixIdeal.nD Cert.MixIdeal.τ).loc Cert.MixIdeal.main_arg4) : FVec Ideal Cert.MixIdeal.S16384x512 .f32) i)
    ∧ Merge.Finite ((m ((c.tc : Thread Cert.MixIdeal.nD Cert.MixIdeal.τ).loc Cert.MixIdeal.main_arg6) : FVec Ideal Cert.MixIdeal.S16384x512 .f32) i) := by
  have e := congrFun (h c) i
  unfold Cert.Pre_finite_lse.fn at e
  revert e
  generalize (m ((c.tc : Thread Cert.MixIdeal.nD Cert.MixIdeal.τ).loc Cert.MixIdeal.main_arg2) : FVec Ideal Cert.MixIdeal.S16384x512 .f32) = a
  generalize (m ((c.tc : Thread Cert.MixIdeal.nD Cert.MixIdeal.τ).loc Cert.MixIdeal.main_arg4) : FVec Ideal Cert.MixIdeal.S16384x512 .f32) = b
  generalize (m ((c.tc : Thread Cert.MixIdeal.nD Cert.MixIdeal.τ).loc Cert.MixIdeal.main_arg6) : FVec Ideal Cert.MixIdeal.S16384x512 .f32) = d
  intro e
  have e' : ((Ideal.cmp .olt (a i) (Ideal.ofBits .f32 0x7F800000#32) &&& Ideal.cmp .ogt (a i) (Ideal.ofBits .f32 0xFF800000#32))
      &&& (Ideal.cmp .olt (b i) (Ideal.ofBits .f32 0x7F800000#32) &&& Ideal.cmp .ogt (b i) (Ideal.ofBits .f32 0xFF800000#32)))
      &&& (Ideal.cmp .olt (d i) (Ideal.ofBits .f32 0x7F800000#32) &&& Ideal.cmp .ogt (d i) (Ideal.ofBits .f32 0xFF800000#32)) = 1#1 := by
    rw [← e]
    pointwise []
    simp only [IntOp.andi]
  obtain ⟨h12, h3⟩ := and_one e'
  obtain ⟨h1, h2⟩ := and_one h12
  exact ⟨finite_of _ h1, finite_of _ h2, finite_of _ h3⟩

/-- Where the logarithms are numbers, the reference's tokens are the call's. -/
theorem mix_eq (x0 : FVec Ideal Cert.MixIdeal.S16384x1024 .f32) (x1 x2 x3 x4 x5 x6 : FVec Ideal Cert.MixIdeal.S16384x512 .f32)
    (x7 : FVec Ideal Cert.MixIdeal.S16384x12800 .f32) (x8 : FVec Ideal Cert.MixIdeal.S16384x2048 .f32) (x9 : FVec Ideal Cert.MixIdeal.S1024x2048 .f32)
    (x10 : FVec Ideal Cert.MixIdeal.S512x2048 .f32) (x11 : FVec Ideal Cert.MixIdeal.S2048x2048 .f32)
    (hf : ∀ i, Merge.Finite (x2 i) ∧ Merge.Finite (x4 i) ∧ Merge.Finite (x6 i)) (n : Fin 16384) (l : Fin 2048) :
    (Cert.MixRefIdeal.Read.val_main_v41 (F := Ideal) x0 x1 x2 x3 x4 x5 x6 x7 x8 x9 x10 x11 : FVec Ideal Cert.MixIdeal.S16384x2048 .f32) (ix2 n l)
      = Cert.MixIdeal.Blocks.MIX x0 x1 x2 x3 x4 x5 x6 x7 x8 x9 x10 x11 n l := by
  refine (Cert.MixRefIdeal.Turn.out_apply x0 x1 x2 x3 x4 x5 x6 x7 x8 x9 x10 x11 n l).trans ?_
  unfold Cert.MixIdeal.Blocks.MIX
  exact Merge.out_congr (fun _ => rfl) (fun i => (Merge.once_eq_each _ _ _ _ _ _ (hf _).1 (hf _).2.1 (hf _).2.2).symm)
    (fun _ => rfl) (fun _ => rfl) (fun _ => rfl) (fun _ _ => rfl) (fun _ _ => rfl) (fun _ _ => rfl) rfl

section Pair
variable (m : (ℓ : Loc Cert.MixIdeal.nD Cert.MixIdeal.τ Cert.MixIdeal.sig) → Buf (Elt Ideal) ℓ)
    (m' : (ℓ : Loc Cert.MixRefIdeal.nD Cert.MixRefIdeal.τ Cert.MixRefIdeal.sig) → Buf (Elt Ideal) ℓ) (c : Dev Cert.MixIdeal.nD)
    (a0 : m' ((c.tc : Thread Cert.MixRefIdeal.nD Cert.MixRefIdeal.τ).loc Cert.MixRefIdeal.main_arg0) = m ((c.tc : Thread Cert.MixIdeal.nD Cert.MixIdeal.τ).loc Cert.MixIdeal.main_arg0))
    (a1 : m' ((c.tc : Thread Cert.MixRefIdeal.nD Cert.MixRefIdeal.τ).loc Cert.MixRefIdeal.main_arg1) = m ((c.tc : Thread Cert.MixIdeal.nD Cert.MixIdeal.τ).loc Cert.MixIdeal.main_arg1))
    (a2 : m' ((c.tc : Thread Cert.MixRefIdeal.nD Cert.MixRefIdeal.τ).loc Cert.MixRefIdeal.main_arg2) = m ((c.tc : Thread Cert.MixIdeal.nD Cert.MixIdeal.τ).loc Cert.MixIdeal.main_arg2))
    (a3 : m' ((c.tc : Thread Cert.MixRefIdeal.nD Cert.MixRefIdeal.τ).loc Cert.MixRefIdeal.main_arg3) = m ((c.tc : Thread Cert.MixIdeal.nD Cert.MixIdeal.τ).loc Cert.MixIdeal.main_arg3))
    (a4 : m' ((c.tc : Thread Cert.MixRefIdeal.nD Cert.MixRefIdeal.τ).loc Cert.MixRefIdeal.main_arg4) = m ((c.tc : Thread Cert.MixIdeal.nD Cert.MixIdeal.τ).loc Cert.MixIdeal.main_arg4))
    (a5 : m' ((c.tc : Thread Cert.MixRefIdeal.nD Cert.MixRefIdeal.τ).loc Cert.MixRefIdeal.main_arg5) = m ((c.tc : Thread Cert.MixIdeal.nD Cert.MixIdeal.τ).loc Cert.MixIdeal.main_arg5))
    (a6 : m' ((c.tc : Thread Cert.MixRefIdeal.nD Cert.MixRefIdeal.τ).loc Cert.MixRefIdeal.main_arg6) = m ((c.tc : Thread Cert.MixIdeal.nD Cert.MixIdeal.τ).loc Cert.MixIdeal.main_arg6))
    (a7 : m' ((c.tc : Thread Cert.MixRefIdeal.nD Cert.MixRefIdeal.τ).loc Cert.MixRefIdeal.main_arg7) = m ((c.tc : Thread Cert.MixIdeal.nD Cert.MixIdeal.τ).loc Cert.MixIdeal.main_arg7))
    (a8 : m' ((c.tc : Thread Cert.MixRefIdeal.nD Cert.MixRefIdeal.τ).loc Cert.MixRefIdeal.main_arg8) = m ((c.tc : Thread Cert.MixIdeal.nD Cert.MixIdeal.τ).loc Cert.MixIdeal.main_arg8))
    (a9 : m' ((c.tc : Thread Cert.MixRefIdeal.nD Cert.MixRefIdeal.τ).loc Cert.MixRefIdeal.main_arg9) = m ((c.tc : Thread Cert.MixIdeal.nD Cert.MixIdeal.τ).loc Cert.MixIdeal.main_arg9))
    (a10 : m' ((c.tc : Thread Cert.MixRefIdeal.nD Cert.MixRefIdeal.τ).loc Cert.MixRefIdeal.main_arg10) = m ((c.tc : Thread Cert.MixIdeal.nD Cert.MixIdeal.τ).loc Cert.MixIdeal.main_arg10))
    (a11 : m' ((c.tc : Thread Cert.MixRefIdeal.nD Cert.MixRefIdeal.τ).loc Cert.MixRefIdeal.main_arg11) = m ((c.tc : Thread Cert.MixIdeal.nD Cert.MixIdeal.τ).loc Cert.MixIdeal.main_arg11))
    (a12 : m' ((c.tc : Thread Cert.MixRefIdeal.nD Cert.MixRefIdeal.τ).loc Cert.MixRefIdeal.main_arg12) = m ((c.tc : Thread Cert.MixIdeal.nD Cert.MixIdeal.τ).loc Cert.MixIdeal.main_arg12))
    (hf : ∀ i : Cert.MixIdeal.S16384x512.Idx, Merge.Finite (((m ((c.tc : Thread Cert.MixIdeal.nD Cert.MixIdeal.τ).loc Cert.MixIdeal.main_arg2)) : FVec Ideal Cert.MixIdeal.S16384x512 .f32) i)
      ∧ Merge.Finite (((m ((c.tc : Thread Cert.MixIdeal.nD Cert.MixIdeal.τ).loc Cert.MixIdeal.main_arg4)) : FVec Ideal Cert.MixIdeal.S16384x512 .f32) i)
      ∧ Merge.Finite (((m ((c.tc : Thread Cert.MixIdeal.nD Cert.MixIdeal.τ).loc Cert.MixIdeal.main_arg6)) : FVec Ideal Cert.MixIdeal.S16384x512 .f32) i))

include a0 a1 a2 a3 a4 a5 a6 a7 a8 a9 a10 a11 hf in
/-- The reference's tokens over the call's arguments. -/
theorem tokens_Mix : Cert.MixRefIdeal.Value.res_main_v41 m' c = (Cert.MixIdeal.Gen.dats m 0 c).arrAt 14 Cert.MixIdeal.cfg0.N := by
  refine (Cert.MixRefIdeal.Read.val_main_v41_eq m' c).trans ?_
  rw [a0, a1, a2, a3, a4, a5, a6, a7, a8, a9, a10, a11]
  refine Eq.trans (funext fun j => ?_) (Cert.MixIdeal.Blocks.final14 m c).symm
  obtain ⟨n, l, rfl⟩ : ∃ (n : Fin 16384) (l : Fin 2048), j = ix2 n l := ⟨j 0, j 1, by blk_ext⟩
  exact mix_eq _ _ _ _ _ _ _ _ _ _ _ _ hf n l

include a0 a1 a2 a3 a4 a5 a6 a7 a8 a9 a10 a11 a12 hf in
/-- The reference's normalized tokens over the call's arguments. -/
theorem normed_Mix : Cert.MixRefIdeal.Value.res_main_v54 m' c = (Cert.MixIdeal.Gen.dats m 0 c).arrAt 15 Cert.MixIdeal.cfg0.N := by
  refine (Cert.MixRefIdeal.Read.val_main_v54_eq m' c).trans ?_
  rw [a0, a1, a2, a3, a4, a5, a6, a7, a8, a9, a10, a11, a12]
  refine Eq.trans (funext fun j => ?_) (Cert.MixIdeal.Blocks.final15 m c).symm
  obtain ⟨n, l, rfl⟩ : ∃ (n : Fin 16384) (l : Fin 2048), j = ix2 n l := ⟨j 0, j 1, by blk_ext⟩
  refine (Cert.MixRefIdeal.Turn.norm_apply _ _ _ _ _ _ _ _ _ _ _ _ _ n l).trans ?_
  exact Layer.norm_congr (fun k => mix_eq _ _ _ _ _ _ _ _ _ _ _ _ hf n k) (fun _ => rfl) rfl

end Pair

/-- Over the extended reals, where the groups' logarithms are numbers, the call's two arrays are the reference's. -/
theorem algebraic_Mix : Cert.algebraic_MixIdeal_MixRefIdeal_pre_finite_lse (hPre_finite_lse := facts_finite) := by
  intro m g m' g' hpre hagree
  refine ⟨fun c => (Cert.MixIdeal.Gen.dats m 0 c).arrAt 14 Cert.MixIdeal.cfg0.N, fun c => (Cert.MixIdeal.Gen.dats m 0 c).arrAt 15 Cert.MixIdeal.cfg0.N,
    Cert.MixIdeal.Value.run_blocks m g, ?_⟩
  refine (θ_run Cert.MixRefIdeal.defs _ _).mono (fun r h c => ?_) (Cert.MixRefIdeal.Value.run m' g')
  obtain ⟨a0, a1, a2, a3, a4, a5, a6, a7, a8, a9, a10, a11, a12⟩ := hagree c
  obtain ⟨f0, f1, f2⟩ := h c
  exact ⟨f0.trans (tokens_Mix m m' c a0 a1 a2 a3 a4 a5 a6 a7 a8 a9 a10 a11 (finite_apply m hpre c)),
    f1.trans (normed_Mix m m' c a0 a1 a2 a3 a4 a5 a6 a7 a8 a9 a10 a11 a12 (finite_apply m hpre c)), f2⟩

end Cert.Proof

end
-- ==== Proof.StepEnds.lean ====
/- What the buffers of the sample tokens' chain hold when @main has ended. -/
module

public import proofs.«01_k».proof.Proof.Gen.StepIdeal.Frame

@[expose] public section

set_option maxRecDepth 16384

noncomputable section

namespace Cert.StepIdeal.Ends

open Cert.StepIdeal Cert.StepIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of @main ends, and then every buffer the regions do not own privately holds the last boundary's contents. -/
theorem ends : θ_run defs (onTc (τ := τ) (main (F := F))) ⟨m, fun _ => 0, ρ⟩ (fun r => ∀ c : Dev nD, ∀ b ∈ Pipeline.ucRefs τ sig,
      r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hbufs, Hreg, Howed⟩
      isplitl [Hbufs Hreg]
      · isplitl [Hbufs]
        · iexact Hbufs
        iexact Hreg
      iexact Howed⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hreg, -⟩, -⟩
      imodintro
      isplitl [Hbufs]
      · iexact Hbufs
      isplitl [Hreg]
      · iexists _
        iexact Hreg
      iexists ∅
      iexact Howed)
    (QY := fun c s => ∀ b ∈ Pipeline.ucRefs τ sig, s.mem (((c : Thread nD τ)).1, b) = W7 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W7 m ρ c) s')
      isplitl [Hbufs] <;> iassumption)
    (hQ := fun s h _ c b hb => h c b hb)

end Cert.StepIdeal.Ends

end
-- ==== Proof.StepBlocks.lean ====
/- What the three regions of the sample tokens' chain leave in their arrays, at any contents they are entered with. -/
module

public import proofs.«01_k».proof.Proof.Gen.StepIdeal.Frame
public import proofs.«01_k».proof.Proof.Layer
public import Idealize.ShloMosaic.Lib.Pipeline.ValueKit
public import Idealize.ShloMosaic.Lib.Claim

@[expose] public section

set_option maxRecDepth 16384

noncomputable section

namespace Cert.StepIdeal.Blocks

open Cert.StepIdeal Cert.StepIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N,
    win0_0.index t = ![(grid0.coords t 0).val, 0] ∧ win0_1.index t = ![0, 0] ∧ win0_2.index t = ![(grid0.coords t 0).val, 0] :=
  (by decide +kernel : ∀ t : Fin grid0.N, _)

theorem idx1 : ∀ t : Fin cfg1.N,
    win1_0.index t = ![(grid1.coords t 1).val, 0] ∧ win1_1.index t = ![0, (grid1.coords t 0).val]
    ∧ win1_2.index t = ![(grid1.coords t 1).val, (grid1.coords t 0).val] :=
  (by decide +kernel : ∀ t : Fin grid1.N, _)

theorem idx2 : ∀ t : Fin cfg2.N,
    win2_0.index t = ![(grid2.coords t 0).val, 16 + (grid2.coords t 1).val] ∧ win2_1.index t = ![(grid2.coords t 0).val, 19 + (grid2.coords t 1).val]
    ∧ win2_2.index t = ![0, 0] ∧ win2_3.index t = ![0, 0]
    ∧ win2_4.index t = ![(grid2.coords t 0).val, (grid2.coords t 1).val] ∧ win2_5.index t = ![(grid2.coords t 0).val, (grid2.coords t 1).val] :=
  (by decide +kernel : ∀ t : Fin grid2.N, _)

/-- Every row normalized. -/
def NORM (x : FVec Ideal S32x2048 .f32) (w : FVec Ideal S1x2048 .f32) : FVec Ideal S32x2048 .bf16 :=
  fun j => Layer.norm (fun k => x (ix2 (j 0) k)) (fun k => w (ix2 0 k)) (j 1)

/-- The matrix product. -/
def PROD (a : FVec Ideal S32x2048 .bf16) (b : FVec Ideal S2048x12800 .bf16) : FVec Ideal S32x12800 .f32 :=
  fun j => ∑ k : Fin 2048, a (ix2 (j 0) k) * b (ix2 k (j 1))

/-- The three groups of heads from column `off` on, turned by the two tables. -/
def TURN (off : ℕ) (hoff : off + 1536 ≤ 12800) (a : FVec Ideal S32x12800 .f32) (cs sn : FVec Ideal S32x128 .f32) : FVec Ideal S32x1536 .f32 :=
  fun j => a (ix2 (j 0) ⟨off + (j 1).val, by have : (j 1).val < 1536 := (j 1).isLt; omega⟩)
      * cs (ix2 (j 0) ⟨(j 1).val % 128, by omega⟩)
    + a (ix2 (j 0) ⟨off + (if (j 1).val % 128 < 16 then (j 1).val + 16 else (j 1).val - 16), by have : (j 1).val < 1536 := (j 1).isLt; split <;> omega⟩)
      * sn (ix2 (j 0) ⟨(j 1).val % 128, by omega⟩)

theorem pay0 (x : FVec Ideal S32x2048 .f32) (w : FVec Ideal S1x2048 .f32) (r : Fin 32) (l : Fin 2048) :
    (k0_pay1 (F := Ideal) x w : FVec Ideal S32x2048 .bf16) (ix2 r l) = Layer.norm (fun k => x (ix2 r k)) (fun k => w (ix2 0 k)) l := by
  pointwise [k0_pay1, Layer.norm]

/-- The normalized array. -/
theorem final0 (c : Dev nD) : (dat0 V c).arrAt 2 cfg0.N = NORM (V c main_v0) (V c main_v1) := by
  refine (dat0 V c).arrAt_eq_of_covers 2 _ (by decide +kernel) fun t _ y => ?_
  blk_simp
  rw [after0_2]
  frame_out
  obtain ⟨r, l, rfl⟩ : ∃ (r : Fin 32) (l : Fin 2048), y = ix2 r l := ⟨y 0, y 1, by blk_ext⟩
  refine (pay0 _ _ r l).trans ?_
  unfold NORM
  refine Layer.norm_congr (fun k => ?_) (fun k => ?_) ?_
  · unfold iblk0
    blk_ext [idx0 t]
  · unfold iblk0
    blk_ext [idx0 t]
  · refine Fin.ext ?_
    blk_simp [idx0 t] <;> try omega

/-- The product. -/
theorem final1 (c : Dev nD) : (dat1 V c).arrAt 2 cfg1.N = PROD (V c main_v2) (V c main_v7) := by
  refine (dat1 V c).arrAt_eq_of_covers 2 _ (by decide +kernel) fun t _ y => ?_
  blk_simp
  rw [after1_2]
  frame_out
  pointwise [k1_pay1, PROD]
  blk_point [iblk1, idx1 t]

/-- A head's turn at a row and a lane. -/
theorem pay6 (x c s : FVec Ideal S32x128 .f32) (r : Fin 32) (l : Fin 128) (p : Fin 128)
    (hp : p.val = if l.val < 16 then l.val + 16 else l.val - 16) :
    (k2_pay6 (F := Ideal) c s x : FVec Ideal S32x128 .f32) (ix2 r l) = x (ix2 r l) * c (ix2 r l) + x (ix2 r p) * s (ix2 r l) := by
  pointwise [k2_pay6, k2_pay3, k2_pay4, k2_pay5]
  have hl : l.val < 128 := l.isLt
  have hsel : IntOp.cmpi CmpIPredicate.slt (BitVec.ofNat 32 l.val) 16#32 = if l.val < 16 then 1#1 else 0#1 := by
    clear hp p hl
    revert l
    decide
  rw [hsel]
  congr 2
  show (if (if l.val < 16 then 1#1 else 0#1) = 1#1 then _ else _) = _
  by_cases h : l.val < 16
  · rw [if_pos h, if_pos rfl]
    rw [if_pos h] at hp
    exact congrArg (fun q => x (ix2 r q)) (Fin.ext (show (l.val + 128 - 112) % 128 = p.val by omega))
  · rw [if_neg h, if_neg (by decide)]
    rw [if_neg h] at hp
    exact congrArg (fun q => x (ix2 r q)) (Fin.ext (show (l.val + 128 - 16) % 128 = p.val by omega))

/-- A table's block, read whole. -/
abbrev tb (x : Vec Ideal S32x128 .f32) : Vec Ideal S32x128 .f32 := View.ld x r2_0
/-- Head 0's columns of a block. -/
abbrev hd0 (x : Vec Ideal S32x512 .f32) : Vec Ideal S32x128 .f32 := View.ld x r2_1
/-- Head 1's columns of a block. -/
abbrev hd1 (x : Vec Ideal S32x512 .f32) : Vec Ideal S32x128 .f32 := View.ld x r2_2
/-- Head 2's columns of a block. -/
abbrev hd2 (x : Vec Ideal S32x512 .f32) : Vec Ideal S32x128 .f32 := View.ld x r2_3
/-- Head 3's columns of a block. -/
abbrev hd3 (x : Vec Ideal S32x512 .f32) : Vec Ideal S32x128 .f32 := View.ld x r2_4

/-- The four stores of keys are one formula over the four heads' columns. -/
theorem out5_eq (x0 x1 : FVec Ideal S32x512 .f32) (x2 x3 : FVec Ideal S32x128 .f32) :
    out2_5 (F := Ideal) x0 x1 x2 x3 = View.canon [
      ⟨r2_4, k2_pay6 (F := Ideal) (tb x2) (tb x3) (hd3 x1)⟩, ⟨r2_3, k2_pay6 (F := Ideal) (tb x2) (tb x3) (hd2 x1)⟩,
      ⟨r2_2, k2_pay6 (F := Ideal) (tb x2) (tb x3) (hd1 x1)⟩, ⟨r2_1, k2_pay6 (F := Ideal) (tb x2) (tb x3) (hd0 x1)⟩] := rfl

/-- Head `q`'s slice of a block. -/
def slice (q : Fin 4) (x : Vec Ideal S32x512 .f32) : Vec Ideal S32x128 .f32 :=
  fun y => x (ix2 (y 0) ⟨q.val * 128 + (y 1).val, by have : (y 1).val < 128 := (y 1).isLt; omega⟩)
theorem hd0_eq (x : Vec Ideal S32x512 .f32) : hd0 x = slice 0 x := by
  funext y; pointwise [slice, hd0]
theorem hd1_eq (x : Vec Ideal S32x512 .f32) : hd1 x = slice 1 x := by
  funext y; pointwise [slice, hd1]
theorem hd2_eq (x : Vec Ideal S32x512 .f32) : hd2 x = slice 2 x := by
  funext y; pointwise [slice, hd2]
theorem hd3_eq (x : Vec Ideal S32x512 .f32) : hd3 x = slice 3 x := by
  funext y; pointwise [slice, hd3]
theorem tb_eq (x : Vec Ideal S32x128 .f32) : tb x = x := by
  funext y; pointwise [tb]

section Point
variable (c : Dev nD) (t : Fin cfg2.N) (q : Fin 4) (x : S32x128.Idx) (j : S32x1536.Idx)
    (hj0 : (j 0).val = (grid2.coords t 0).val * 32 + (x 0).val) (hj1 : (j 1).val = (grid2.coords t 1).val * 512 + q.val * 128 + (x 1).val)

include hj0 hj1 in
/-- A head's turn at a point, over a block of the columns from `off` on, is its part of the whole array. -/
theorem piece (off : ℕ) (hoff : off + 1536 ≤ 12800) (b : FVec Ideal S32x512 .f32)
    (hb : ∀ (r : Fin 32) (l : Fin 512) (i : S32x12800.Idx), (i 0).val = (grid2.coords t 0).val * 32 + r.val → (i 1).val = off + (grid2.coords t 1).val * 512 + l.val →
      b (ix2 r l) = (V c main_v8 : FVec Ideal S32x12800 .f32) i) :
    (k2_pay6 (F := Ideal) (iblk2 V c 2 t) (iblk2 V c 3 t) (slice q b) : FVec Ideal S32x128 .f32) x
      = TURN off hoff (V c main_v8) (V c main_v34) (V c main_v37) j := by
  obtain ⟨r, l, rfl⟩ : ∃ (r : Fin 32) (l : Fin 128), x = ix2 r l := ⟨x 0, x 1, by blk_ext⟩
  have hl : l.val < 128 := l.isLt
  have hr : r.val < 32 := r.isLt
  have hq : q.val < 4 := q.isLt
  have hi : (grid2.coords t 0).val < 1 := (grid2.coords t 0).isLt
  have hg : (grid2.coords t 1).val < 3 := (grid2.coords t 1).isLt
  have hj0' : (j 0).val = (grid2.coords t 0).val * 32 + r.val := hj0
  have hj1' : (j 1).val = (grid2.coords t 1).val * 512 + q.val * 128 + l.val := hj1
  have hm : (j 1).val % 128 = l.val := by omega
  refine (pay6 _ _ _ r l ⟨if l.val < 16 then l.val + 16 else l.val - 16, by split <;> omega⟩ rfl).trans ?_
  unfold TURN slice
  have e : (if (j 1).val % 128 < 16 then (j 1).val + 16 else (j 1).val - 16)
      = (grid2.coords t 1).val * 512 + q.val * 128 + (if l.val < 16 then l.val + 16 else l.val - 16) := by
    rw [hm]; split <;> omega
  congr 2
  · refine hb _ _ _ hj0' ?_
    show off + (j 1).val = off + (grid2.coords t 1).val * 512 + (q.val * 128 + l.val)
    omega
  · unfold iblk2
    blk_ext [idx2 t]
  · refine hb _ _ _ hj0' ?_
    show off + (if (j 1).val % 128 < 16 then (j 1).val + 16 else (j 1).val - 16)
      = off + (grid2.coords t 1).val * 512 + (q.val * 128 + (if l.val < 16 then l.val + 16 else l.val - 16))
    rw [e]; omega
  · unfold iblk2
    blk_ext [idx2 t]

end Point

theorem read1 (c : Dev nD) (t : Fin cfg2.N) (r : Fin 32) (l : Fin 512) (i : S32x12800.Idx) (h0 : (i 0).val = (grid2.coords t 0).val * 32 + r.val)
    (h1 : (i 1).val = 9728 + (grid2.coords t 1).val * 512 + l.val) :
    (iblk2 V c 1 t : FVec Ideal S32x512 .f32) (ix2 r l) = (V c main_v8 : FVec Ideal S32x12800 .f32) i := by
  unfold iblk2
  blk_ext [idx2 t]

/-- What a point stores of keys is its block of the whole array. -/
theorem point5 (c : Dev nD) (t : Fin cfg2.N) (y : S32x512.Idx) (j : S32x1536.Idx)
    (hj0 : (j 0).val = (grid2.coords t 0).val * 32 + (y 0).val) (hj1 : (j 1).val = (grid2.coords t 1).val * 512 + (y 1).val) :
    out2_5 (iblk2 V c 0 t) (iblk2 V c 1 t) (iblk2 V c 2 t) (iblk2 V c 3 t) y
      = TURN 9728 (by decide) (V c main_v8) (V c main_v34) (V c main_v37) j := by
  rw [out5_eq, tb_eq, tb_eq, hd0_eq, hd1_eq, hd2_eq, hd3_eq]
  canon_tiles x h
  · exact piece V c t 3 x j (by omega) (by omega) 9728 _ _ (read1 V c t)
  · exact piece V c t 2 x j (by omega) (by omega) 9728 _ _ (read1 V c t)
  · exact piece V c t 1 x j (by omega) (by omega) 9728 _ _ (read1 V c t)
  · exact piece V c t 0 x j (by omega) (by omega) 9728 _ _ (read1 V c t)

/-- The turned keys. -/
theorem final5 (c : Dev nD) : (dat2 V c).arrAt 5 cfg2.N = TURN 9728 (by decide) (V c main_v8) (V c main_v34) (V c main_v37) := by
  refine (dat2 V c).arrAt_eq_of_covers 5 _ (by decide +kernel) fun t _ y => ?_
  blk_simp
  rw [after2_5]
  refine point5 V c t y _ ?_ ?_
  all_goals (blk_simp [idx2 t] <;> try omega)

end Cert.StepIdeal.Blocks

end
-- ==== Proof.StepTail.lean ====
/- What the buffers of the sample tokens' chain hold at the end, over the arguments. -/
module

public import proofs.«01_k».proof.Proof.StepBlocks

@[expose] public section

set_option maxRecDepth 16384

noncomputable section

namespace Cert.StepIdeal.Tail

open Cert.StepIdeal Cert.StepIdeal.Gen Cert.StepIdeal.Blocks Idealize.ShloMosaic Idealize.ShloMosaic.TcCoe Idealize.SL.Sem

variable (m : (ℓ : Loc nD τ sig) → Buf (Elt Ideal) ℓ) (ρ : Dev nD → PrngReg) (c : Dev nD)

/-- The tokens. -/
abbrev argX : FVec Ideal S32x1x2048 .f32 := m ((c : Thread nD τ).loc main_arg0)
/-- The norm's weights. -/
abbrev argN : FVec Ideal S2048 .f32 := m ((c : Thread nD τ).loc main_arg1)
/-- The projection's weights. -/
abbrev argW : FVec Ideal S2048x12816 .f32 := m ((c : Thread nD τ).loc main_arg2)

/-- The token of sequence `b`. -/
abbrev tok (X : FVec Ideal S32x1x2048 .f32) (b : Fin 32) : Fin 2048 → EReal := fun k => X (ix3 b 0 k)
/-- The weights of the norm by coordinate. -/
abbrev wn (N : FVec Ideal S2048 .f32) : Fin 2048 → EReal := fun k => N (ix1 k)
/-- The weights of the projection by coordinate and column. -/
abbrev wp (W : FVec Ideal S2048x12816 .f32) : Fin 2048 → Fin 12816 → EReal := fun k n => W (ix2 k n)
/-- The projected columns, row by row. -/
def MAIN (X : FVec Ideal S32x1x2048 .f32) (N : FVec Ideal S2048 .f32) (W : FVec Ideal S2048x12816 .f32) : FVec Ideal S32x12800 .f32 :=
  fun j => Layer.main (tok X (j 0)) (wn N) (wp W) (j 1)
/-- The turned keys, row by row. -/
def KEY (X : FVec Ideal S32x1x2048 .f32) (N : FVec Ideal S2048 .f32) (W : FVec Ideal S2048x12816 .f32) : FVec Ideal S32x1536 .f32 :=
  fun j => Layer.key (tok X (j 0)) (wn N) (wp W) 16384 (j 1)

theorem x_at (r : Fin 32) (k : Fin 2048) : (V1 m ρ c main_v0 : FVec Ideal S32x2048 .f32) (ix2 r k) = tok (argX m c) r k := by
  show StableHlo.after hostOps0 (W0 m ρ c) (Proc.devRef .tc main_v0) _ = _
  after_results
  pointwise

theorem n_at (k : Fin 2048) : (V1 m ρ c main_v1 : FVec Ideal S1x2048 .f32) (ix2 0 k) = wn (argN m c) k := by
  show StableHlo.after hostOps0 (W0 m ρ c) (Proc.devRef .tc main_v1) _ = _
  after_results
  pointwise

theorem w_at (k : Fin 2048) (n : Fin 12800) : (V3 m ρ c main_v7 : FVec Ideal S2048x12800 .bf16) (ix2 k n) = wp (argW m c) k (Layer.column n) := by
  have hW : W2 m ρ c (Proc.devRef .tc main_arg2) = argW m c := W2_args m ρ c main_arg2 (by decide)
  show StableHlo.after hostOps1 (W2 m ρ c) (Proc.devRef .tc main_v7) _ = _
  generalize W2 m ρ c = Y at hW ⊢
  after_results
  pointwise
  simp only [↓ StableHlo.readResult, ↓ StableHlo.readPieces, -eq_self]
  pointwise
  rw [hW]
  have hn : n.val < 12800 := n.isLt
  have e : ∀ i : Fin 12816, i.val = (Layer.column n).val → argW m c (ix2 k i) = wp (argW m c) k (Layer.column n) :=
    fun i hi => congrArg (fun q => argW m c (ix2 k q)) (Fin.ext hi)
  by_cases h₁ : n.val < 4096
  · rw [dif_pos h₁]
    refine e _ ?_
    show 8720 + n.val = if n.val < 4096 then 8720 + n.val else if n.val < 8192 then n.val - 4096 else 4112 + (n.val - 8192)
    rw [if_pos h₁]
  · rw [dif_neg h₁]
    by_cases h₂ : n.val - 4096 < 4096
    · rw [dif_pos h₂]
      refine e _ ?_
      show n.val - 4096 = if n.val < 4096 then 8720 + n.val else if n.val < 8192 then n.val - 4096 else 4112 + (n.val - 8192)
      rw [if_neg h₁, if_pos (by omega)]
    · rw [dif_neg h₂]
      refine e _ ?_
      show 4112 + (n.val - 4096 - 4096) = if n.val < 4096 then 8720 + n.val else if n.val < 8192 then n.val - 4096 else 4112 + (n.val - 8192)
      rw [if_neg h₁, if_neg (by omega)]
      omega

/-- The projected columns as the second region leaves them. -/
theorem main_exit : (V4 m ρ c main_v8 : FVec Ideal S32x12800 .f32) = MAIN (argX m c) (argN m c) (argW m c) := by
  refine ((W4_arr m ρ c 2).trans (final1 (V3 m ρ) c)).trans ?_
  have hx : V3 m ρ c main_v2 = NORM (V1 m ρ c main_v0) (V1 m ρ c main_v1) :=
    (W3_of m ρ c main_v2 (by decide)).trans ((W2_arr m ρ c 2).trans (final0 (V1 m ρ) c))
  rw [hx]
  funext j
  obtain ⟨r, n, rfl⟩ : ∃ (r : Fin 32) (n : Fin 12800), j = ix2 r n := ⟨j 0, j 1, by blk_ext⟩
  show ∑ k : Fin 2048, Layer.norm (fun i => (V1 m ρ c main_v0 : FVec Ideal S32x2048 .f32) (ix2 r i)) (fun i => (V1 m ρ c main_v1 : FVec Ideal S1x2048 .f32) (ix2 0 i)) k
      * (V3 m ρ c main_v7 : FVec Ideal S2048x12800 .bf16) (ix2 k n) = ∑ k : Fin 2048, Layer.norm (tok (argX m c) r) (wn (argN m c)) k * wp (argW m c) k (Layer.column n)
  refine Finset.sum_congr rfl fun k _ => ?_
  rw [w_at m ρ c k n]
  exact congrArg (· * _) (Layer.norm_congr (fun i => x_at m ρ c r i) (fun i => n_at m ρ c i) rfl)

/-- They are still there when the third region starts. -/
theorem main_mid : (V5 m ρ c main_v8 : FVec Ideal S32x12800 .f32) = MAIN (argX m c) (argN m c) (argW m c) :=
  (W5_of m ρ c main_v8 (by decide)).trans (main_exit m ρ c)

/-- And when it has ended. -/
theorem main_last : (V6 m ρ c main_v8 : FVec Ideal S32x12800 .f32) = MAIN (argX m c) (argN m c) (argW m c) :=
  (W6_of m ρ c main_v8 (by decide)).trans (main_mid m ρ c)

/-- The operations up to the cosines and sines. -/
abbrev tables : List (HloOp τ sig (Elt Ideal)) := (hostOps2 (F := Ideal)).take 22
/-- The operations that lay the tables out. -/
abbrev layout : List (HloOp τ sig (Elt Ideal)) := (hostOps2 (F := Ideal)).drop 22
theorem cut (Y : Valuation τ sig (Elt Ideal)) (b : DevRef τ sig) :
    StableHlo.after (hostOps2 (F := Ideal)) Y b = StableHlo.after layout (StableHlo.after tables Y) b := rfl

theorem cos_at (Y : Valuation τ sig (Elt Ideal)) (d : Fin 16) :
    (StableHlo.after tables Y (Proc.devRef .tc main_v25) : FVec Ideal S1x16 .f32) (ix2 0 d) = Ideal.cos (Layer.angle 16384 d.val) := by
  dsimp only [tables, List.take]
  after_results
  pointwise [Layer.angle]
  rw [show IntOp.addi 16384#32 0#32 = 16384#32 from by decide]

theorem sin_at (Y : Valuation τ sig (Elt Ideal)) (d : Fin 16) :
    (StableHlo.after tables Y (Proc.devRef .tc main_v26) : FVec Ideal S1x16 .f32) (ix2 0 d) = Ideal.sin (Layer.angle 16384 d.val) := by
  dsimp only [tables, List.take]
  after_results
  pointwise [Layer.angle]
  rw [show IntOp.addi 16384#32 0#32 = 16384#32 from by decide]

set_option maxHeartbeats 1000000 in
theorem costab (r : Fin 32) (l : Fin 128) : (V5 m ρ c main_v34 : FVec Ideal S32x128 .f32) (ix2 r l)
    = if l.val < 16 then Ideal.cos (Layer.angle 16384 l.val) else if l.val < 32 then Ideal.cos (Layer.angle 16384 (l.val - 16)) else 1 := by
  show StableHlo.after hostOps2 (W4 m ρ c) (Proc.devRef .tc main_v34) _ = _
  rw [cut]
  have h := cos_at (W4 m ρ c)
  generalize StableHlo.after tables (W4 m ρ c) = Y at h ⊢
  dsimp only [layout, List.drop]
  after_results
  pointwise
  simp only [↓ StableHlo.readResult, ↓ StableHlo.readPieces, -eq_self]
  pointwise
  by_cases h₁ : l.val < 16
  · refine (dif_pos h₁).trans ?_
    rw [if_pos h₁, h]
  · refine (dif_neg h₁).trans ?_
    rw [if_neg h₁]
    by_cases h₂ : l.val - 16 < 16
    · refine (dif_pos h₂).trans ?_
      rw [if_pos (show l.val < 32 by omega), h]
    · refine (dif_neg h₂).trans ?_
      rw [if_neg (show ¬ l.val < 32 by omega)]

set_option maxHeartbeats 1000000 in
theorem sintab (r : Fin 32) (l : Fin 128) : (V5 m ρ c main_v37 : FVec Ideal S32x128 .f32) (ix2 r l)
    = if l.val < 16 then -Ideal.sin (Layer.angle 16384 l.val) else if l.val < 32 then Ideal.sin (Layer.angle 16384 (l.val - 16)) else 0 := by
  show StableHlo.after hostOps2 (W4 m ρ c) (Proc.devRef .tc main_v37) _ = _
  rw [cut]
  have h := sin_at (W4 m ρ c)
  generalize StableHlo.after tables (W4 m ρ c) = Y at h ⊢
  dsimp only [layout, List.drop]
  after_results
  pointwise
  simp only [↓ StableHlo.readResult, ↓ StableHlo.readPieces, -eq_self]
  pointwise
  by_cases h₁ : l.val < 16
  · refine (dif_pos h₁).trans ?_
    rw [if_pos h₁, h]
  · refine (dif_neg h₁).trans ?_
    rw [if_neg h₁]
    by_cases h₂ : l.val - 16 < 16
    · refine (dif_pos h₂).trans ?_
      rw [if_pos (show l.val < 32 by omega), h]
    · refine (dif_neg h₂).trans ?_
      rw [if_neg (show ¬ l.val < 32 by omega)]

/-- The columns from `8192` on are the input projection's from `4112` on. -/
theorem main_query (X : FVec Ideal S32x1x2048 .f32) (N : FVec Ideal S2048 .f32) (W : FVec Ideal S2048x12816 .f32) (r : Fin 32) (n : Fin 12800)
    (i : Fin 12816) (h₀ : 8192 ≤ n.val) (h : i.val + 4080 = n.val) : MAIN X N W (ix2 r n) = Layer.proj (tok X r) (wn N) (wp W) i := by
  refine Layer.proj_congr _ _ _ ?_
  show (if n.val < 4096 then 8720 + n.val else if n.val < 8192 then n.val - 4096 else 4112 + (n.val - 8192)) = i.val
  rw [if_neg (by omega), if_neg (by omega)]
  omega

/-- The turned columns over the arguments. -/
theorem turned (off : ℕ) (hoff : off + 1536 ≤ 12800) (h₀ : 8192 ≤ off) (r : Fin 32) (n : Fin 1536) :
    TURN off hoff (V5 m ρ c main_v8) (V5 m ρ c main_v34) (V5 m ρ c main_v37) (ix2 r n)
      = Layer.turn (fun i => Layer.proj (tok (argX m c) r) (wn (argN m c)) (wp (argW m c)) ⟨off - 4080 + i.val, by omega⟩) 16384 n := by
  have hn : n.val < 1536 := n.isLt
  rw [main_mid m ρ c]
  unfold TURN
  refine Eq.trans (congrArg₂ (· + ·) (congrArg (· * _) (main_query _ _ _ r ⟨off + n.val, by omega⟩ ⟨off - 4080 + n.val, by omega⟩
    (show 8192 ≤ off + n.val by omega) (show off - 4080 + n.val + 4080 = off + n.val by omega))) rfl) ?_
  refine Layer.turn_of_tables (fun i => Layer.proj (tok (argX m c) r) (wn (argN m c)) (wp (argW m c)) ⟨off - 4080 + i.val, by omega⟩)
    16384 n _ _ _ (costab m ρ c r ⟨n.val % 128, by omega⟩) (sintab m ρ c r ⟨n.val % 128, by omega⟩) (fun h i hi => ?_) (fun h i hi => ?_)
  · refine main_query _ _ _ r _ _ ?_ ?_
    · show 8192 ≤ off + (if n.val % 128 < 16 then n.val + 16 else n.val - 16)
      omega
    · show off - 4080 + i.val + 4080 = off + (if n.val % 128 < 16 then n.val + 16 else n.val - 16)
      rw [if_pos h]; omega
  · refine main_query _ _ _ r _ _ ?_ ?_
    · show 8192 ≤ off + (if n.val % 128 < 16 then n.val + 16 else n.val - 16)
      omega
    · show off - 4080 + i.val + 4080 = off + (if n.val % 128 < 16 then n.val + 16 else n.val - 16)
      rw [if_neg h]; omega

theorem key_last : (V6 m ρ c main_v38_1 : FVec Ideal S32x1536 .f32) = KEY (argX m c) (argN m c) (argW m c) := by
  refine ((W6_arr m ρ c 5).trans (final5 (V5 m ρ) c)).trans (funext fun j => ?_)
  obtain ⟨r, n, rfl⟩ : ∃ (r : Fin 32) (n : Fin 1536), j = ix2 r n := ⟨j 0, j 1, by blk_ext⟩
  exact turned m ρ c 9728 (by decide) (by decide) r n

end Cert.StepIdeal.Tail

end
-- ==== Proof.StepCache.lean ====
/- What the chain leaves in the state and the caches, over the arguments. -/
module

public import proofs.«01_k».proof.Proof.StepTail

@[expose] public section

set_option maxRecDepth 16384

noncomputable section

namespace Cert.StepIdeal.Tail

open Cert.StepIdeal Cert.StepIdeal.Gen Cert.StepIdeal.Blocks Idealize.ShloMosaic Idealize.ShloMosaic.TcCoe Idealize.SL.Sem

variable (m : (ℓ : Loc nD τ sig) → Buf (Elt Ideal) ℓ) (ρ : Dev nD → PrngReg) (c : Dev nD)

/-- A key of the cache. -/
theorem key_of (X : FVec Ideal S32x1x2048 .f32) (N : FVec Ideal S2048 .f32) (W : FVec Ideal S2048x12816 .f32) (r : Fin 32) (n n' : Fin 1536)
    (b : Fin 32) (e : r.val = b.val) (hn : n.val = n'.val) : KEY X N W (ix2 r n) = Layer.key (tok X b) (wn N) (wp W) 16384 n' := by
  obtain rfl : r = b := Fin.ext e
  obtain rfl : n = n' := Fin.ext hn
  rfl

/-- A column. -/
theorem main_of (X : FVec Ideal S32x1x2048 .f32) (N : FVec Ideal S2048 .f32) (W : FVec Ideal S2048x12816 .f32) (r : Fin 32) (n : Fin 12800)
    (b : Fin 32) (e : r.val = b.val) : MAIN X N W (ix2 r n) = Layer.main (tok X b) (wn N) (wp W) n := by
  obtain rfl : r = b := Fin.ext e
  rfl

/-- A value of the cache. -/
theorem value_of (X : FVec Ideal S32x1x2048 .f32) (N : FVec Ideal S2048 .f32) (W : FVec Ideal S2048x12816 .f32) (r : Fin 32) (n : Fin 12800) (n' : Fin 1536)
    (b : Fin 32) (e : r.val = b.val) (hn : n.val = 11264 + n'.val) :
    MAIN X N W (ix2 r n) = Layer.value (tok X b) (wn N) (wp W) n' := by
  refine (main_of X N W r n b e).trans (Layer.proj_congr _ _ _ ?_)
  show (if n.val < 4096 then 8720 + n.val else if n.val < 8192 then n.val - 4096 else 4112 + (n.val - 8192)) = 7184 + n'.val
  rw [if_neg (by omega), if_neg (by omega)]
  omega

theorem spread (x : FVec Ideal S32x1x4x128 .f32) (b : Fin 32) (r : Fin 1) (z : Fin 1) (q : Fin 4) (d : Fin 128) :
    broadcastInDim S32x1x1x4x128 ![0, 1, 3, 4] bcast_S32x1x4x128_S32x1x1x4x128_0_1_3_4 x (ix5 b r z q d) = x (ix4 b r q d) :=
  broadcastInDim_apply _ bcast_S32x1x4x128_S32x1x1x4x128_0_1_3_4 x (ix5 b r z q d) (ix4 b r q d) (fun a => match a with
    | ⟨0, _⟩ => by show b.val = if (32 : Nat) = 1 then 0 else b.val; rw [if_neg (by decide)]
    | ⟨1, _⟩ => by show r.val = if (1 : Nat) = 1 then 0 else r.val; rw [if_pos rfl]; omega
    | ⟨2, _⟩ => by show q.val = if (4 : Nat) = 1 then 0 else q.val; rw [if_neg (by decide)]
    | ⟨3, _⟩ => by show d.val = if (128 : Nat) = 1 then 0 else d.val; rw [if_neg (by decide)])

/-- A key and a value stacked. -/
theorem pair (x y : FVec Ideal S32x1x4x128 .f32) (b : Fin 32) (z : Fin 2) (q : Fin 4) (d : Fin 128) :
    (concatenate S32x1x2x4x128 2 [⟨S32x1x1x4x128, (broadcastInDim S32x1x1x4x128 ![0, 1, 3, 4] bcast_S32x1x4x128_S32x1x1x4x128_0_1_3_4 x : FVec Ideal S32x1x1x4x128 .f32)⟩,
      ⟨S32x1x1x4x128, (broadcastInDim S32x1x1x4x128 ![0, 1, 3, 4] bcast_S32x1x4x128_S32x1x1x4x128_0_1_3_4 y : FVec Ideal S32x1x1x4x128 .f32)⟩]
      concatenates_S32x1x1x4x128_S32x1x1x4x128_S32x1x2x4x128_d2 : FVec Ideal S32x1x2x4x128 .f32) (ix5 b 0 z q d) = if z.val < 1 then x (ix4 b 0 q d) else y (ix4 b 0 q d) := by
  have hx := fun z => spread x b 0 z q d
  have hy := fun z => spread y b 0 z q d
  generalize broadcastInDim S32x1x1x4x128 ![0, 1, 3, 4] bcast_S32x1x4x128_S32x1x1x4x128_0_1_3_4 x = P at hx ⊢
  generalize broadcastInDim S32x1x1x4x128 ![0, 1, 3, 4] bcast_S32x1x4x128_S32x1x1x4x128_0_1_3_4 y = Q at hy ⊢
  pointwise
  by_cases hz : z.val < 1
  · rw [if_pos hz]
    exact (dif_pos hz).trans (hx _)
  · rw [if_neg hz]
    exact (dif_neg hz).trans (hy _)

/-- The state a row on. -/
theorem shift (C : FVec Ideal S32x3x3072 .f32) (x : FVec Ideal S32x1x3072 .f32) (b : Fin 32) (r : Fin 3) (n : Fin 3072) :
    (extractStridedSlice S32x3x3072 ![0, 1, 0] (concatenate S32x4x3072 1 [⟨S32x3x3072, C⟩, ⟨S32x1x3072, x⟩] concatenates_S32x3x3072_S32x1x3072_S32x4x3072_d1 : FVec Ideal S32x4x3072 .f32)
      slices_S32x4x3072_S32x3x3072_0_1_0 : FVec Ideal S32x3x3072 .f32) (ix3 b r n)
    = if h : r.val + 1 < 3 then C (ix3 b ⟨r.val + 1, h⟩ n) else x (ix3 b 0 n) := by
  generalize hR : dite (r.val + 1 < 3) _ _ = R
  pointwise
  subst hR
  by_cases h : r.val + 1 < 3
  · rw [dif_pos h]
    refine (dif_pos (show 1 + r.val < 3 by omega)).trans ?_
    exact congrArg (fun i => C (ix3 b i n)) (Fin.ext (show 1 + r.val = r.val + 1 by omega))
  · rw [dif_neg h]
    refine (dif_neg (show ¬ 1 + r.val < 3 by omega)).trans ?_
    exact congrArg (fun i => x (ix3 b i n)) (Subsingleton.elim _ _)

set_option maxHeartbeats 1000000 in
theorem conv_end (b : Fin 32) (r : Fin 3) (n : Fin 3072) : (W7 m ρ c (Proc.devRef .tc main_v43) : FVec Ideal S32x3x3072 .f32) (ix3 b r n)
    = if h : r.val + 1 < 3 then (m ((c : Thread nD τ).loc main_arg3) : FVec Ideal S32x3x3072 .f32) (ix3 b ⟨r.val + 1, h⟩ n)
      else Layer.proj (tok (argX m c) b) (wn (argN m c)) (wp (argW m c)) ⟨n.val, by omega⟩ := by
  have hm : W6 m ρ c (Proc.devRef .tc main_v8) = MAIN (argX m c) (argN m c) (argW m c) := main_last m ρ c
  have ha : W6 m ρ c (Proc.devRef .tc main_arg3) = m ((c : Thread nD τ).loc main_arg3) := W6_args m ρ c main_arg3 (by decide)
  show StableHlo.after hostOps3 (W6 m ρ c) (Proc.devRef .tc main_v43) _ = _
  generalize W6 m ρ c = Y at hm ha ⊢
  generalize hR : dite (r.val + 1 < 3) _ _ = R
  after_results
  rw [hm, ha]
  refine (shift _ _ b r n).trans ?_
  subst hR
  by_cases h : r.val + 1 < 3
  · rw [dif_pos h, dif_pos h]
  · rw [dif_neg h, dif_neg h]
    generalize hR : Layer.proj _ _ _ _ = R
    pointwise
    subst hR
    refine (main_of _ _ _ _ _ b (by blk_simp <;> omega)).trans (Layer.proj_congr _ _ _ ?_)
    have hn : n.val < 3072 := n.isLt
    show (if 4096 + n.val < 4096 then 8720 + (4096 + n.val) else if 4096 + n.val < 8192 then 4096 + n.val - 4096 else 4112 + (4096 + n.val - 8192)) = n.val
    rw [if_neg (by omega), if_pos (by omega)]
    omega

/-- The cache a row on. -/
theorem shift0 (C : FVec Ideal S32x128x2x4x128 .f32) (x : FVec Ideal S32x1x2x4x128 .f32) (b : Fin 32) (r : Fin 128) (z : Fin 2) (q : Fin 4) (d : Fin 128) :
    (extractStridedSlice S32x128x2x4x128 ![0, 1, 0, 0, 0] (concatenate S32x129x2x4x128 1 [⟨S32x128x2x4x128, C⟩, ⟨S32x1x2x4x128, x⟩]
      concatenates_S32x128x2x4x128_S32x1x2x4x128_S32x129x2x4x128_d1 : FVec Ideal S32x129x2x4x128 .f32)
      slices_S32x129x2x4x128_S32x128x2x4x128_0_1_0_0_0 : FVec Ideal S32x128x2x4x128 .f32) (ix5 b r z q d)
    = if h : r.val + 1 < 128 then C (ix5 b ⟨r.val + 1, h⟩ z q d) else x (ix5 b 0 z q d) := by
  generalize hR : dite (r.val + 1 < 128) _ _ = R
  pointwise
  subst hR
  by_cases h : r.val + 1 < 128
  · rw [dif_pos h]
    refine (dif_pos (show 1 + r.val < 128 by omega)).trans ?_
    exact congrArg (fun i => C (ix5 b i z q d)) (Fin.ext (show 1 + r.val = r.val + 1 by omega))
  · rw [dif_neg h]
    refine (dif_neg (show ¬ 1 + r.val < 128 by omega)).trans ?_
    exact congrArg (fun i => x (ix5 b i z q d)) (Subsingleton.elim _ _)

set_option maxHeartbeats 1000000 in
theorem cache0_end (b : Fin 32) (r : Fin 128) (z : Fin 2) (q : Fin 4) (d : Fin 128) : (W7 m ρ c (Proc.devRef .tc main_v52) : FVec Ideal S32x128x2x4x128 .f32) (ix5 b r z q d)
    = if h : r.val + 1 < 128 then (m ((c : Thread nD τ).loc main_arg4) : FVec Ideal S32x128x2x4x128 .f32) (ix5 b ⟨r.val + 1, h⟩ z q d)
      else Layer.cache (tok (argX m c) b) (wn (argN m c)) (wp (argW m c)) 16384 0 z ⟨q.val * 128 + d.val, by omega⟩ := by
  have hm : W6 m ρ c (Proc.devRef .tc main_v8) = MAIN (argX m c) (argN m c) (argW m c) := main_last m ρ c
  have hk : W6 m ρ c (Proc.devRef .tc main_v38_1) = KEY (argX m c) (argN m c) (argW m c) := key_last m ρ c
  have ha : W6 m ρ c (Proc.devRef .tc main_arg4) = m ((c : Thread nD τ).loc main_arg4) := W6_args m ρ c main_arg4 (by decide)
  show StableHlo.after hostOps3 (W6 m ρ c) (Proc.devRef .tc main_v52) _ = _
  generalize W6 m ρ c = Y at hm hk ha ⊢
  generalize hR : dite (r.val + 1 < 128) _ _ = R
  after_results
  rw [hm, hk, ha]
  refine (shift0 _ _ b r z q d).trans ?_
  subst hR
  by_cases h : r.val + 1 < 128
  · rw [dif_pos h, dif_pos h]
  · rw [dif_neg h, dif_neg h]
    refine (pair _ _ b z q d).trans ?_
    unfold Layer.cache
    by_cases hz : z.val < 1
    · rw [if_pos hz, if_pos hz]
      generalize hR : Layer.key _ _ _ _ _ = R
      pointwise
      subst hR
      refine key_of _ _ _ _ _ _ b (by blk_simp <;> omega) ?_
      show (q.val * 128 + d.val) = 0 * 512 + (q.val * 128 + d.val)
      omega
    · rw [if_neg hz, if_neg hz]
      generalize hR : Layer.value _ _ _ _ = R
      pointwise
      subst hR
      refine value_of _ _ _ _ _ _ b (by blk_simp <;> omega) ?_
      show 11264 + (q.val * 128 + d.val) = 11264 + (0 * 512 + (q.val * 128 + d.val))
      omega

/-- The cache a row on. -/
theorem shift1 (C : FVec Ideal S32x512x2x4x128 .f32) (x : FVec Ideal S32x1x2x4x128 .f32) (b : Fin 32) (r : Fin 512) (z : Fin 2) (q : Fin 4) (d : Fin 128) :
    (extractStridedSlice S32x512x2x4x128 ![0, 1, 0, 0, 0] (concatenate S32x513x2x4x128 1 [⟨S32x512x2x4x128, C⟩, ⟨S32x1x2x4x128, x⟩]
      concatenates_S32x512x2x4x128_S32x1x2x4x128_S32x513x2x4x128_d1 : FVec Ideal S32x513x2x4x128 .f32)
      slices_S32x513x2x4x128_S32x512x2x4x128_0_1_0_0_0 : FVec Ideal S32x512x2x4x128 .f32) (ix5 b r z q d)
    = if h : r.val + 1 < 512 then C (ix5 b ⟨r.val + 1, h⟩ z q d) else x (ix5 b 0 z q d) := by
  generalize hR : dite (r.val + 1 < 512) _ _ = R
  pointwise
  subst hR
  by_cases h : r.val + 1 < 512
  · rw [dif_pos h]
    refine (dif_pos (show 1 + r.val < 512 by omega)).trans ?_
    exact congrArg (fun i => C (ix5 b i z q d)) (Fin.ext (show 1 + r.val = r.val + 1 by omega))
  · rw [dif_neg h]
    refine (dif_neg (show ¬ 1 + r.val < 512 by omega)).trans ?_
    exact congrArg (fun i => x (ix5 b i z q d)) (Subsingleton.elim _ _)

set_option maxHeartbeats 1000000 in
theorem cache1_end (b : Fin 32) (r : Fin 512) (z : Fin 2) (q : Fin 4) (d : Fin 128) : (W7 m ρ c (Proc.devRef .tc main_v61) : FVec Ideal S32x512x2x4x128 .f32) (ix5 b r z q d)
    = if h : r.val + 1 < 512 then (m ((c : Thread nD τ).loc main_arg5) : FVec Ideal S32x512x2x4x128 .f32) (ix5 b ⟨r.val + 1, h⟩ z q d)
      else Layer.cache (tok (argX m c) b) (wn (argN m c)) (wp (argW m c)) 16384 1 z ⟨q.val * 128 + d.val, by omega⟩ := by
  have hm : W6 m ρ c (Proc.devRef .tc main_v8) = MAIN (argX m c) (argN m c) (argW m c) := main_last m ρ c
  have hk : W6 m ρ c (Proc.devRef .tc main_v38_1) = KEY (argX m c) (argN m c) (argW m c) := key_last m ρ c
  have ha : W6 m ρ c (Proc.devRef .tc main_arg5) = m ((c : Thread nD τ).loc main_arg5) := W6_args m ρ c main_arg5 (by decide)
  show StableHlo.after hostOps3 (W6 m ρ c) (Proc.devRef .tc main_v61) _ = _
  generalize W6 m ρ c = Y at hm hk ha ⊢
  generalize hR : dite (r.val + 1 < 512) _ _ = R
  after_results
  rw [hm, hk, ha]
  refine (shift1 _ _ b r z q d).trans ?_
  subst hR
  by_cases h : r.val + 1 < 512
  · rw [dif_pos h, dif_pos h]
  · rw [dif_neg h, dif_neg h]
    refine (pair _ _ b z q d).trans ?_
    unfold Layer.cache
    by_cases hz : z.val < 1
    · rw [if_pos hz, if_pos hz]
      generalize hR : Layer.key _ _ _ _ _ = R
      pointwise
      subst hR
      refine key_of _ _ _ _ _ _ b (by blk_simp <;> omega) ?_
      show 512 + (q.val * 128 + d.val) = 1 * 512 + (q.val * 128 + d.val)
      omega
    · rw [if_neg hz, if_neg hz]
      generalize hR : Layer.value _ _ _ _ = R
      pointwise
      subst hR
      refine value_of _ _ _ _ _ _ b (by blk_simp <;> omega) ?_
      show 11776 + (q.val * 128 + d.val) = 11264 + (1 * 512 + (q.val * 128 + d.val))
      omega

/-- The cache a row on. -/
theorem shift2 (C : FVec Ideal S32x2048x2x4x128 .f32) (x : FVec Ideal S32x1x2x4x128 .f32) (b : Fin 32) (r : Fin 2048) (z : Fin 2) (q : Fin 4) (d : Fin 128) :
    (extractStridedSlice S32x2048x2x4x128 ![0, 1, 0, 0, 0] (concatenate S32x2049x2x4x128 1 [⟨S32x2048x2x4x128, C⟩, ⟨S32x1x2x4x128, x⟩]
      concatenates_S32x2048x2x4x128_S32x1x2x4x128_S32x2049x2x4x128_d1 : FVec Ideal S32x2049x2x4x128 .f32)
      slices_S32x2049x2x4x128_S32x2048x2x4x128_0_1_0_0_0 : FVec Ideal S32x2048x2x4x128 .f32) (ix5 b r z q d)
    = if h : r.val + 1 < 2048 then C (ix5 b ⟨r.val + 1, h⟩ z q d) else x (ix5 b 0 z q d) := by
  generalize hR : dite (r.val + 1 < 2048) _ _ = R
  pointwise
  subst hR
  by_cases h : r.val + 1 < 2048
  · rw [dif_pos h]
    refine (dif_pos (show 1 + r.val < 2048 by omega)).trans ?_
    exact congrArg (fun i => C (ix5 b i z q d)) (Fin.ext (show 1 + r.val = r.val + 1 by omega))
  · rw [dif_neg h]
    refine (dif_neg (show ¬ 1 + r.val < 2048 by omega)).trans ?_
    exact congrArg (fun i => x (ix5 b i z q d)) (Subsingleton.elim _ _)

set_option maxHeartbeats 1000000 in
theorem cache2_end (b : Fin 32) (r : Fin 2048) (z : Fin 2) (q : Fin 4) (d : Fin 128) : (W7 m ρ c (Proc.devRef .tc main_v70) : FVec Ideal S32x2048x2x4x128 .f32) (ix5 b r z q d)
    = if h : r.val + 1 < 2048 then (m ((c : Thread nD τ).loc main_arg6) : FVec Ideal S32x2048x2x4x128 .f32) (ix5 b ⟨r.val + 1, h⟩ z q d)
      else Layer.cache (tok (argX m c) b) (wn (argN m c)) (wp (argW m c)) 16384 2 z ⟨q.val * 128 + d.val, by omega⟩ := by
  have hm : W6 m ρ c (Proc.devRef .tc main_v8) = MAIN (argX m c) (argN m c) (argW m c) := main_last m ρ c
  have hk : W6 m ρ c (Proc.devRef .tc main_v38_1) = KEY (argX m c) (argN m c) (argW m c) := key_last m ρ c
  have ha : W6 m ρ c (Proc.devRef .tc main_arg6) = m ((c : Thread nD τ).loc main_arg6) := W6_args m ρ c main_arg6 (by decide)
  show StableHlo.after hostOps3 (W6 m ρ c) (Proc.devRef .tc main_v70) _ = _
  generalize W6 m ρ c = Y at hm hk ha ⊢
  generalize hR : dite (r.val + 1 < 2048) _ _ = R
  after_results
  rw [hm, hk, ha]
  refine (shift2 _ _ b r z q d).trans ?_
  subst hR
  by_cases h : r.val + 1 < 2048
  · rw [dif_pos h, dif_pos h]
  · rw [dif_neg h, dif_neg h]
    refine (pair _ _ b z q d).trans ?_
    unfold Layer.cache
    by_cases hz : z.val < 1
    · rw [if_pos hz, if_pos hz]
      generalize hR : Layer.key _ _ _ _ _ = R
      pointwise
      subst hR
      refine key_of _ _ _ _ _ _ b (by blk_simp <;> omega) ?_
      show 1024 + (q.val * 128 + d.val) = 2 * 512 + (q.val * 128 + d.val)
      omega
    · rw [if_neg hz, if_neg hz]
      generalize hR : Layer.value _ _ _ _ = R
      pointwise
      subst hR
      refine value_of _ _ _ _ _ _ b (by blk_simp <;> omega) ?_
      show 12288 + (q.val * 128 + d.val) = 11264 + (2 * 512 + (q.val * 128 + d.val))
      omega

end Cert.StepIdeal.Tail

end
-- ==== Proof.StepRead.lean ====
module

public import proofs.«01_k».proof.Proof.Gen.StepRefIdeal.Read
public import proofs.«01_k».proof.Proof.Layer
public import Idealize.ShloMosaic.Lib.Pointwise
public import Idealize.ShloMosaic.Lib.Pipeline.ValueKit

@[expose] public section

set_option maxRecDepth 16384

noncomputable section

namespace Cert.StepRefIdeal.Value

open Cert.StepRefIdeal Cert.StepRefIdeal.Gen Cert.StepRefIdeal.Read Idealize.ShloMosaic Idealize.ShloMosaic.TcCoe Idealize.SL.Sem

variable (X : FVec Ideal S32x1x2048 .f32) (N : FVec Ideal S2048 .f32) (W : FVec Ideal S2048x12816 .f32)

theorem dite_cases {p : Prop} [Decidable p] {a : p → EReal} {b : ¬ p → EReal} {e : EReal} (h₁ : ∀ h, a h = e) (h₂ : ∀ h, b h = e) : dite p a b = e := by
  by_cases hp : p
  · rw [dif_pos hp, h₁ hp]
  · rw [dif_neg hp, h₂ hp]

/-- The projection of sequence `b`'s token at a column. -/
abbrev h (b : Fin 32) (n : Fin 12816) : EReal :=
  Layer.proj (fun k => X (ix3 b 0 k)) (fun k => N (ix1 k)) (fun k n => W (ix2 k n)) n

theorem v13 (b : Fin 32) (t : Fin 1) (n : Fin 12816) : (val_main_v13 (F := Ideal) X N W : FVec Ideal S32x1x12816 .f32) (ix3 b t n) = h X N W b n := by
  obtain rfl : t = 0 := Subsingleton.elim _ _
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, h, Layer.proj, Layer.norm]

theorem v61 (b : Fin 32) (t : Fin 1) (g : Fin 3) (q : Fin 4) (d : Fin 128) (n : Fin 1536) (e : n.val = g.val * 512 + q.val * 128 + d.val) :
    (val_main_v61 (F := Ideal) X N W : FVec Ideal S32x1x3x4x128 .f32) (ix5 b t g q d)
      = Layer.value (fun k => X (ix3 b 0 k)) (fun k => N (ix1 k)) (fun k n => W (ix2 k n)) n := by
  obtain rfl : t = 0 := Subsingleton.elim _ _
  pointwise [val_main_v61, val_main_v22]
  rw [v13]
  refine Layer.proj_congr _ _ _ ?_
  show 7184 + (g.val * 512 + q.val * 128 + d.val) = 7184 + n.val
  omega

set_option maxHeartbeats 1000000 in
theorem v60 (b : Fin 32) (t : Fin 1) (g : Fin 3) (q : Fin 4) (d : Fin 128) (n : Fin 1536) (e : n.val = g.val * 512 + q.val * 128 + d.val) :
    (val_main_v60 (F := Ideal) X N W : FVec Ideal S32x1x3x4x128 .f32) (ix5 b t g q d)
      = Layer.key (fun k => X (ix3 b 0 k)) (fun k => N (ix1 k)) (fun k n => W (ix2 k n)) 16384 n := by
  obtain rfl : t = 0 := Subsingleton.elim _ _
  have hd : d.val < 128 := d.isLt
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v21, val_main_c, val_main_cst_2, val_main_cst_3, val_main_cst_4]
  simp only [v13, show IntOp.addi 16384#32 0#32 = 16384#32 from by decide]
  have ed : n.val % 128 = d.val := by omega
  by_cases h₂ : d.val < 32
  · refine (dif_pos h₂).trans ?_
    by_cases h₁ : d.val < 16
    · refine (dif_pos h₁).trans (Layer.turn_lo (fun i => h X N W b ⟨5648 + i.val, by omega⟩) 16384 n d.val ed h₁ _ _ (Layer.proj_congr _ _ _ ?_) fun i hi => Layer.proj_congr _ _ _ ?_)
      · show 5648 + (g.val * 512 + q.val * 128 + d.val) = 5648 + n.val
        omega
      · show 5648 + (g.val * 512 + q.val * 128 + (16 + d.val)) = 5648 + i.val
        omega
    · refine (dif_neg h₁).trans (Layer.turn_hi (fun i => h X N W b ⟨5648 + i.val, by omega⟩) 16384 n d.val ed h₁ h₂ _ _ (Layer.proj_congr _ _ _ ?_) fun i hi => Layer.proj_congr _ _ _ ?_)
      · show 5648 + (g.val * 512 + q.val * 128 + (16 + (d.val - 16))) = 5648 + n.val
        omega
      · show 5648 + (g.val * 512 + q.val * 128 + (d.val - 16)) = 5648 + i.val
        omega
  · refine (dif_neg h₂).trans (Eq.trans (Layer.proj_congr _ _ _ ?_) (Layer.turn_past (fun i => h X N W b ⟨5648 + i.val, by omega⟩) 16384 n (by omega)))
    show 5648 + (g.val * 512 + q.val * 128 + (32 + (d.val - 32))) = 5648 + n.val
    omega

theorem v62 (b : Fin 32) (t : Fin 1) (n : Fin 3072) : (val_main_v62 (F := Ideal) X N W : FVec Ideal S32x1x3072 .f32) (ix3 b t n)
    = Layer.proj (fun k => X (ix3 b 0 k)) (fun k => N (ix1 k)) (fun k n => W (ix2 k n)) ⟨n.val, by omega⟩ := by
  have hn : n.val < 3072 := n.isLt
  obtain rfl : t = 0 := Subsingleton.elim _ _
  pointwise [val_main_v62, val_main_v14, val_main_v15, val_main_v16]
  simp only [v13]
  refine dite_cases (fun h₁ => ?_) (fun h₁ => dite_cases (fun h₂ => ?_) (fun h₂ => ?_))
  all_goals
    refine Layer.proj_congr _ _ _ ?_
    first
      | (dsimp only; done)
      | (dsimp only; omega)

theorem v64 (C : FVec Ideal S32x3x3072 .f32) (b : Fin 32) (r : Fin 3) (n : Fin 3072) : (val_main_v64 (F := Ideal) X N W C : FVec Ideal S32x3x3072 .f32) (ix3 b r n)
    = if h : r.val + 1 < 3 then C (ix3 b ⟨r.val + 1, h⟩ n) else Layer.proj (fun k => X (ix3 b 0 k)) (fun k => N (ix1 k)) (fun k n => W (ix2 k n)) ⟨n.val, by omega⟩ := by
  generalize hR : dite (r.val + 1 < 3) _ _ = R
  pointwise [val_main_v64, val_main_v63]
  subst hR
  by_cases h : r.val + 1 < 3
  · rw [dif_pos h]
    refine (dif_pos (show 1 + r.val < 3 by omega)).trans ?_
    exact congrArg (fun i => C (ix3 b i n)) (Fin.ext (show 1 + r.val = r.val + 1 by omega))
  · rw [dif_neg h]
    exact (dif_neg (show ¬ 1 + r.val < 3 by omega)).trans (v62 X N W b _ n)

end Cert.StepRefIdeal.Value

end
-- ==== Proof.StepRes.lean ====
module

public import proofs.«01_k».proof.Proof.StepRead
public import proofs.«01_k».proof.Proof.Gen.StepRefIdeal.Read
public import proofs.«01_k».proof.Proof.Layer
public import Idealize.ShloMosaic.Lib.Pointwise
public import Idealize.ShloMosaic.Lib.Pipeline.ValueKit

@[expose] public section

set_option maxRecDepth 16384

noncomputable section

namespace Cert.StepRefIdeal.Value

open Cert.StepRefIdeal Cert.StepRefIdeal.Gen Cert.StepRefIdeal.Read Idealize.ShloMosaic Idealize.ShloMosaic.TcCoe Idealize.SL.Sem

variable (X : FVec Ideal S32x1x2048 .f32) (N : FVec Ideal S2048 .f32) (W : FVec Ideal S2048x12816 .f32)

theorem i75 (b : Fin 32) (t : Fin 129) (z : Fin 1) (q : Fin 4) (d : Fin 128) : idx_main_v75 (ix5 b t z q d) = ix4 b t q d := by
  funext a
  match a with
  | ⟨0, _⟩ => rfl
  | ⟨1, _⟩ => rfl
  | ⟨2, _⟩ => rfl
  | ⟨3, _⟩ => rfl

theorem v75 (C : FVec Ideal S32x128x2x4x128 .f32) (b : Fin 32) (t : Fin 129) (z : Fin 1) (q : Fin 4) (d : Fin 128) :
    val_main_v75 (F := Ideal) X N W C (ix5 b t z q d) = val_main_v69 (F := Ideal) X N W C (ix4 b t q d) := by
  rw [val_main_v75_apply, i75]

theorem i76 (b : Fin 32) (t : Fin 129) (z : Fin 1) (q : Fin 4) (d : Fin 128) : idx_main_v76 (ix5 b t z q d) = ix4 b t q d := by
  funext a
  match a with
  | ⟨0, _⟩ => rfl
  | ⟨1, _⟩ => rfl
  | ⟨2, _⟩ => rfl
  | ⟨3, _⟩ => rfl

theorem v76 (C : FVec Ideal S32x128x2x4x128 .f32) (b : Fin 32) (t : Fin 129) (z : Fin 1) (q : Fin 4) (d : Fin 128) :
    val_main_v76 (F := Ideal) X N W C (ix5 b t z q d) = val_main_v74 (F := Ideal) X N W C (ix4 b t q d) := by
  rw [val_main_v76_apply, i76]

theorem v69 (C : FVec Ideal S32x128x2x4x128 .f32) (b : Fin 32) (t : Fin 129) (q : Fin 4) (d : Fin 128) :
    (val_main_v69 (F := Ideal) X N W C : FVec Ideal S32x129x4x128 .f32) (ix4 b t q d)
    = if h : t.val < 128 then C (ix5 b ⟨t.val, h⟩ 0 q d)
      else Layer.key (fun k => X (ix3 b 0 k)) (fun k => N (ix1 k)) (fun k n => W (ix2 k n)) 16384 ⟨0 * 512 + (q.val * 128 + d.val), by omega⟩ := by
  generalize hR : dite (t.val < 128) _ _ = R
  pointwise [val_main_v69, val_main_v66, val_main_v65, val_main_v68, val_main_v67]
  subst hR
  by_cases h : t.val < 128
  · rw [dif_pos h, dif_pos h]
  · rw [dif_neg h, dif_neg h]
    refine v60 X N W b _ _ _ _ _ ?_
    show 0 * 512 + (q.val * 128 + d.val) = 0 * 512 + q.val * 128 + d.val
    omega

theorem v74 (C : FVec Ideal S32x128x2x4x128 .f32) (b : Fin 32) (t : Fin 129) (q : Fin 4) (d : Fin 128) :
    (val_main_v74 (F := Ideal) X N W C : FVec Ideal S32x129x4x128 .f32) (ix4 b t q d)
    = if h : t.val < 128 then C (ix5 b ⟨t.val, h⟩ 1 q d)
      else Layer.value (fun k => X (ix3 b 0 k)) (fun k => N (ix1 k)) (fun k n => W (ix2 k n)) ⟨0 * 512 + (q.val * 128 + d.val), by omega⟩ := by
  generalize hR : dite (t.val < 128) _ _ = R
  pointwise [val_main_v74, val_main_v71, val_main_v70, val_main_v73, val_main_v72]
  subst hR
  by_cases h : t.val < 128
  · rw [dif_pos h, dif_pos h]
  · rw [dif_neg h, dif_neg h]
    refine v61 X N W b _ _ _ _ _ ?_
    show 0 * 512 + (q.val * 128 + d.val) = 0 * 512 + q.val * 128 + d.val
    omega

theorem v78 (C : FVec Ideal S32x128x2x4x128 .f32) (b : Fin 32) (r : Fin 128) (z : Fin 2) (q : Fin 4) (d : Fin 128) :
    (val_main_v78 (F := Ideal) X N W C : FVec Ideal S32x128x2x4x128 .f32) (ix5 b r z q d)
    = if h : r.val + 1 < 128 then C (ix5 b ⟨r.val + 1, h⟩ z q d)
      else Layer.cache (fun k => X (ix3 b 0 k)) (fun k => N (ix1 k)) (fun k n => W (ix2 k n)) 16384 0 z ⟨q.val * 128 + d.val, by omega⟩ := by
  generalize hR : dite (r.val + 1 < 128) _ _ = R
  pointwise [val_main_v78, val_main_v77]
  subst hR
  by_cases hz : z.val < 1
  · refine (dif_pos hz).trans ?_
    obtain rfl : z = 0 := Fin.ext (by show z.val = 0; omega)
    rw [v75, v69]
    by_cases h : r.val + 1 < 128
    · rw [dif_pos h]
      refine (dif_pos (show 1 + r.val < 128 by omega)).trans ?_
      exact congrArg (fun i => C (ix5 b i 0 q d)) (Fin.ext (show 1 + r.val = r.val + 1 by omega))
    · rw [dif_neg h]
      exact (dif_neg (show ¬ 1 + r.val < 128 by omega)).trans rfl
  · refine (dif_neg hz).trans ?_
    obtain rfl : z = 1 := Fin.ext (by show z.val = 1; omega)
    rw [v76, v74]
    by_cases h : r.val + 1 < 128
    · rw [dif_pos h]
      refine (dif_pos (show 1 + r.val < 128 by omega)).trans ?_
      exact congrArg (fun i => C (ix5 b i 1 q d)) (Fin.ext (show 1 + r.val = r.val + 1 by omega))
    · rw [dif_neg h]
      exact (dif_neg (show ¬ 1 + r.val < 128 by omega)).trans rfl

theorem i89 (b : Fin 32) (t : Fin 513) (z : Fin 1) (q : Fin 4) (d : Fin 128) : idx_main_v89 (ix5 b t z q d) = ix4 b t q d := by
  funext a
  match a with
  | ⟨0, _⟩ => rfl
  | ⟨1, _⟩ => rfl
  | ⟨2, _⟩ => rfl
  | ⟨3, _⟩ => rfl

theorem v89 (C : FVec Ideal S32x512x2x4x128 .f32) (b : Fin 32) (t : Fin 513) (z : Fin 1) (q : Fin 4) (d : Fin 128) :
    val_main_v89 (F := Ideal) X N W C (ix5 b t z q d) = val_main_v83 (F := Ideal) X N W C (ix4 b t q d) := by
  rw [val_main_v89_apply, i89]

theorem i90 (b : Fin 32) (t : Fin 513) (z : Fin 1) (q : Fin 4) (d : Fin 128) : idx_main_v90 (ix5 b t z q d) = ix4 b t q d := by
  funext a
  match a with
  | ⟨0, _⟩ => rfl
  | ⟨1, _⟩ => rfl
  | ⟨2, _⟩ => rfl
  | ⟨3, _⟩ => rfl

theorem v90 (C : FVec Ideal S32x512x2x4x128 .f32) (b : Fin 32) (t : Fin 513) (z : Fin 1) (q : Fin 4) (d : Fin 128) :
    val_main_v90 (F := Ideal) X N W C (ix5 b t z q d) = val_main_v88 (F := Ideal) X N W C (ix4 b t q d) := by
  rw [val_main_v90_apply, i90]

theorem v83 (C : FVec Ideal S32x512x2x4x128 .f32) (b : Fin 32) (t : Fin 513) (q : Fin 4) (d : Fin 128) :
    (val_main_v83 (F := Ideal) X N W C : FVec Ideal S32x513x4x128 .f32) (ix4 b t q d)
    = if h : t.val < 512 then C (ix5 b ⟨t.val, h⟩ 0 q d)
      else Layer.key (fun k => X (ix3 b 0 k)) (fun k => N (ix1 k)) (fun k n => W (ix2 k n)) 16384 ⟨1 * 512 + (q.val * 128 + d.val), by omega⟩ := by
  generalize hR : dite (t.val < 512) _ _ = R
  pointwise [val_main_v83, val_main_v80, val_main_v79, val_main_v82, val_main_v81]
  subst hR
  by_cases h : t.val < 512
  · rw [dif_pos h, dif_pos h]
  · rw [dif_neg h, dif_neg h]
    refine v60 X N W b _ _ _ _ _ ?_
    show 1 * 512 + (q.val * 128 + d.val) = 1 * 512 + q.val * 128 + d.val
    omega

theorem v88 (C : FVec Ideal S32x512x2x4x128 .f32) (b : Fin 32) (t : Fin 513) (q : Fin 4) (d : Fin 128) :
    (val_main_v88 (F := Ideal) X N W C : FVec Ideal S32x513x4x128 .f32) (ix4 b t q d)
    = if h : t.val < 512 then C (ix5 b ⟨t.val, h⟩ 1 q d)
      else Layer.value (fun k => X (ix3 b 0 k)) (fun k => N (ix1 k)) (fun k n => W (ix2 k n)) ⟨1 * 512 + (q.val * 128 + d.val), by omega⟩ := by
  generalize hR : dite (t.val < 512) _ _ = R
  pointwise [val_main_v88, val_main_v85, val_main_v84, val_main_v87, val_main_v86]
  subst hR
  by_cases h : t.val < 512
  · rw [dif_pos h, dif_pos h]
  · rw [dif_neg h, dif_neg h]
    refine v61 X N W b _ _ _ _ _ ?_
    show 1 * 512 + (q.val * 128 + d.val) = 1 * 512 + q.val * 128 + d.val
    omega

theorem v92 (C : FVec Ideal S32x512x2x4x128 .f32) (b : Fin 32) (r : Fin 512) (z : Fin 2) (q : Fin 4) (d : Fin 128) :
    (val_main_v92 (F := Ideal) X N W C : FVec Ideal S32x512x2x4x128 .f32) (ix5 b r z q d)
    = if h : r.val + 1 < 512 then C (ix5 b ⟨r.val + 1, h⟩ z q d)
      else Layer.cache (fun k => X (ix3 b 0 k)) (fun k => N (ix1 k)) (fun k n => W (ix2 k n)) 16384 1 z ⟨q.val * 128 + d.val, by omega⟩ := by
  generalize hR : dite (r.val + 1 < 512) _ _ = R
  pointwise [val_main_v92, val_main_v91]
  subst hR
  by_cases hz : z.val < 1
  · refine (dif_pos hz).trans ?_
    obtain rfl : z = 0 := Fin.ext (by show z.val = 0; omega)
    rw [v89, v83]
    by_cases h : r.val + 1 < 512
    · rw [dif_pos h]
      refine (dif_pos (show 1 + r.val < 512 by omega)).trans ?_
      exact congrArg (fun i => C (ix5 b i 0 q d)) (Fin.ext (show 1 + r.val = r.val + 1 by omega))
    · rw [dif_neg h]
      exact (dif_neg (show ¬ 1 + r.val < 512 by omega)).trans rfl
  · refine (dif_neg hz).trans ?_
    obtain rfl : z = 1 := Fin.ext (by show z.val = 1; omega)
    rw [v90, v88]
    by_cases h : r.val + 1 < 512
    · rw [dif_pos h]
      refine (dif_pos (show 1 + r.val < 512 by omega)).trans ?_
      exact congrArg (fun i => C (ix5 b i 1 q d)) (Fin.ext (show 1 + r.val = r.val + 1 by omega))
    · rw [dif_neg h]
      exact (dif_neg (show ¬ 1 + r.val < 512 by omega)).trans rfl

theorem i103 (b : Fin 32) (t : Fin 2049) (z : Fin 1) (q : Fin 4) (d : Fin 128) : idx_main_v103 (ix5 b t z q d) = ix4 b t q d := by
  funext a
  match a with
  | ⟨0, _⟩ => rfl
  | ⟨1, _⟩ => rfl
  | ⟨2, _⟩ => rfl
  | ⟨3, _⟩ => rfl

theorem v103 (C : FVec Ideal S32x2048x2x4x128 .f32) (b : Fin 32) (t : Fin 2049) (z : Fin 1) (q : Fin 4) (d : Fin 128) :
    val_main_v103 (F := Ideal) X N W C (ix5 b t z q d) = val_main_v97 (F := Ideal) X N W C (ix4 b t q d) := by
  rw [val_main_v103_apply, i103]

theorem i104 (b : Fin 32) (t : Fin 2049) (z : Fin 1) (q : Fin 4) (d : Fin 128) : idx_main_v104 (ix5 b t z q d) = ix4 b t q d := by
  funext a
  match a with
  | ⟨0, _⟩ => rfl
  | ⟨1, _⟩ => rfl
  | ⟨2, _⟩ => rfl
  | ⟨3, _⟩ => rfl

theorem v104 (C : FVec Ideal S32x2048x2x4x128 .f32) (b : Fin 32) (t : Fin 2049) (z : Fin 1) (q : Fin 4) (d : Fin 128) :
    val_main_v104 (F := Ideal) X N W C (ix5 b t z q d) = val_main_v102 (F := Ideal) X N W C (ix4 b t q d) := by
  rw [val_main_v104_apply, i104]

theorem v97 (C : FVec Ideal S32x2048x2x4x128 .f32) (b : Fin 32) (t : Fin 2049) (q : Fin 4) (d : Fin 128) :
    (val_main_v97 (F := Ideal) X N W C : FVec Ideal S32x2049x4x128 .f32) (ix4 b t q d)
    = if h : t.val < 2048 then C (ix5 b ⟨t.val, h⟩ 0 q d)
      else Layer.key (fun k => X (ix3 b 0 k)) (fun k => N (ix1 k)) (fun k n => W (ix2 k n)) 16384 ⟨2 * 512 + (q.val * 128 + d.val), by omega⟩ := by
  generalize hR : dite (t.val < 2048) _ _ = R
  pointwise [val_main_v97, val_main_v94, val_main_v93, val_main_v96, val_main_v95]
  subst hR
  by_cases h : t.val < 2048
  · rw [dif_pos h, dif_pos h]
  · rw [dif_neg h, dif_neg h]
    refine v60 X N W b _ _ _ _ _ ?_
    show 2 * 512 + (q.val * 128 + d.val) = 2 * 512 + q.val * 128 + d.val
    omega

theorem v102 (C : FVec Ideal S32x2048x2x4x128 .f32) (b : Fin 32) (t : Fin 2049) (q : Fin 4) (d : Fin 128) :
    (val_main_v102 (F := Ideal) X N W C : FVec Ideal S32x2049x4x128 .f32) (ix4 b t q d)
    = if h : t.val < 2048 then C (ix5 b ⟨t.val, h⟩ 1 q d)
      else Layer.value (fun k => X (ix3 b 0 k)) (fun k => N (ix1 k)) (fun k n => W (ix2 k n)) ⟨2 * 512 + (q.val * 128 + d.val), by omega⟩ := by
  generalize hR : dite (t.val < 2048) _ _ = R
  pointwise [val_main_v102, val_main_v99, val_main_v98, val_main_v101, val_main_v100]
  subst hR
  by_cases h : t.val < 2048
  · rw [dif_pos h, dif_pos h]
  · rw [dif_neg h, dif_neg h]
    refine v61 X N W b _ _ _ _ _ ?_
    show 2 * 512 + (q.val * 128 + d.val) = 2 * 512 + q.val * 128 + d.val
    omega

theorem v106 (C : FVec Ideal S32x2048x2x4x128 .f32) (b : Fin 32) (r : Fin 2048) (z : Fin 2) (q : Fin 4) (d : Fin 128) :
    (val_main_v106 (F := Ideal) X N W C : FVec Ideal S32x2048x2x4x128 .f32) (ix5 b r z q d)
    = if h : r.val + 1 < 2048 then C (ix5 b ⟨r.val + 1, h⟩ z q d)
      else Layer.cache (fun k => X (ix3 b 0 k)) (fun k => N (ix1 k)) (fun k n => W (ix2 k n)) 16384 2 z ⟨q.val * 128 + d.val, by omega⟩ := by
  generalize hR : dite (r.val + 1 < 2048) _ _ = R
  pointwise [val_main_v106, val_main_v105]
  subst hR
  by_cases hz : z.val < 1
  · refine (dif_pos hz).trans ?_
    obtain rfl : z = 0 := Fin.ext (by show z.val = 0; omega)
    rw [v103, v97]
    by_cases h : r.val + 1 < 2048
    · rw [dif_pos h]
      refine (dif_pos (show 1 + r.val < 2048 by omega)).trans ?_
      exact congrArg (fun i => C (ix5 b i 0 q d)) (Fin.ext (show 1 + r.val = r.val + 1 by omega))
    · rw [dif_neg h]
      exact (dif_neg (show ¬ 1 + r.val < 2048 by omega)).trans rfl
  · refine (dif_neg hz).trans ?_
    obtain rfl : z = 1 := Fin.ext (by show z.val = 1; omega)
    rw [v104, v102]
    by_cases h : r.val + 1 < 2048
    · rw [dif_pos h]
      refine (dif_pos (show 1 + r.val < 2048 by omega)).trans ?_
      exact congrArg (fun i => C (ix5 b i 1 q d)) (Fin.ext (show 1 + r.val = r.val + 1 by omega))
    · rw [dif_neg h]
      exact (dif_neg (show ¬ 1 + r.val < 2048 by omega)).trans rfl

end Cert.StepRefIdeal.Value

end
-- ==== Proof.Claims6.lean ====
/- The claims about the projection of the sample tokens. -/
module

public import proofs.«01_k».proof.Defs
public import proofs.«01_k».proof.Proof.Gen.Step.Frame
public import proofs.«01_k».proof.Proof.Gen.StepIdeal.Frame
public import proofs.«01_k».proof.Proof.Gen.StepRefIdeal.Run
public import proofs.«01_k».proof.Proof.Gen.StepRefIdeal.Read
public import proofs.«01_k».proof.Proof.StepEnds
public import proofs.«01_k».proof.Proof.StepCache
public import proofs.«01_k».proof.Proof.StepRes
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The projection of the sample tokens runs, leaves its arguments as they were and every semaphore at zero. -/
theorem quiescent_Step : Cert.quiescent_Step := fun m g _ => Cert.Step.Gen.frame m g

/-- So does its idealization. -/
theorem quiescent_StepIdeal : Cert.quiescent_StepIdeal := fun m g _ => Cert.StepIdeal.Gen.frame m g

/-- So does the reference. -/
theorem quiescent_StepRefIdeal : Cert.quiescent_StepRefIdeal := fun m g _ =>
  (θ_run Cert.StepRefIdeal.defs _ _).mono
    (fun r h => ⟨fun c => (h c).2.2.2.2, Idealize.ShloMosaic.sem_eq_zero_of_no_sems (by decide) r.2⟩)
    (Cert.StepRefIdeal.Value.run m g)

/-- The idealization changes no operation. -/
theorem preserves_Step : Cert.preserves_Step_StepIdeal := trivial

section Values

open Cert.StepIdeal Cert.StepIdeal.Gen Cert.StepIdeal.Tail

variable (m' : (ℓ : Loc Cert.StepRefIdeal.nD Cert.StepRefIdeal.τ Cert.StepRefIdeal.sig) → Buf (Elt Ideal) ℓ)
  (m : (ℓ : Loc Cert.StepIdeal.nD Cert.StepIdeal.τ Cert.StepIdeal.sig) → Buf (Elt Ideal) ℓ) (ρ : Dev Cert.StepIdeal.nD → PrngReg) (c : Dev Cert.StepIdeal.nD)
  (h₀ : m' ((c.tc : Thread Cert.StepRefIdeal.nD Cert.StepRefIdeal.τ).loc Cert.StepRefIdeal.main_arg0) = m ((c.tc : Thread Cert.StepIdeal.nD Cert.StepIdeal.τ).loc Cert.StepIdeal.main_arg0))
  (h₁ : m' ((c.tc : Thread Cert.StepRefIdeal.nD Cert.StepRefIdeal.τ).loc Cert.StepRefIdeal.main_arg1) = m ((c.tc : Thread Cert.StepIdeal.nD Cert.StepIdeal.τ).loc Cert.StepIdeal.main_arg1))
  (h₂ : m' ((c.tc : Thread Cert.StepRefIdeal.nD Cert.StepRefIdeal.τ).loc Cert.StepRefIdeal.main_arg2) = m ((c.tc : Thread Cert.StepIdeal.nD Cert.StepIdeal.τ).loc Cert.StepIdeal.main_arg2))

include h₀ h₁ h₂

/-- The reference's convolution state is the chain's. -/
theorem conv_Step (h₃ : m' ((c.tc : Thread Cert.StepRefIdeal.nD Cert.StepRefIdeal.τ).loc Cert.StepRefIdeal.main_arg3) = m ((c.tc : Thread Cert.StepIdeal.nD Cert.StepIdeal.τ).loc Cert.StepIdeal.main_arg3)) :
    Cert.StepRefIdeal.Read.val_main_v64 (F := Ideal) (m' ((c.tc : Thread Cert.StepRefIdeal.nD Cert.StepRefIdeal.τ).loc Cert.StepRefIdeal.main_arg0)) (m' ((c.tc : Thread Cert.StepRefIdeal.nD Cert.StepRefIdeal.τ).loc Cert.StepRefIdeal.main_arg1)) (m' ((c.tc : Thread Cert.StepRefIdeal.nD Cert.StepRefIdeal.τ).loc Cert.StepRefIdeal.main_arg2)) (m' ((c.tc : Thread Cert.StepRefIdeal.nD Cert.StepRefIdeal.τ).loc Cert.StepRefIdeal.main_arg3)) = W7 m ρ c (Proc.devRef .tc Cert.StepIdeal.main_v43) := by
  rw [h₀, h₁, h₂, h₃]
  funext j
  obtain ⟨b, r, n, rfl⟩ : ∃ (b : Fin 32) (r : Fin 3) (n : Fin 3072), j = ix3 b r n := ⟨j 0, j 1, j 2, by blk_ext⟩
  refine (Cert.StepRefIdeal.Value.v64 _ _ _ _ b r n).trans ?_
  exact (conv_end m ρ c b r n).symm

/-- The reference's cache of group 0 is the chain's. -/
theorem cache0_Step (h₄ : m' ((c.tc : Thread Cert.StepRefIdeal.nD Cert.StepRefIdeal.τ).loc Cert.StepRefIdeal.main_arg4) = m ((c.tc : Thread Cert.StepIdeal.nD Cert.StepIdeal.τ).loc Cert.StepIdeal.main_arg4)) :
    Cert.StepRefIdeal.Value.res_main_v78 m' c = W7 m ρ c (Proc.devRef .tc Cert.StepIdeal.main_v52) := by
  refine (Cert.StepRefIdeal.Read.val_main_v78_eq m' c).trans ?_
  rw [h₀, h₁, h₂, h₄]
  funext j
  obtain ⟨b, r, z, q, d, rfl⟩ : ∃ (b : Fin 32) (r : Fin 128) (z : Fin 2) (q : Fin 4) (d : Fin 128), j = ix5 b r z q d := ⟨j 0, j 1, j 2, j 3, j 4, by blk_ext⟩
  refine (Cert.StepRefIdeal.Value.v78 _ _ _ _ b r z q d).trans ?_
  exact (cache0_end m ρ c b r z q d).symm

/-- The reference's cache of group 1 is the chain's. -/
theorem cache1_Step (h₅ : m' ((c.tc : Thread Cert.StepRefIdeal.nD Cert.StepRefIdeal.τ).loc Cert.StepRefIdeal.main_arg5) = m ((c.tc : Thread Cert.StepIdeal.nD Cert.StepIdeal.τ).loc Cert.StepIdeal.main_arg5)) :
    Cert.StepRefIdeal.Value.res_main_v92 m' c = W7 m ρ c (Proc.devRef .tc Cert.StepIdeal.main_v61) := by
  refine (Cert.StepRefIdeal.Read.val_main_v92_eq m' c).trans ?_
  rw [h₀, h₁, h₂, h₅]
  funext j
  obtain ⟨b, r, z, q, d, rfl⟩ : ∃ (b : Fin 32) (r : Fin 512) (z : Fin 2) (q : Fin 4) (d : Fin 128), j = ix5 b r z q d := ⟨j 0, j 1, j 2, j 3, j 4, by blk_ext⟩
  refine (Cert.StepRefIdeal.Value.v92 _ _ _ _ b r z q d).trans ?_
  exact (cache1_end m ρ c b r z q d).symm

/-- The reference's cache of group 2 is the chain's. -/
theorem cache2_Step (h₆ : m' ((c.tc : Thread Cert.StepRefIdeal.nD Cert.StepRefIdeal.τ).loc Cert.StepRefIdeal.main_arg6) = m ((c.tc : Thread Cert.StepIdeal.nD Cert.StepIdeal.τ).loc Cert.StepIdeal.main_arg6)) :
    Cert.StepRefIdeal.Value.res_main_v106 m' c = W7 m ρ c (Proc.devRef .tc Cert.StepIdeal.main_v70) := by
  refine (Cert.StepRefIdeal.Read.val_main_v106_eq m' c).trans ?_
  rw [h₀, h₁, h₂, h₆]
  funext j
  obtain ⟨b, r, z, q, d, rfl⟩ : ∃ (b : Fin 32) (r : Fin 2048) (z : Fin 2) (q : Fin 4) (d : Fin 128), j = ix5 b r z q d := ⟨j 0, j 1, j 2, j 3, j 4, by blk_ext⟩
  refine (Cert.StepRefIdeal.Value.v106 _ _ _ _ b r z q d).trans ?_
  exact (cache2_end m ρ c b r z q d).symm

end Values

/-- Over the extended reals the chain's four arrays are the reference's. -/
theorem algebraic_Step : Cert.algebraic_StepIdeal_StepRefIdeal := by
  intro m g m' g' _ hagree
  refine ⟨fun c => Cert.StepIdeal.Gen.W7 m g c (Proc.devRef .tc Cert.StepIdeal.main_v43), fun c => Cert.StepIdeal.Gen.W7 m g c (Proc.devRef .tc Cert.StepIdeal.main_v52), fun c => Cert.StepIdeal.Gen.W7 m g c (Proc.devRef .tc Cert.StepIdeal.main_v61), fun c => Cert.StepIdeal.Gen.W7 m g c (Proc.devRef .tc Cert.StepIdeal.main_v70), ?_, ?_⟩
  · refine (θ_run Cert.StepIdeal.defs _ _).mono (fun r h c => ⟨h c _ (Cert.StepIdeal.Gen.mem_uc Cert.StepIdeal.main_v43 (by decide)), h c _ (Cert.StepIdeal.Gen.mem_uc Cert.StepIdeal.main_v52 (by decide)), h c _ (Cert.StepIdeal.Gen.mem_uc Cert.StepIdeal.main_v61 (by decide)), h c _ (Cert.StepIdeal.Gen.mem_uc Cert.StepIdeal.main_v70 (by decide)),
      (h c _ (Cert.StepIdeal.Gen.mem_uc Cert.StepIdeal.main_arg0 (by decide))).trans (Cert.StepIdeal.Gen.W7_main_arg0 m g c),
      (h c _ (Cert.StepIdeal.Gen.mem_uc Cert.StepIdeal.main_arg1 (by decide))).trans (Cert.StepIdeal.Gen.W7_main_arg1 m g c),
      (h c _ (Cert.StepIdeal.Gen.mem_uc Cert.StepIdeal.main_arg2 (by decide))).trans (Cert.StepIdeal.Gen.W7_main_arg2 m g c),
      (h c _ (Cert.StepIdeal.Gen.mem_uc Cert.StepIdeal.main_arg3 (by decide))).trans (Cert.StepIdeal.Gen.W7_main_arg3 m g c),
      (h c _ (Cert.StepIdeal.Gen.mem_uc Cert.StepIdeal.main_arg4 (by decide))).trans (Cert.StepIdeal.Gen.W7_main_arg4 m g c),
      (h c _ (Cert.StepIdeal.Gen.mem_uc Cert.StepIdeal.main_arg5 (by decide))).trans (Cert.StepIdeal.Gen.W7_main_arg5 m g c),
      (h c _ (Cert.StepIdeal.Gen.mem_uc Cert.StepIdeal.main_arg6 (by decide))).trans (Cert.StepIdeal.Gen.W7_main_arg6 m g c)⟩) (Cert.StepIdeal.Ends.ends m g)
  · refine (θ_run Cert.StepRefIdeal.defs _ _).mono (fun r h c => ?_) (Cert.StepRefIdeal.Value.run m' g')
    obtain ⟨e₀, e₁, e₂, e₃, e₄, e₅, e₆⟩ := hagree c
    obtain ⟨f₀, f₁, f₂, f₃, f₄⟩ := h c
    exact ⟨f₀.trans ((Cert.StepRefIdeal.Read.val_main_v64_eq _ _ _ _).trans (conv_Step m' m g c e₀ e₁ e₂ e₃)), f₁.trans (cache0_Step m' m g c e₀ e₁ e₂ e₄),
      f₂.trans (cache1_Step m' m g c e₀ e₁ e₂ e₅), f₃.trans (cache2_Step m' m g c e₀ e₁ e₂ e₆), f₄⟩

end Cert.Proof

end
-- ==== Proof.lean ====
module

public import proofs.«01_k».proof.Defs
public import proofs.«01_k».proof.Proof.Claims0
public import proofs.«01_k».proof.Proof.Claims1
public import proofs.«01_k».proof.Proof.Claims2
public import proofs.«01_k».proof.Proof.Claims3
public import proofs.«01_k».proof.Proof.Claims4
public import proofs.«01_k».proof.Proof.Claims5
public import proofs.«01_k».proof.Proof.Claims6

@[expose] public section

noncomputable section

namespace Cert.Proof

/-- Everything claimed, conjunct by conjunct. -/
theorem claim : Cert.Claim := ⟨Cert.Swa0.Gen.facts, Cert.Swa0Ideal.Gen.facts, Cert.Attend0Ideal.Gen.facts,
  Cert.Swa1.Gen.facts, Cert.Swa1Ideal.Gen.facts, Cert.Attend1Ideal.Gen.facts,
  Cert.Swa2.Gen.facts, Cert.Swa2Ideal.Gen.facts, Cert.Attend2Ideal.Gen.facts,
  Cert.Proj.Gen.facts, Cert.ProjIdeal.Gen.facts, Cert.ProjRefIdeal.Gen.facts,
  Cert.Mix.Gen.facts, Cert.MixIdeal.Gen.facts, Cert.MixRefIdeal.Gen.facts,
  Cert.Peer.Gen.facts, Cert.PeerIdeal.Gen.facts, Cert.PeerRefIdeal.Gen.facts,
  Cert.Step.Gen.facts, Cert.StepIdeal.Gen.facts, Cert.StepRefIdeal.Gen.facts, facts_finite,
  quiescent_Swa0, quiescent_Swa0Ideal, quiescent_Attend0Ideal,
  quiescent_Swa1, quiescent_Swa1Ideal, quiescent_Attend1Ideal,
  quiescent_Swa2, quiescent_Swa2Ideal, quiescent_Attend2Ideal,
  quiescent_Proj, quiescent_ProjIdeal, quiescent_ProjRefIdeal,
  quiescent_Mix, quiescent_MixIdeal, quiescent_MixIdeal_finite, quiescent_MixRefIdeal, quiescent_MixRefIdeal_finite,
  quiescent_Peer, quiescent_PeerIdeal, quiescent_PeerRefIdeal,
  quiescent_Step, quiescent_StepIdeal, quiescent_StepRefIdeal,
  preserves_Swa0, algebraic_Swa0, preserves_Swa1, algebraic_Swa1, preserves_Swa2, algebraic_Swa2, preserves_Proj, algebraic_Proj,
  preserves_Mix, algebraic_Mix, preserves_Peer, algebraic_Peer, preserves_Step, algebraic_Step⟩

end Cert.Proof

end
